-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 4, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)

variable [Facts]

def fn {F : FTy → Type} [FloatOps F] (main_arg0 : FVec F S512x1024 .f32) (main_arg1 : FVec F S1024x8192 .f32) : IVec S512x1024 1 × IVec S1024x8192 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  (main_v2, main_v5)
-- ==== Pre_finite_ReferenceIdeal.lean ====
abbrev S512x1024 : Shape := ⟨2, ![512, 1024]⟩
abbrev S1024x16384 : Shape := ⟨2, ![1024, 16384]⟩
abbrev S_ : Shape := ⟨0, ![]⟩

class Facts : Prop where
  bcast_S_S512x1024 : S_.BroadcastsInDim S512x1024 (![] : Fin 0 → Fin S512x1024.rank)
  bcast_S_S1024x16384 : S_.BroadcastsInDim S1024x16384 (![] : Fin 0 → Fin S1024x16384.rank)

variable [Facts]

def fn {F : FTy → Type} [FloatOps F] (main_arg0 : FVec F S512x1024 .f32) (main_arg1 : FVec F S1024x16384 .f32) : IVec S512x1024 1 × IVec S1024x16384 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  (main_v2, main_v5)
-- ==== Kernel.lean ====
abbrev S512x1024 : Shape := ⟨2, ![512, 1024]⟩
abbrev S1024x8192 : Shape := ⟨2, ![1024, 8192]⟩
abbrev S512x16384 : Shape := ⟨2, ![512, 16384]⟩
abbrev S512x8192 : Shape := ⟨2, ![512, 8192]⟩
abbrev S2x1024x1024 : Shape := ⟨3, ![2, 1024, 1024]⟩
abbrev S2x512x1024 : Shape := ⟨3, ![2, 512, 1024]⟩
abbrev S2 : Shape := ⟨1, ![2]⟩
abbrev S3 : Shape := ⟨1, ![3]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S512x1 : Shape := ⟨2, ![512, 1]⟩
abbrev S512 : Shape := ⟨1, ![512]⟩
abbrev S1x512x1024 : Shape := ⟨3, ![1, 512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x16384, .bf16⟩
  | .local _ .vmem, ⟨0, _⟩ => ⟨S512x1024, .f32⟩
  | .local _ .vmem, ⟨1, _⟩ => ⟨S512x8192, .bf16⟩
  | .local _ .vmem, ⟨2, _⟩ => ⟨S512x8192, .bf16⟩
  | .local _ .vmem, ⟨3, _⟩ => ⟨S2x1024x1024, .f32⟩
  | .local _ .vmem, ⟨4, _⟩ => ⟨S2x512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) (c0_i32 : BitVec 32) : Fin 2 → Nat :=
  let c0_i32_29 : BitVec 32 := 0#32
  let c2_i32_8 : BitVec 32 := 2#32
  let c2_i32_7 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v14 : BitVec 32 := Scalar.muli c2_i32_7 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v15 : BitVec 32 := Scalar.addi v14 v10
  let v16 : BitVec 32 := Scalar.muli c2_i32_8 v15
  let v33 : BitVec 32 := Scalar.addi c0_i32 v16
  let c8_i32 : BitVec 32 := 8#32
  let c0_i32_20 : BitVec 32 := 0#32
  let v34 : BitVec 1 := Scalar.cmpi .eq c8_i32 c0_i32_20
  let c1_i32_21 : BitVec 32 := 1#32
  let v35 : BitVec 32 := Scalar.select v34 c1_i32_21 c8_i32
  let v36 : BitVec 32 := Scalar.remsi v33 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c1024_i32 : BitVec 32 := 1024#32
  let v44 : BitVec 32 := Scalar.muli v43 c1024_i32
  ![0, v44.toNat]
def k0_dev1 (d0 : Dev nD) : Nat :=
  let c0_i32_32 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_31 : BitVec 32 := 16#32
  let v51 : BitVec 32 := Scalar.muli v11 c16_i32_31
  let v52 : BitVec 32 := Scalar.addi c0_i32_32 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_33 : BitVec 32 := 4#32
  let v53 : BitVec 32 := Scalar.muli v5 c4_i32_33
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v55 : BitVec 32 := Scalar.muli v8 c1_i32_34
  let v56 : BitVec 32 := Scalar.addi v54 v55
  v56.toNat
def k0_dev2 (d0 : Dev nD) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v57 : BitVec 32 := Scalar.muli v2 c16_i32_36
  let v58 : BitVec 32 := Scalar.addi c0_i32_37 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_38 : BitVec 32 := 4#32
  let v59 : BitVec 32 := Scalar.muli v12 c4_i32_38
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v61 : BitVec 32 := Scalar.muli v8 c1_i32_39
  let v62 : BitVec 32 := Scalar.addi v60 v61
  v62.toNat
def k0_dev3 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v63 : BitVec 32 := Scalar.muli v2 c16_i32_41
  let v64 : BitVec 32 := Scalar.addi c0_i32_42 v63
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v65 : BitVec 32 := Scalar.muli v5 c4_i32_43
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.xori v8 c1_i32_6
  let c1_i32_44 : BitVec 32 := 1#32
  let v67 : BitVec 32 := Scalar.muli v13 c1_i32_44
  let v68 : BitVec 32 := Scalar.addi v66 v67
  v68.toNat
def k0_off2 (d0 : Dev nD) (c0_i32_46 : BitVec 32) : Fin 2 → Nat :=
  let c0_77 : Index := 0#32
  let c2_i32_8 : BitVec 32 := 2#32
  let c2_i32_7 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v14 : BitVec 32 := Scalar.muli c2_i32_7 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v15 : BitVec 32 := Scalar.addi v14 v10
  let v16 : BitVec 32 := Scalar.muli c2_i32_8 v15
  let v71 : BitVec 32 := Scalar.addi c0_i32_46 v16
  let c8_i32_47 : BitVec 32 := 8#32
  let c0_i32_48 : BitVec 32 := 0#32
  let v72 : BitVec 1 := Scalar.cmpi .eq c8_i32_47 c0_i32_48
  let c1_i32_49 : BitVec 32 := 1#32
  let v73 : BitVec 32 := Scalar.select v72 c1_i32_49 c8_i32_47
  let v74 : BitVec 32 := Scalar.remsi v71 v73
  let c0_i32_51 : BitVec 32 := 0#32
  let v76 : BitVec 1 := Scalar.cmpi .slt v74 c0_i32_51
  let c0_i32_52 : BitVec 32 := 0#32
  let v77 : BitVec 1 := Scalar.cmpi .slt v73 c0_i32_52
  let v78 : BitVec 1 := Scalar.xori v76 v77
  let c0_i32_50 : BitVec 32 := 0#32
  let v75 : BitVec 1 := Scalar.cmpi .ne v74 c0_i32_50
  let v79 : BitVec 1 := Scalar.andi v78 v75
  let v80 : BitVec 32 := Scalar.addi v74 v73
  let v81 : BitVec 32 := Scalar.select v79 v80 v74
  let c1024_i32_76 : BitVec 32 := 1024#32
  let v111 : BitVec 32 := Scalar.muli v81 c1024_i32_76
  let v112 : Index := Scalar.indexCast v111
  ![0, v112.toNat]
def k0_off3 (d0 : Dev nD) (c0_i32_46 : BitVec 32) : Fin 2 → Nat :=
  let c0_i32_87 : BitVec 32 := 0#32
  let c2_i32_8 : BitVec 32 := 2#32
  let c2_i32_7 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v14 : BitVec 32 := Scalar.muli c2_i32_7 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v15 : BitVec 32 := Scalar.addi v14 v10
  let v16 : BitVec 32 := Scalar.muli c2_i32_8 v15
  let v71 : BitVec 32 := Scalar.addi c0_i32_46 v16
  let c8_i32_47 : BitVec 32 := 8#32
  let c0_i32_48 : BitVec 32 := 0#32
  let v72 : BitVec 1 := Scalar.cmpi .eq c8_i32_47 c0_i32_48
  let c1_i32_49 : BitVec 32 := 1#32
  let v73 : BitVec 32 := Scalar.select v72 c1_i32_49 c8_i32_47
  let v74 : BitVec 32 := Scalar.remsi v71 v73
  let c0_i32_51 : BitVec 32 := 0#32
  let v76 : BitVec 1 := Scalar.cmpi .slt v74 c0_i32_51
  let c0_i32_52 : BitVec 32 := 0#32
  let v77 : BitVec 1 := Scalar.cmpi .slt v73 c0_i32_52
  let v78 : BitVec 1 := Scalar.xori v76 v77
  let c0_i32_50 : BitVec 32 := 0#32
  let v75 : BitVec 1 := Scalar.cmpi .ne v74 c0_i32_50
  let v79 : BitVec 1 := Scalar.andi v78 v75
  let v80 : BitVec 32 := Scalar.addi v74 v73
  let v81 : BitVec 32 := Scalar.select v79 v80 v74
  let c1024_i32_80 : BitVec 32 := 1024#32
  let v120 : BitVec 32 := Scalar.muli v81 c1024_i32_80
  ![0, v120.toNat]
def k0_dev4 (d0 : Dev nD) : Nat :=
  let c0_i32_84 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_83 : BitVec 32 := 16#32
  let v121 : BitVec 32 := Scalar.muli v11 c16_i32_83
  let v122 : BitVec 32 := Scalar.addi c0_i32_84 v121
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_85 : BitVec 32 := 4#32
  let v123 : BitVec 32 := Scalar.muli v5 c4_i32_85
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v125 : BitVec 32 := Scalar.muli v8 c1_i32_86
  let v126 : BitVec 32 := Scalar.addi v124 v125
  v126.toNat
def k0_dev5 (d0 : Dev nD) : Nat :=
  let c0_i32_126 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_125 : BitVec 32 := 16#32
  let v183 : BitVec 32 := Scalar.muli v11 c16_i32_125
  let v184 : BitVec 32 := Scalar.addi c0_i32_126 v183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_127 : BitVec 32 := 4#32
  let v185 : BitVec 32 := Scalar.muli v5 c4_i32_127
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v187 : BitVec 32 := Scalar.muli v8 c1_i32_128
  let v188 : BitVec 32 := Scalar.addi v186 v187
  v188.toNat
def k0_dev6 (d0 : Dev nD) : Nat :=
  let c0_i32_184 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_183 : BitVec 32 := 16#32
  let v266 : BitVec 32 := Scalar.muli v2 c16_i32_183
  let v267 : BitVec 32 := Scalar.addi c0_i32_184 v266
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_185 : BitVec 32 := 4#32
  let v268 : BitVec 32 := Scalar.muli v12 c4_i32_185
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v270 : BitVec 32 := Scalar.muli v8 c1_i32_186
  let v271 : BitVec 32 := Scalar.addi v269 v270
  v271.toNat
def k0_dev7 (d0 : Dev nD) : Nat :=
  let c0_i32_194 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_193 : BitVec 32 := 16#32
  let v280 : BitVec 32 := Scalar.muli v2 c16_i32_193
  let v281 : BitVec 32 := Scalar.addi c0_i32_194 v280
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_195 : BitVec 32 := 4#32
  let v282 : BitVec 32 := Scalar.muli v5 c4_i32_195
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.xori v8 c1_i32_6
  let c1_i32_196 : BitVec 32 := 1#32
  let v284 : BitVec 32 := Scalar.muli v13 c1_i32_196
  let v285 : BitVec 32 := Scalar.addi v283 v284
  v285.toNat
def k0_dev8 (d0 : Dev nD) : Nat :=
  let c0_i32_252 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_251 : BitVec 32 := 16#32
  let v363 : BitVec 32 := Scalar.muli v2 c16_i32_251
  let v364 : BitVec 32 := Scalar.addi c0_i32_252 v363
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_253 : BitVec 32 := 4#32
  let v365 : BitVec 32 := Scalar.muli v12 c4_i32_253
  let v366 : BitVec 32 := Scalar.addi v364 v365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v367 : BitVec 32 := Scalar.muli v8 c1_i32_254
  let v368 : BitVec 32 := Scalar.addi v366 v367
  v368.toNat
def k0_dev9 (d0 : Dev nD) : Nat :=
  let c0_i32_262 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_261 : BitVec 32 := 16#32
  let v377 : BitVec 32 := Scalar.muli v2 c16_i32_261
  let v378 : BitVec 32 := Scalar.addi c0_i32_262 v377
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_263 : BitVec 32 := 4#32
  let v379 : BitVec 32 := Scalar.muli v5 c4_i32_263
  let v380 : BitVec 32 := Scalar.addi v378 v379
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.xori v8 c1_i32_6
  let c1_i32_264 : BitVec 32 := 1#32
  let v381 : BitVec 32 := Scalar.muli v13 c1_i32_264
  let v382 : BitVec 32 := Scalar.addi v380 v381
  v382.toNat
def k0_off4 (d0 : Dev nD) : Fin 2 → Nat :=
  let c0_i32_307 : BitVec 32 := 0#32
  let c2_i32_14 : BitVec 32 := 2#32
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v21 : BitVec 32 := Scalar.muli c2_i32_12 v9
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v22 : BitVec 32 := Scalar.subi c1_i32_13 v10
  let v23 : BitVec 32 := Scalar.addi v21 v22
  let v24 : BitVec 32 := Scalar.muli c2_i32_14 v23
  let c1024_i32_300 : BitVec 32 := 1024#32
  let v438 : BitVec 32 := Scalar.muli v24 c1024_i32_300
  ![0, v438.toNat]
def k0_dev10 (d0 : Dev nD) : Nat :=
  let c0_i32_314 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_313 : BitVec 32 := 16#32
  let v451 : BitVec 32 := Scalar.muli v2 c16_i32_313
  let v452 : BitVec 32 := Scalar.addi c0_i32_314 v451
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.xori v5 c1_i32_5
  let c4_i32_315 : BitVec 32 := 4#32
  let v453 : BitVec 32 := Scalar.muli v12 c4_i32_315
  let v454 : BitVec 32 := Scalar.addi v452 v453
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v455 : BitVec 32 := Scalar.muli v8 c1_i32_316
  let v456 : BitVec 32 := Scalar.addi v454 v455
  v456.toNat
def k0_off5 (d0 : Dev nD) : Fin 2 → Nat :=
  let c0_i32_360 : BitVec 32 := 0#32
  let c2_i32_11 : BitVec 32 := 2#32
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v17 : BitVec 32 := Scalar.subi c1_i32_9 v9
  let v18 : BitVec 32 := Scalar.muli c2_i32_10 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v19 : BitVec 32 := Scalar.addi v18 v10
  let v20 : BitVec 32 := Scalar.muli c2_i32_11 v19
  let c1_i32_351 : BitVec 32 := 1#32
  let v511 : BitVec 32 := Scalar.addi v20 c1_i32_351
  let c1024_i32_353 : BitVec 32 := 1024#32
  let v513 : BitVec 32 := Scalar.muli v511 c1024_i32_353
  ![0, v513.toNat]
def k0_dev11 (d0 : Dev nD) : Nat :=
  let c0_i32_368 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_367 : BitVec 32 := 16#32
  let v527 : BitVec 32 := Scalar.muli v2 c16_i32_367
  let v528 : BitVec 32 := Scalar.addi c0_i32_368 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_369 : BitVec 32 := 4#32
  let v529 : BitVec 32 := Scalar.muli v5 c4_i32_369
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.xori v8 c1_i32_6
  let c1_i32_370 : BitVec 32 := 1#32
  let v531 : BitVec 32 := Scalar.muli v13 c1_i32_370
  let v532 : BitVec 32 := Scalar.addi v530 v531
  v532.toNat
def k0_off6 (d0 : Dev nD) : Fin 2 → Nat :=
  let c0_406 : Index := 0#32
  let c2_i32_8 : BitVec 32 := 2#32
  let c2_i32_7 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v14 : BitVec 32 := Scalar.muli c2_i32_7 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v15 : BitVec 32 := Scalar.addi v14 v10
  let v16 : BitVec 32 := Scalar.muli c2_i32_8 v15
  let c1024_i32_405 : BitVec 32 := 1024#32
  let v587 : BitVec 32 := Scalar.muli v16 c1024_i32_405
  let v588 : Index := Scalar.indexCast v587
  ![0, v588.toNat]
def k0_off7 (d0 : Dev nD) : Fin 2 → Nat :=
  let c0_409 : Index := 0#32
  let c2_i32_14 : BitVec 32 := 2#32
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v21 : BitVec 32 := Scalar.muli c2_i32_12 v9
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v22 : BitVec 32 := Scalar.subi c1_i32_13 v10
  let v23 : BitVec 32 := Scalar.addi v21 v22
  let v24 : BitVec 32 := Scalar.muli c2_i32_14 v23
  let c1024_i32_408 : BitVec 32 := 1024#32
  let v594 : BitVec 32 := Scalar.muli v24 c1024_i32_408
  let v595 : Index := Scalar.indexCast v594
  ![0, v595.toNat]
def k0_off8 (d0 : Dev nD) : Fin 2 → Nat :=
  let c0_433 : Index := 0#32
  let c2_i32_8 : BitVec 32 := 2#32
  let c2_i32_7 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v14 : BitVec 32 := Scalar.muli c2_i32_7 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v15 : BitVec 32 := Scalar.addi v14 v10
  let v16 : BitVec 32 := Scalar.muli c2_i32_8 v15
  let c1_i32_431 : BitVec 32 := 1#32
  let v632 : BitVec 32 := Scalar.addi v16 c1_i32_431
  let c1024_i32_432 : BitVec 32 := 1024#32
  let v633 : BitVec 32 := Scalar.muli v632 c1024_i32_432
  let v634 : Index := Scalar.indexCast v633
  ![0, v634.toNat]
def k0_off9 (d0 : Dev nD) : Fin 2 → Nat :=
  let c0_437 : Index := 0#32
  let c2_i32_11 : BitVec 32 := 2#32
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v17 : BitVec 32 := Scalar.subi c1_i32_9 v9
  let v18 : BitVec 32 := Scalar.muli c2_i32_10 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v19 : BitVec 32 := Scalar.addi v18 v10
  let v20 : BitVec 32 := Scalar.muli c2_i32_11 v19
  let c1_i32_435 : BitVec 32 := 1#32
  let v640 : BitVec 32 := Scalar.addi v20 c1_i32_435
  let c1024_i32_436 : BitVec 32 := 1024#32
  let v641 : BitVec 32 := Scalar.muli v640 c1024_i32_436
  let v642 : Index := Scalar.indexCast v641
  ![0, v642.toNat]
def k0_off10 (d0 : Dev nD) : Fin 2 → Nat :=
  let c0_i32_449 : BitVec 32 := 0#32
  let c2_i32_11 : BitVec 32 := 2#32
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v17 : BitVec 32 := Scalar.subi c1_i32_9 v9
  let v18 : BitVec 32 := Scalar.muli c2_i32_10 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v19 : BitVec 32 := Scalar.addi v18 v10
  let v20 : BitVec 32 := Scalar.muli c2_i32_11 v19
  let c1024_i32_442 : BitVec 32 := 1024#32
  let v651 : BitVec 32 := Scalar.muli v20 c1024_i32_442
  ![0, v651.toNat]
def k0_off11 (d0 : Dev nD) : Fin 2 → Nat :=
  let c0_452 : Index := 0#32
  let c2_i32_11 : BitVec 32 := 2#32
  let c2_i32_10 : BitVec 32 := 2#32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v17 : BitVec 32 := Scalar.subi c1_i32_9 v9
  let v18 : BitVec 32 := Scalar.muli c2_i32_10 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v19 : BitVec 32 := Scalar.addi v18 v10
  let v20 : BitVec 32 := Scalar.muli c2_i32_11 v19
  let c1024_i32_451 : BitVec 32 := 1024#32
  let v662 : BitVec 32 := Scalar.muli v20 c1024_i32_451
  let v663 : Index := Scalar.indexCast v662
  ![0, v663.toNat]
def k0_off12 (d0 : Dev nD) : Fin 2 → Nat :=
  let c0_i32_462 : BitVec 32 := 0#32
  let c2_i32_14 : BitVec 32 := 2#32
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v21 : BitVec 32 := Scalar.muli c2_i32_12 v9
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v22 : BitVec 32 := Scalar.subi c1_i32_13 v10
  let v23 : BitVec 32 := Scalar.addi v21 v22
  let v24 : BitVec 32 := Scalar.muli c2_i32_14 v23
  let c1_i32_439 : BitVec 32 := 1#32
  let v648 : BitVec 32 := Scalar.addi v24 c1_i32_439
  let c1024_i32_455 : BitVec 32 := 1024#32
  let v670 : BitVec 32 := Scalar.muli v648 c1024_i32_455
  ![0, v670.toNat]
def k0_off13 (d0 : Dev nD) : Fin 2 → Nat :=
  let c0_465 : Index := 0#32
  let c2_i32_14 : BitVec 32 := 2#32
  let c2_i32_12 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v21 : BitVec 32 := Scalar.muli c2_i32_12 v9
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v22 : BitVec 32 := Scalar.subi c1_i32_13 v10
  let v23 : BitVec 32 := Scalar.addi v21 v22
  let v24 : BitVec 32 := Scalar.muli c2_i32_14 v23
  let c1_i32_439 : BitVec 32 := 1#32
  let v648 : BitVec 32 := Scalar.addi v24 c1_i32_439
  let c1024_i32_464 : BitVec 32 := 1024#32
  let v681 : BitVec 32 := Scalar.muli v648 c1024_i32_464
  let v682 : Index := Scalar.indexCast v681
  ![0, v682.toNat]
def k0_off14 (d0 : Dev nD) : Fin 2 → Nat :=
  let c0_i32_475 : BitVec 32 := 0#32
  let c2_i32_18 : BitVec 32 := 2#32
  let c2_i32_16 : BitVec 32 := 2#32
  let c1_i32_15 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v25 : BitVec 32 := Scalar.subi c1_i32_15 v9
  let v26 : BitVec 32 := Scalar.muli c2_i32_16 v25
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v27 : BitVec 32 := Scalar.subi c1_i32_17 v10
  let v28 : BitVec 32 := Scalar.addi v26 v27
  let v29 : BitVec 32 := Scalar.muli c2_i32_18 v28
  let c1024_i32_468 : BitVec 32 := 1024#32
  let v689 : BitVec 32 := Scalar.muli v29 c1024_i32_468
  ![0, v689.toNat]
def k0_off15 (d0 : Dev nD) : Fin 2 → Nat :=
  let c0_478 : Index := 0#32
  let c2_i32_18 : BitVec 32 := 2#32
  let c2_i32_16 : BitVec 32 := 2#32
  let c1_i32_15 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v25 : BitVec 32 := Scalar.subi c1_i32_15 v9
  let v26 : BitVec 32 := Scalar.muli c2_i32_16 v25
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v27 : BitVec 32 := Scalar.subi c1_i32_17 v10
  let v28 : BitVec 32 := Scalar.addi v26 v27
  let v29 : BitVec 32 := Scalar.muli c2_i32_18 v28
  let c1024_i32_477 : BitVec 32 := 1024#32
  let v700 : BitVec 32 := Scalar.muli v29 c1024_i32_477
  let v701 : Index := Scalar.indexCast v700
  ![0, v701.toNat]
def k0_off16 (d0 : Dev nD) : Fin 2 → Nat :=
  let c0_i32_488 : BitVec 32 := 0#32
  let c2_i32_18 : BitVec 32 := 2#32
  let c2_i32_16 : BitVec 32 := 2#32
  let c1_i32_15 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v25 : BitVec 32 := Scalar.subi c1_i32_15 v9
  let v26 : BitVec 32 := Scalar.muli c2_i32_16 v25
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v27 : BitVec 32 := Scalar.subi c1_i32_17 v10
  let v28 : BitVec 32 := Scalar.addi v26 v27
  let v29 : BitVec 32 := Scalar.muli c2_i32_18 v28
  let c1_i32_440 : BitVec 32 := 1#32
  let v649 : BitVec 32 := Scalar.addi v29 c1_i32_440
  let c1024_i32_481 : BitVec 32 := 1024#32
  let v708 : BitVec 32 := Scalar.muli v649 c1024_i32_481
  ![0, v708.toNat]
def k0_off17 (d0 : Dev nD) : Fin 2 → Nat :=
  let c0_491 : Index := 0#32
  let c2_i32_18 : BitVec 32 := 2#32
  let c2_i32_16 : BitVec 32 := 2#32
  let c1_i32_15 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.andi v5 c1_i32_2
  let v25 : BitVec 32 := Scalar.subi c1_i32_15 v9
  let v26 : BitVec 32 := Scalar.muli c2_i32_16 v25
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.andi v8 c1_i32_3
  let v27 : BitVec 32 := Scalar.subi c1_i32_17 v10
  let v28 : BitVec 32 := Scalar.addi v26 v27
  let v29 : BitVec 32 := Scalar.muli c2_i32_18 v28
  let c1_i32_440 : BitVec 32 := 1#32
  let v649 : BitVec 32 := Scalar.addi v29 c1_i32_440
  let c1024_i32_490 : BitVec 32 := 1024#32
  let v719 : BitVec 32 := Scalar.muli v649 c1024_i32_490
  let v720 : Index := Scalar.indexCast v719
  ![0, v720.toNat]
def k0_off18 (d0 : Dev nD) (c0_i32_499 : BitVec 32) : Fin 2 → Nat :=
  let c0_i32_502 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v729 : BitVec 32 := Scalar.muli v2 c8192_i32
  let v738 : BitVec 32 := Scalar.addi v729 c0_i32_499
  ![0, v738.toNat]
def k0_off19 (d0 : Dev nD) (c0_i32_512 : BitVec 32) : Fin 2 → Nat :=
  let c0_i32_515 : BitVec 32 := 0#32
  let c1_i32_505 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v744 : BitVec 32 := Scalar.subi c1_i32_505 v2
  let c8192_i32_506 : BitVec 32 := 8192#32
  let v745 : BitVec 32 := Scalar.muli v744 c8192_i32_506
  let v754 : BitVec 32 := Scalar.addi v745 c0_i32_512
  ![0, v754.toNat]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x16384 : Shape := ⟨2, ![512, 16384]⟩
abbrev S_ : Shape := ⟨0, ![]⟩
abbrev S512 : Shape := ⟨1, ![512]⟩
abbrev S512x1 : Shape := ⟨2, ![512, 1]⟩

abbrev nBuf : Space → Nat
  | .hbm => 15
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x16384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x16384, .f32⟩
  | .hbm, ⟨7, _⟩ => ⟨S512x16384, .f32⟩
  | .hbm, ⟨8, _⟩ => ⟨S512x16384, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x16384, .f32⟩
  | .hbm, ⟨13, _⟩ => ⟨S512x16384, .f32⟩
  | .hbm, ⟨14, _⟩ => ⟨S512x16384, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Common.lean ====
/-
# The exchange: devices, cells, contents, schedule and levels

The 32 devices sit at coordinates `(x, y, z)` of a 2 × 4 × 4 mesh, device `c` at `(c / 16, c / 4 % 4, c % 4)`. Each device
works with three others: the one across x (`px`), the one with the low bit of y flipped (`py`) and the one with the low
bit of z flipped (`pz`). Three signals open the barrier of every device; then eight copies (`Fin 8`) leave it, each of one
chunk of 1024 columns: copies 0, 1 from the send buffer across x, copies 2, 3, 4 from the receive buffer along y and
copies 5, 6, 7 along z. Chunk `cpy c k` of the sender lands on the same chunk of the receiver.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's rounds (duties `Fin 3`), the counters of local transfers -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := Emb.inl.trans embR
abbrev EC : UEmb Counters (MT nD τ sig Unit (Elt F) ℕ UU ℕ) := countersEmb

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The devices -/

set_option backward.proofsInPublic true in
def px (c : Dev nD) : Dev nD := ⟨(c.val + 16) % 32, Nat.mod_lt _ (by decide)⟩
set_option backward.proofsInPublic true in
def py (c : Dev nD) : Dev nD := ⟨(c.val / 8 * 8 + (c.val + 4) % 8) % 32, Nat.mod_lt _ (by decide)⟩
set_option backward.proofsInPublic true in
def pz (c : Dev nD) : Dev nD := ⟨(c.val / 2 * 2 + (c.val + 1) % 2) % 32, Nat.mod_lt _ (by decide)⟩

/-- The device the signal `a` goes to. -/
def pr (c : Dev nD) : Fin 3 → Dev nD := ![px c, py c, pz c]
/-- The device copy `k` goes to. -/
def peer (c : Dev nD) : Fin 8 → Dev nD := ![px c, px c, py c, py c, py c, pz c, pz c, pz c]

theorem pr_pr (c : Dev nD) (a : Fin 3) : pr (pr c a) a = c := by revert c a; decide +kernel
theorem peer_peer (c : Dev nD) (k : Fin 8) : peer (peer c k) k = c := by revert c k; decide +kernel

/-- The first chunk a device sends across x: its quarter, by the low bits of y and z. -/
def off0 (c : Dev nD) : ℕ := 2 * (2 * (c.val / 4 % 2) + c.val % 2)

/-- The chunk copy `k` leaves device `c` from; it lands on the same chunk. -/
def cpy (c : Dev nD) (k : Fin 8) : Fin 8 :=
  Fin.ofNat 8 ((![off0 c, off0 c + 1, off0 c, off0 c + 1, off0 (pz c), off0 c, off0 c + 1, off0 (py c) + 1] : Fin 8 → ℕ) k)
/-- The chunk of device `c` that copy `k` of its peer lands on. -/
def lnd (c : Dev nD) (k : Fin 8) : Fin 8 := cpy (peer c k) k
/-- The chunk device `c` computes at step `i`. -/
def ch (c : Dev nD) (i : Fin 8) : Fin 8 := Fin.ofNat 8 (i.val + off0 c)
/-- The device whose product chunk `j` of device `c`'s receive buffer ends holding. -/
def orig (c : Dev nD) (j : Fin 8) : Dev nD :=
  Fin.ofNat 32 ((c.val + 16) % 32 / 16 * 16 + c.val % 16 / 8 * 8 + j.val / 4 * 4 + c.val % 4 / 2 * 2 + j.val / 2 % 2)

theorem lnd_peer (c : Dev nD) (k : Fin 8) : lnd (peer c k) k = cpy c k := by unfold lnd; rw [peer_peer]
theorem lnd_inj (c : Dev nD) : Function.Injective (lnd c) := by revert c; decide +kernel
theorem ch_inj (c : Dev nD) : Function.Injective (ch c) := by revert c; decide +kernel
theorem orig_px (c : Dev nD) (k : Fin 8) (hk : k.val < 2) : orig (peer c k) (cpy c k) = c := by revert c k; decide +kernel
theorem orig_fwd (c : Dev nD) (k : Fin 8) (hk : ¬ k.val < 2) : orig (peer c k) (cpy c k) = orig c (cpy c k) := by revert c k; decide +kernel

/-! ## Chunks of the buffers -/

/-- The offset of chunk `j` along the columns. -/
def cOff (j : Fin 8) : Fin 2 → ℕ := ![0, 1024 * j.val]

theorem cOff_inb (j : Fin 8) : ∀ a, cOff j a + S512x1024.size a ≤ S512x8192.size a := by revert j; decide +kernel
theorem cOff_inbW (j : Fin 8) : ∀ a, cOff j a + S1024x1024.size a ≤ S1024x8192.size a := by revert j; decide +kernel

abbrev sBufM : Memref sig .tc .vmem S512x8192 .bf16 := Memref.whole cc0_scratch0
abbrev rBufM : Memref sig .tc .vmem S512x8192 .bf16 := Memref.whole cc0_scratch1
abbrev wStM : Memref sig .tc .vmem S2x1024x1024 .f32 := Memref.whole cc0_scratch2
abbrev oStM : Memref sig .tc .vmem S2x512x1024 .bf16 := Memref.whole cc0_scratch3
abbrev xM : Memref sig .tc .vmem S512x1024 .f32 := Memref.whole cc0_stg0_0
abbrev wM : Memref sig .tc .hbm S1024x8192 .f32 := Memref.whole main_arg1
abbrev yM : Memref sig .tc .hbm S512x16384 .bf16 := Memref.whole main_v1

abbrev ckS (off : Fin 2 → ℕ) (h : ∀ a, off a + S512x1024.size a ≤ S512x8192.size a) : Memref sig .tc .vmem S512x1024 .bf16 :=
  sBufM.slice (Rect.unit (s := S512x8192) off S512x1024.size h) (fun _ => rfl)
abbrev ckR (off : Fin 2 → ℕ) (h : ∀ a, off a + S512x1024.size a ≤ S512x8192.size a) : Memref sig .tc .vmem S512x1024 .bf16 :=
  rBufM.slice (Rect.unit (s := S512x8192) off S512x1024.size h) (fun _ => rfl)
abbrev ckW (off : Fin 2 → ℕ) (h : ∀ a, off a + S1024x1024.size a ≤ S1024x8192.size a) : Memref sig .tc .hbm S1024x1024 .f32 :=
  wM.slice (Rect.unit (s := S1024x8192) off S1024x1024.size h) (fun _ => rfl)
abbrev ckY (off : Fin 2 → ℕ) (h : ∀ a, off a + S512x1024.size a ≤ S512x16384.size a) : Memref sig .tc .hbm S512x1024 .bf16 :=
  yM.slice (Rect.unit (s := S512x16384) off S512x1024.size h) (fun _ => rfl)
abbrev slW (off : Fin 3 → ℕ) (h : ∀ a, off a + S1x1024x1024.size a ≤ S2x1024x1024.size a) : Memref sig .tc .vmem S1x1024x1024 .f32 :=
  wStM.slice (Rect.unit (s := S2x1024x1024) off S1x1024x1024.size h) (fun _ => rfl)
abbrev slO (off : Fin 3 → ℕ) (h : ∀ a, off a + S1x512x1024.size a ≤ S2x512x1024.size a) : Memref sig .tc .vmem S1x512x1024 .bf16 :=
  oStM.slice (Rect.unit (s := S2x512x1024) off S1x512x1024.size h) (fun _ => rfl)

/-- Chunk `j` of device `c`'s send buffer, of its receive buffer, of its block of `W`, held at a share with contents. -/
def sendP (c : Dev nD) (j : Fin 8) (q : PosShare TreeShare) (X : Vec F S512x1024 .bf16) : sProp 𝕄 :=
  owns (c : Thread nD τ) (ckS (cOff j) (cOff_inb j)) q X
def recvP (c : Dev nD) (j : Fin 8) (q : PosShare TreeShare) (X : Vec F S512x1024 .bf16) : sProp 𝕄 :=
  owns (c : Thread nD τ) (ckR (cOff j) (cOff_inb j)) q X
def wP (c : Dev nD) (j : Fin 8) (X : Vec F S1024x1024 .f32) : sProp 𝕄 :=
  owns (c : Thread nD τ) (ckW (cOff j) (cOff_inbW j)) fullShare X

instance sendP_storable (c : Dev nD) (j : Fin 8) (q) (X) : BI.Storable (upEmb : UEmb _ 𝕄) (sendP (F := F) c j q X) := by unfold sendP owns; infer_instance
instance recvP_storable (c : Dev nD) (j : Fin 8) (q) (X) : BI.Storable (upEmb : UEmb _ 𝕄) (recvP (F := F) c j q X) := by unfold recvP owns; infer_instance

/-! ## Contents -/

/-- The block of `x` the pipeline stages on device `c`. -/
def xstg (c : Dev nD) : Vec F S512x1024 .f32 :=
  (win0_0.blk (0 : Fin 1)).view.read (Elt F) ((s₀ m ρ).mem ((c : Thread nD τ).loc main_arg0))
/-- The staged block as the products take it. -/
def xv (c : Dev nD) : FVec F S512x1024 .bf16 := k0_pay1 (xstg m ρ c)
/-- Chunk `j` of device `c`'s block of `W`. -/
def wch (c : Dev nD) (j : Fin 8) : Vec F S1024x1024 .f32 :=
  (ckW (cOff j) (cOff_inbW j)).view.read (Elt F) (m ((c : Thread nD τ).loc main_arg1))
theorem numel_w : S1024x1024.numel = S1x1024x1024.numel := by decide
theorem numel_o : S1x512x1024.numel = S512x1024.numel := by decide
/-- The same as a staging slot holds it. -/
def wst (c : Dev nD) (j : Fin 8) : Vec F S1x1024x1024 .f32 := shapeCast S1x1024x1024 (wch m c j) numel_w
/-- The exponentials of chunk `j` of device `c`'s logits, as stored. -/
def ebf (c : Dev nD) (j : Fin 8) : FVec F S512x1024 .bf16 := k0_pay5 (xv m ρ c) (wst m c j)
/-- What chunk `j` of device `c`'s receive buffer ends holding. -/
def rv (c : Dev nD) (j : Fin 8) : FVec F S512x1024 .bf16 := ebf m ρ (orig c j) j

/-! ## The cells -/

/-- The barrier semaphore, not scoped to the launch. -/
abbrev barS : Sem sig := (SemArray.scalar (sig.barrier 0 rfl) : Sems sig S_).sem
def sS : Fin 8 → DmaSem sig := ![5, 6, 9, 10, 11, 15, 16, 17]
def rS : Fin 8 → DmaSem sig := ![7, 8, 12, 13, 14, 18, 19, 20]

/-- The names of a device's seventeen cells: the barrier; the send cell and the receive cell of each copy. -/
abbrev CI : Type := Option (Bool × Fin 8)
def csem : CI → SemLoc sig
  | none => .reg barS
  | some (false, k) => .dma (sS k)
  | some (true, k) => .dma (rS k)
abbrev kcell (ci : Dev nD × CI) : GSem nD τ sig := ((ci.1 : Thread nD τ), csem ci.2)
abbrev barC (c : Dev nD) : GSem nD τ sig := ((c : Thread nD τ), .reg barS)
abbrev sndC (c : Dev nD) (k : Fin 8) : GSem nD τ sig := ((c : Thread nD τ), .dma (sS k))
abbrev rcvC (c : Dev nD) (k : Fin 8) : GSem nD τ sig := ((c : Thread nD τ), .dma (rS k))

/-- Which of the cells a semaphore is. -/
def kind : SemLoc sig → Option CI
  | .reg _ => some none
  | .dma q => (![none, none, none, none, none, some (some (false, 0)), some (some (false, 1)), some (some (true, 0)), some (some (true, 1)),
      some (some (false, 2)), some (some (false, 3)), some (some (false, 4)), some (some (true, 2)), some (some (true, 3)), some (some (true, 4)),
      some (some (false, 5)), some (some (false, 6)), some (some (false, 7)), some (some (true, 5)), some (some (true, 6)), some (some (true, 7))] : Fin 21 → Option CI) q

theorem kind_csem (i : CI) : kind (csem i) = some i := by revert i; decide +kernel
theorem kind_bar : kind (.reg barS) = some none := rfl
theorem kind_snd (k : Fin 8) : kind (.dma (sS k)) = some (some (false, k)) := kind_csem (some (false, k))
theorem kind_rcv (k : Fin 8) : kind (.dma (rS k)) = some (some (true, k)) := kind_csem (some (true, k))

/-- The credit of one copy. -/
abbrev N : ℕ := (ckR (cOff 0) (cOff_inb 0)).view.dmaCredit
theorem N_pos : 0 < N := View.dmaCredit_pos _ (by decide)

/-! ## The schedule -/

/-- The share copy `k` reads its source at; the rest stays with the device, which reads the chunk meanwhile. -/
def lent (k : Fin 8) : PosShare TreeShare := if k.val = 5 ∨ k.val = 6 then fullShare.right.left else fullShare.left

/-- The chunk copy `k` of device `c` needs at its peer. -/
def dstP (c : Dev nD) (k : Fin 8) : sProp 𝕄 := iprop(∃ X, recvP (peer c k) (cpy c k) fullShare X)
/-- What the barrier unit from `pr c a` hands device `c`: the chunks its copies to it land on. -/
def barPay (c : Dev nD) (a : Fin 3) : sProp 𝕄 := match a with
  | 0 => iprop(dstP c 0 ∗ dstP c 1)
  | 1 => iprop(dstP c 2 ∗ dstP c 3 ∗ dstP c 4)
  | 2 => iprop(dstP c 5 ∗ dstP c 6 ∗ dstP c 7)
/-- What copy `k` hands back to its sender: the share of the source it read. -/
def sndPay (c : Dev nD) (k : Fin 8) : sProp 𝕄 :=
  if k.val < 2 then sendP c (cpy c k) (lent k) (ebf m ρ c (cpy c k)) else recvP c (cpy c k) (lent k) (rv m ρ c (cpy c k))
/-- What copy `k` of its peer hands device `c`: the chunk, landed. -/
def rcvPay (c : Dev nD) (k : Fin 8) : sProp 𝕄 := recvP c (lnd c k) fullShare (rv m ρ c (lnd c k))

def payOf (c : Dev nD) (i : Option CI) (a : Fin 3) : sProp 𝕄 := match i with
  | none => iprop(emp)
  | some none => barPay c a
  | some (some (false, k)) => sndPay m ρ c k
  | some (some (true, k)) => rcvPay m ρ c k

/-- One round: a barrier cell has three duties of one unit, a send or receive cell one of the copy's credit. -/
def Rd : Rounds.Schedule (GSem nD τ sig) (Fin 3) 𝕄 where
  duties g r := if r = 0 ∧ g.1.2 = .tc then (match kind g.2 with | none => ∅ | some none => Finset.univ | some (some _) => {0}) else ∅
  unitless _ := False
  amount g _ _ := if kind g.2 = some none then 1 else N
  payload g _ a := payOf m ρ g.1.1 (kind g.2) a
  amount_pos g _ _ _ := by
    by_cases h : kind g.2 = some none
    · rw [if_pos h]; exact Nat.one_pos
    · rw [if_neg h]; exact N_pos

instance dstP_storable (c : Dev nD) (k : Fin 8) : BI.Storable (upEmb : UEmb _ 𝕄) (dstP (F := F) c k) := by unfold dstP; infer_instance
instance barPay_storable (c : Dev nD) (a : Fin 3) : BI.Storable (upEmb : UEmb _ 𝕄) (barPay (F := F) c a) := by
  unfold barPay; fin_cases a <;> infer_instance
instance sndPay_storable (c : Dev nD) (k : Fin 8) : BI.Storable (upEmb : UEmb _ 𝕄) (sndPay (F := F) m ρ c k) := by
  unfold sndPay; split <;> infer_instance
instance rcvPay_storable (c : Dev nD) (k : Fin 8) : BI.Storable (upEmb : UEmb _ 𝕄) (rcvPay (F := F) m ρ c k) := by
  unfold rcvPay; infer_instance
instance Rd_payload_storable (g : GSem nD τ sig) (r : ℕ) (a : Fin 3) : BI.Storable (upEmb : UEmb _ 𝕄) ((Rd (F := F) m ρ).payload g r a) := by
  show BI.Storable upEmb (payOf m ρ g.1.1 (kind g.2) a)
  rcases kind g.2 with _ | _ | ⟨_ | _, k⟩ <;> unfold payOf <;> infer_instance

section Sched
variable (c : Dev nD) (k : Fin 8) (a : Fin 3)

theorem duties_bar : (Rd (F := F) m ρ).duties (barC c) 0 = Finset.univ := by
  dsimp only [Rd]; rw [if_pos ⟨rfl, rfl⟩, kind_bar]
theorem duties_snd : (Rd (F := F) m ρ).duties (sndC c k) 0 = {0} := by
  dsimp only [Rd]; rw [if_pos ⟨rfl, rfl⟩, kind_snd]
theorem duties_rcv : (Rd (F := F) m ρ).duties (rcvC c k) 0 = {0} := by
  dsimp only [Rd]; rw [if_pos ⟨rfl, rfl⟩, kind_rcv]
theorem duties_later (g : GSem nD τ sig) : ∀ r, 1 ≤ r → (Rd (F := F) m ρ).duties g r = ∅ :=
  fun r hr => by dsimp only [Rd]; rw [if_neg fun h => by omega]
theorem amount_bar : (Rd (F := F) m ρ).amount (barC c) 0 a = 1 := by dsimp only [Rd]; exact if_pos kind_bar
theorem amount_snd : (Rd (F := F) m ρ).amount (sndC c k) 0 a = N := by dsimp only [Rd]; rw [kind_snd]; exact if_neg (fun h => by cases h)
theorem amount_rcv : (Rd (F := F) m ρ).amount (rcvC c k) 0 a = N := by dsimp only [Rd]; rw [kind_rcv]; exact if_neg (fun h => by cases h)
theorem payload_bar : (Rd (F := F) m ρ).payload (barC c) 0 a = barPay c a := by dsimp only [Rd]; rw [kind_bar]; rfl
theorem payload_snd : (Rd (F := F) m ρ).payload (sndC c k) 0 a = sndPay m ρ c k := by dsimp only [Rd]; rw [kind_snd]; rfl
theorem payload_rcv : (Rd (F := F) m ρ).payload (rcvC c k) 0 a = rcvPay m ρ c k := by dsimp only [Rd]; rw [kind_rcv]; rfl
theorem expect_bar : (Rd (F := F) m ρ).expect (barC c) 0 = 3 := by
  unfold Schedule.expect Schedule.amountOf
  rw [duties_bar, Finset.sum_congr rfl fun d _ => amount_bar m ρ c d, Finset.sum_const, Finset.card_univ, Fintype.card_fin, smul_eq_mul]
theorem expect_snd : (Rd (F := F) m ρ).expect (sndC c k) 0 = N := by
  unfold Schedule.expect Schedule.amountOf; rw [duties_snd, Finset.sum_singleton, amount_snd]
theorem expect_rcv : (Rd (F := F) m ρ).expect (rcvC c k) 0 = N := by
  unfold Schedule.expect Schedule.amountOf; rw [duties_rcv, Finset.sum_singleton, amount_rcv]
theorem rest_bar : bigSep ((Rd (F := F) m ρ).duties (barC c) 0 \ ∅) (fun d => (Rd (F := F) m ρ).payload (barC c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_snd : bigSep ((Rd (F := F) m ρ).duties (sndC c k) 0 \ ∅) (fun d => (Rd (F := F) m ρ).payload (sndC c k) 0 d) = sndPay m ρ c k := by
  rw [Finset.sdiff_empty, duties_snd, bigSep_singleton, payload_snd]
theorem rest_rcv : bigSep ((Rd (F := F) m ρ).duties (rcvC c k) 0 \ ∅) (fun d => (Rd (F := F) m ρ).payload (rcvC c k) 0 d) = rcvPay m ρ c k := by
  rw [Finset.sdiff_empty, duties_rcv, bigSep_singleton, payload_rcv]

end Sched

/-! ## What a device owes; the levels -/

/-- The payments a device makes to others' cells: signal `a`, copy `k`. -/
abbrev Pm : Type := Fin 3 ⊕ Fin 8
def psem : Pm → SemLoc sig
  | .inl _ => .reg barS
  | .inr k => .dma (rS k)
def pcell (c : Dev nD) : Pm → GSem nD τ sig
  | .inl a => barC (pr c a)
  | .inr k => rcvC (peer c k) k
def pamt : Pm → ℕ
  | .inl _ => 1
  | .inr _ => N

theorem pcell_snd (c : Dev nD) (p : Pm) : (pcell c p).2 = psem p := by rcases p with _ | _ <;> rfl
theorem pcell_tc (c : Dev nD) (p : Pm) : (pcell c p).1.2 = .tc := by rcases p with _ | _ <;> rfl

/-- The debt of the payments in `l`, the first of them last to be added. -/
def tal (c : Dev nD) : List Pm → CellTallies nD τ sig Unit
  | [] => 0
  | p :: l => tal c l + tallyAt (pcell c p) () (pamt p)

/-- The payments in program order. -/
def plan : List Pm := [.inl 0, .inl 1, .inl 2, .inr 0, .inr 1, .inr 2, .inr 5, .inr 3, .inr 6, .inr 4, .inr 7]

def ow (c : Dev nD) (l : List Pm) : sProp 𝕄 := iprop(∃ W : Waits sig Unit, owes (c : Thread nD τ) (tal c l) W)

def L (g : GSem nD τ sig) : Finset Unit := if g.1.2 = .tc then {()} else ∅
/-- Barrier cells at 1; receive cells of the copies across x at 2, of the first forwarded copies at 3, of the copies that
    forward those at 4; everything else at 0. -/
def lvs (sm : SemLoc sig) : ℕ := match kind sm with
  | some none => 1
  | some (some (true, k)) => if k.val < 2 then 2 else if k.val = 4 ∨ k.val = 7 then 4 else 3
  | _ => 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem tal_pos {c : Dev nD} {g : GSem nD τ sig} {u : Unit} : ∀ {l : List Pm}, 0 < tal c l g u → ∃ p ∈ l, g = pcell c p
  | [], h => absurd h (Nat.lt_irrefl 0)
  | p :: l, h => by
    unfold tal at h
    rw [Pi.add_apply, Finsupp.add_apply, tallyAt_apply] at h
    by_cases hg : g = pcell c p
    · exact ⟨p, List.mem_cons_self, hg⟩
    · rw [if_neg (fun h' => hg h'.1), Nat.add_zero] at h
      obtain ⟨p', hp', h'⟩ := tal_pos h
      exact ⟨p', List.mem_cons_of_mem _ hp', h'⟩

/-- A wait on a semaphore below every cell still owed is allowed. -/
theorem mayWait (c : Dev nD) (sm : SemLoc sig) (l : List Pm) (h : ∀ p ∈ l, lvs sm < lvs (psem p)) :
    (levAts L lv : sProp 𝕄) ⊢ MayWait (c : Thread nD τ) sm () (tal c l) :=
  MayOwe.of_cut (L := L) (lev := lv) (lvs sm) (fun p hp => by rw [Finset.mem_singleton.mp hp, L_tc]; exact Finset.mem_singleton_self _)
    (fun g u hg => by
      obtain ⟨p, _, rfl⟩ := tal_pos hg
      unfold L; rw [if_pos (pcell_tc c p)]; exact Finset.mem_singleton_self _)
    (fun p hp => by rw [Finset.mem_singleton.mp hp]; exact le_rfl)
    (fun g u hg => by
      obtain ⟨p, hp, rfl⟩ := tal_pos hg
      unfold lv; rw [pcell_snd]; exact h p hp)

/-! ## The records -/

/-- Every cell's invariant and its reached mark at round 0, and the levels: what every step may use. -/
def records (K : Dev nD × CI → ℕ) : sProp 𝕄 :=
  iprop((bigSep Finset.univ fun ci : Dev nD × CI => cellInv ER (Rd m ρ) (K ci) (kcell ci))
    ∗ (bigSep Finset.univ fun ci : Dev nD × CI => reached ER (kcell ci) 0) ∗ levAts L lv)

instance records_persistent (K : Dev nD × CI → ℕ) : BI.Persistent (records m ρ K) := by unfold records; infer_instance

variable (K : Dev nD × CI → ℕ)

theorem inv_at (ci : Dev nD × CI) : records m ρ K ⊢ cellInv ER (Rd m ρ) (K ci) (kcell ci) := by
  unfold records; iintro ⟨H, -, -⟩
  iapply (show (bigSep Finset.univ fun ci : Dev nD × CI => (cellInv ER (Rd m ρ) (K ci) (kcell ci) : sProp 𝕄)) ⊢ cellInv ER (Rd m ρ) (K ci) (kcell ci) from
    bigSep_elim (Finset.mem_univ ci))
  iexact H
theorem reached_at (ci : Dev nD × CI) : records m ρ K ⊢ reached ER (kcell ci) 0 := by
  unfold records; iintro ⟨-, H, -⟩
  iapply (show (bigSep Finset.univ fun ci : Dev nD × CI => (reached ER (kcell ci) 0 : sProp 𝕄)) ⊢ reached ER (kcell ci) 0 from
    bigSep_elim (Finset.mem_univ ci))
  iexact H
theorem mayWaitR (c : Dev nD) (sm : SemLoc sig) (l : List Pm) (h : ∀ p ∈ l, lvs sm < lvs (psem p)) :
    records m ρ K ⊢ MayWait (c : Thread nD τ) sm () (tal c l) := by
  unfold records
  iintro ⟨-, -, H⟩
  iapply (mayWait (F := F) c sm l h)
  iexact H

end Cert.KProof
-- ==== Proof.Steps.lean ====
/-
# One rule per effect of the kernel

Each theorem says what one effect at the head of the program takes and what the rest of the program then has, over the
chunk predicates of `Common`. Offsets, devices and semaphores are variables with an equation each, substituted away.
-/
module

public import proofs.«01_k».proof.Proof.Common

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

abbrev 𝒱₀ : Variants := Variants.none

/-- The weakest precondition of a program run by device `c`'s core in this launch. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Chunks at a computed offset -/

theorem sendP_at {c : Dev nD} {j : Fin 8} {off} (h) (hoff : off = cOff j) (q) (X : Vec F S512x1024 .bf16) :
    sendP c j q X = (owns (c : Thread nD τ) (ckS off h) q X : sProp 𝕄) := by subst hoff; rfl
theorem recvP_at {c : Dev nD} {j : Fin 8} {off} (h) (hoff : off = cOff j) (q) (X : Vec F S512x1024 .bf16) :
    recvP c j q X = (owns (c : Thread nD τ) (ckR off h) q X : sProp 𝕄) := by subst hoff; rfl
theorem wP_at {c : Dev nD} {j : Fin 8} {off} (h) (hoff : off = cOff j) (X : Vec F S1024x1024 .f32) :
    wP c j X = (owns (c : Thread nD τ) (ckW off h) fullShare X : sProp 𝕄) := by subst hoff; rfl

section Steps

variable (c : Dev nD) {α : Type} {Q : α → sProp (MT nD τ sig Unit (Elt F) ℕ UU ℕ)}

/-! ## Loads and stores -/

theorem st_load {cs : CoreSpace} {s : Shape} {e : EltTy} {M : Memref sig .tc cs s e} {r : Rect s} (hr : ∀ a, r.stride a = 1)
    {hl : M.view.LoadsAt r.toLoadRect} {k : (r.shape.Idx → Elt F e) → Prog (TpuEff nD τ sig (Elt F) Λ₀ .tc) α} (q) (X : r.shape.Idx → Elt F e) :
    owns (c : Thread nD τ) (M.slice r hr) q X
      ⊢ iprop((owns (c : Thread nD τ) (M.slice r hr) q X -∗ WP c (k X) Q) -∗ WP c (.op (.load M r.toLoadRect hl) k) Q) := by
  unfold owns
  iintro ⟨%f, %hf, H⟩ Hk
  subst hf
  iapply (wp_load_rect 𝒱₀ (c : Thread nD τ) none Set.univ (m := M) (r := r) (S := (M.slice r hr).view.set) (Finset.Subset.refl _)) $$ H
  iintro H
  iapply Hk
  iexists f; isplitr; · ipureintro; rfl
  iexact H

theorem st_store {cs : CoreSpace} {s : Shape} {e : EltTy} {M : Memref sig .tc cs s e} {r : Rect s} (hr : ∀ a, r.stride a = 1)
    {w : r.shape.Idx → Elt F e} {hx : (M.access r).Stores Finset.univ} {hm}
    {k : PUnit → Prog (TpuEff nD τ sig (Elt F) Λ₀ .tc) α} :
    iprop(∃ X, owns (c : Thread nD τ) (M.slice r hr) fullShare X)
      ⊢ iprop((owns (c : Thread nD τ) (M.slice r hr) fullShare w -∗ WP c (k ⟨⟩) Q) -∗ WP c (.op (.store M r w Finset.univ hx hm) k) Q) := by
  unfold owns
  iintro ⟨%X, %f, %hf, H⟩ Hk
  iapply (wp_store 𝒱₀ (c : Thread nD τ) none Set.univ (m := M) (r := r) (Mk := Finset.univ) (S := (M.slice r hr).view.set)
    (Finset.Subset.trans (Finset.subset_of_eq (View.setOn_univ _)) (Finset.Subset.refl _))) $$ H
  iintro H
  iapply Hk
  iexists _; isplitr
  swap
  · iexact H
  · ipureintro; exact View.read_write_univ _ _

/-- A load of a send chunk, whatever it holds. -/
theorem st_loadS {off} {h} (j : Fin 8) (hoff : off = cOff j) (q) (X : Vec F S512x1024 .bf16) {hl}
    {k : Vec F S512x1024 .bf16 → Prog (TpuEff nD τ sig (Elt F) Λ₀ .tc) α} :
    sendP c j q X ⊢ iprop((sendP c j q X -∗ WP c (k X) Q)
      -∗ WP c (.op (.load sBufM (Rect.unit (s := S512x8192) off S512x1024.size h).toLoadRect hl) k) Q) := by
  subst hoff; exact st_load c (M := sBufM) (r := Rect.unit (s := S512x8192) (cOff j) S512x1024.size h) (fun _ => rfl) q X
theorem st_loadR {off} {h} (j : Fin 8) (hoff : off = cOff j) (q) (X : Vec F S512x1024 .bf16) {hl}
    {k : Vec F S512x1024 .bf16 → Prog (TpuEff nD τ sig (Elt F) Λ₀ .tc) α} :
    recvP c j q X ⊢ iprop((recvP c j q X -∗ WP c (k X) Q)
      -∗ WP c (.op (.load rBufM (Rect.unit (s := S512x8192) off S512x1024.size h).toLoadRect hl) k) Q) := by
  subst hoff; exact st_load c (M := rBufM) (r := Rect.unit (s := S512x8192) (cOff j) S512x1024.size h) (fun _ => rfl) q X
/-- A store of a send chunk. -/
theorem st_storeS {off} {h} (j : Fin 8) (hoff : off = cOff j) {w : Vec F S512x1024 .bf16} {hx hm}
    {k : PUnit → Prog (TpuEff nD τ sig (Elt F) Λ₀ .tc) α} :
    iprop(∃ X, sendP c j fullShare X) ⊢ iprop((sendP c j fullShare w -∗ WP c (k ⟨⟩) Q)
      -∗ WP c (.op (.store sBufM (Rect.unit (s := S512x8192) off S512x1024.size h) w Finset.univ hx hm) k) Q) := by
  subst hoff; exact st_store c (M := sBufM) (r := Rect.unit (s := S512x8192) (cOff j) S512x1024.size h) (fun _ => rfl)

/-! ## Local transfers -/

/-- The credit of a chunk of `W`, of a chunk of the result. -/
abbrev NW : ℕ := (ckW (cOff 0) (cOff_inbW 0)).view.dmaCredit
theorem NW_pos : 0 < NW := View.dmaCredit_pos _ (by decide)

theorem read_squeeze {s s' : Shape} {e : EltTy} {sp : Space} (v : View sig .tc sp s e) (h : s'.numel = s.numel)
    (f : v.ty.Contents (Elt F)) (X : s'.Idx → Elt F e) :
    v.read (Elt F) ((v.reshape s' h).write (Elt F) f X Finset.univ) = shapeCast s X h.symm := by
  rw [View.write_reshape_univ, View.read_write_univ]
  funext i
  unfold shapeCast
  rw [Shape.reshapeEquiv_symm]

/-- Chunk `j` of `W` on its way into a staging slot. -/
def FlW (so : Fin 3 → ℕ) (hso : ∀ a, so a + S1x1024x1024.size a ≤ S2x1024x1024.size a) (sm : DmaSem sig) (j : Fin 8) : sProp 𝕄 :=
  Transfers.Flight EC (c : Thread nD τ) (.dma sm) () NW iprop(owns (c : Thread nD τ) (slW so hso) fullShare (wst m c j) ∗ wP c j (wch m c j))

/-- What the transfer leaves, as the chunk predicates say it. -/
theorem flW_deliver (j : Fin 8) {so : Fin 3 → ℕ} {hso : ∀ a, so a + S1x1024x1024.size a ≤ S2x1024x1024.size a} (hq : S1x1024x1024.Squeezes S1024x1024)
    (f : Buf (Elt F) ((ckW (cOff j) (cOff_inbW j)).view.loc (c : Thread nD τ)))
    (hf : (ckW (cOff j) (cOff_inbW j)).view.read (Elt F) f = wch m c j) (g : Buf (Elt F) ((slW so hso).view.loc (c : Thread nD τ))) :
    iprop(((slW so hso).view.loc (c : Thread nD τ) ↦[(slW so hso).view.set]{fullShare}
        ((slW so hso).squeeze S1024x1024 hq).view.write (Elt F) g ((ckW (cOff j) (cOff_inbW j)).view.read (Elt F) f) Finset.univ)
        ∗ ((ckW (cOff j) (cOff_inbW j)).view.loc (c : Thread nD τ) ↦[(ckW (cOff j) (cOff_inbW j)).view.set]{fullShare} f))
      ⊢ (iprop(owns (c : Thread nD τ) (slW so hso) fullShare (wst m c j) ∗ wP c j (wch m c j)) : sProp 𝕄) := by
  unfold wP owns
  iintro ⟨Hs, Hw⟩
  isplitl [Hs]
  · iexists _; isplitr
    swap
    · iexact Hs
    · ipureintro
      rw [hf]
      exact read_squeeze (slW so hso).view hq.numel_eq g (wch m c j)
  · iexists f; isplitr; · ipureintro; exact hf
    iexact Hw

theorem st_issueW {off} {h} (j : Fin 8) (hoff : off = cOff j) {so} {hso} {sm : DmaSem sig} {hq} {hsrc hdst hsem}
    {k : PUnit → Prog (TpuEff nD τ sig (Elt F) Λ₀ .tc) α} :
    iprop(wP c j (wch m c j) ∗ (∃ X, owns (c : Thread nD τ) (slW so hso) fullShare X) ∗ semVal ((c : Thread nD τ), .dma sm) 0)
      ⊢ iprop((FlW m c so hso sm j -∗ WP c (k ⟨⟩) Q)
        -∗ WP c (.op (.enqueueDma (ckW off h) (.here ((slW so hso).squeeze S1024x1024 hq)) (.dma sm) hsrc hdst hsem) k) Q) := by
  subst hoff
  unfold wP owns
  iintro ⟨⟨%f, %hf, Hw⟩, ⟨%X, %g, -, Hs⟩, Hv⟩ Hk
  iapply (Transfers.wp_dmaLocal EC 𝒱₀ (c : Thread nD τ) none (dst := (slW so hso).squeeze S1024x1024 hq) () NW rfl NW_pos
    (Sd := (slW so hso).view.set) (fd := g) (fs := f) (q := fullShare)
    (Finset.subset_of_eq (View.set_reshape _ _))) $$ [Hw Hs Hv]
  · isplitl [Hw]; · iexact Hw
    isplitl [Hs]; · iexact Hs
    iexact Hv
  iintro Hf
  iapply Hk
  unfold FlW wP owns
  iapply (Transfers.Flight_mono EC (c : Thread nD τ) (flW_deliver m c j (so := so) (hso := hso) hq f hf g)) $$ Hf

theorem st_waitL {sp' sp : Space} {s' s : Shape} {e' e : EltTy} {N' : ℕ} {D : sProp 𝕄} {sm sem : DmaSem sig} (hsm : sem = sm)
    {srcw : Memref sig .tc sp' s' e'} {dstw : Memref sig .tc sp s e} (hN : dstw.view.dmaCredit = N') {hsrc hdst}
    {l : List Pm} (hl : ∀ p ∈ l, lvs (.dma sm) < lvs (psem p))
    {k : PUnit → Prog (TpuEff nD τ sig (Elt F) Λ₀ .tc) α} :
    iprop(records m ρ K ∗ Transfers.Flight EC (c : Thread nD τ) (.dma sm) () N' D ∗ ow c l)
      ⊢ iprop(((D ∗ semVal ((c : Thread nD τ), .dma sm) 0 ∗ ow c l) -∗ WP c (k ⟨⟩) Q)
        -∗ WP c (.op (.waitDma2 sem srcw dstw hsrc hdst) k) Q) := by
  subst hsm
  unfold ow
  iintro ⟨#HK, Hf, ⟨%W, HO⟩⟩ Hk
  iapply (Transfers.wp_waitLocalO EC 𝒱₀ (c : Thread nD τ) none () hN (O := tal c l) (W := W)) $$ [Hf HO]
  · isplitl [Hf]; · iexact Hf
    isplitl [HO]; · iexact HO
    iapply (mayWaitR m ρ K c (.dma sem) l hl); iexact HK
  iintro ⟨HD, Hv, HO⟩
  iapply Hk
  isplitl [HD]; · iexact HD
  isplitl [Hv]; · iexact Hv
  iexists _; iexact HO

/-! ## The copies between devices -/

/-- The tokens device `c` pays copy `k` with. -/
def tx (k : Fin 8) : sProp 𝕄 := iprop(dutyTok ER (sndC c k) 0 0 ∗ dutyTok ER (rcvC (peer c k) k) 0 0)
/-- What device `c` waits for copy `k` of its peer with. -/
def rx (k : Fin 8) : sProp 𝕄 := iprop(atPos ER (rcvC c k) 0 ∅ 0 ∗ cred (tallyAt (rcvC c k) () N))
/-- What device `c` waits for its own copy `k` with. -/
def sx (k : Fin 8) : sProp 𝕄 := iprop(atPos ER (sndC c k) 0 ∅ 0 ∗ cred (tallyAt (sndC c k) () N))

theorem credR (off) (h) (sm : DmaSem sig) : (ckR off h).view.amount (.dma sm) = N := rfl

theorem owns_of_read {s : Shape} {e : EltTy} {sp : Space} {M : Memref sig .tc sp s e} {q : PosShare TreeShare} {X : s.Idx → Elt F e}
    {f : Buf (Elt F) (M.view.loc (c : Thread nD τ))} (hf : M.view.read (Elt F) f = X) :
    (M.view.loc (c : Thread nD τ) ↦[M.view.set]{q} f : sProp 𝕄) ⊢ owns (c : Thread nD τ) M q X := by
  unfold owns
  iintro H; iexists f; isplitr; · ipureintro; exact hf
  iexact H

theorem st_send {kk : Fin 8} {src : Memref sig .tc .vmem S512x1024 .bf16} {X : Vec F S512x1024 .bf16}
    (hsP : (owns (c : Thread nD τ) src (lent kk) X : sProp 𝕄) ⊢ sndPay m ρ c kk) (hX : X = rv m ρ (peer c kk) (cpy c kk))
    {n : Dev nD} (hn : n = peer c kk) {off} {h} (hoff : off = cOff (cpy c kk)) {ss rs : DmaSem sig} (hss : ss = sS kk) (hrs : rs = rS kk)
    {hsc hsrc hdst hsem} {l : List Pm} {k : PUnit → Prog (TpuEff nD τ sig (Elt F) Λ₀ .tc) α} :
    iprop(records m ρ K ∗ owns (c : Thread nD τ) src (lent kk) X ∗ dstP c kk ∗ tx c kk ∗ ow c (.inr kk :: l))
      ⊢ iprop(((cred (tallyAt (sndC c kk) () N) ∗ ow c l) -∗ WP c (k ⟨⟩) Q)
        -∗ WP c (.op (.enqueueDma src (.remote (Dev.tc n : Thread nD τ) (ckR off h) (.dma ss) hsc) (.dma rs) hsrc hdst hsem) k) Q) := by
  subst hn; subst hoff; subst hss; subst hrs
  unfold dstP tx ow recvP
  have h1 (fs : Buf (Elt F) (src.view.loc (c : Thread nD τ))) (hfs : src.view.read (Elt F) fs = X) :
      (src.view.loc (c : Thread nD τ) ↦[src.view.set]{lent kk} fs : sProp 𝕄) ⊢ (Rd m ρ).payload (sndC c kk) 0 0 := by
    rw [payload_snd]
    exact (owns_of_read c hfs).trans hsP
  have h2 (fd : Buf (Elt F) ((ckR (cOff (cpy c kk)) h).view.loc (peer c kk : Thread nD τ))) (fs : Buf (Elt F) (src.view.loc (c : Thread nD τ)))
      (hfs : src.view.read (Elt F) fs = X) :
      ((ckR (cOff (cpy c kk)) h).view.loc (peer c kk : Thread nD τ) ↦[(ckR (cOff (cpy c kk)) h).view.set]{fullShare}
        ((ckR (cOff (cpy c kk)) h).view.write (Elt F) fd (src.view.read (Elt F) fs) Finset.univ) : sProp 𝕄) ⊢ (Rd m ρ).payload (rcvC (peer c kk) kk) 0 0 := by
    rw [payload_rcv]; unfold rcvPay recvP; rw [lnd_peer, hfs, ← hX]
    exact owns_of_read (peer c kk) (View.read_write_univ _ _)
  unfold owns
  iintro ⟨#HK, ⟨%fs, %hfs, Hsrc⟩, ⟨%X', %fd, -, Hdst⟩, ⟨Ht1, Ht2⟩, ⟨%W, HO⟩⟩ Hk
  iapply (Rounds.wp_send_pointsTo 𝒱₀ ER (Rd m ρ) (c : Thread nD τ) none (κ₁ := K (c, some (false, kk))) (κ₂ := K (peer c kk, some (true, kk)))
    (r₁ := 0) (r₂ := 0) (d₁ := 0) (d₂ := 0) (fd := fd) (fs := fs) (q := lent kk)
    (by rw [duties_snd]; exact Finset.mem_singleton_self _) (by rw [duties_rcv]; exact Finset.mem_singleton_self _)
    () () N (credR _ _ _) (amount_snd m ρ c kk 0) (amount_rcv m ρ (peer c kk) kk 0) (O₀ := tal c (.inr kk :: l)) (tal c l) rfl (W := W)
    (h1 fs hfs) (h2 fd fs hfs) (Q := Q) (k := k) (Es := Set.univ) (hsc := hsc) (hsrc := hsrc) (hdst := hdst) (hsem := hsem) (dst := ckR _ h)
    (c' := (peer c kk : Thread nD τ)) (src := src)) $$ [Hsrc Hdst HO Ht1 Ht2]
  · isplitr; · iapply (inv_at m ρ K (c, some (false, kk))); iexact HK
    isplitr; · iapply (inv_at m ρ K (peer c kk, some (true, kk))); iexact HK
    isplitl [Hsrc]; · iexact Hsrc
    isplitl [Hdst]; · iexact Hdst
    isplitl [HO]; · iexact HO
    isplitl [Ht1]; · iexact Ht1
    isplitr; · iapply (reached_at m ρ K (c, some (false, kk))); iexact HK
    isplitl [Ht2]; · iexact Ht2
    iapply (reached_at m ρ K (peer c kk, some (true, kk))); iexact HK
  iintro ⟨Hc, HO⟩
  iapply Hk
  isplitl [Hc]; · iexact Hc
  iexists W; iexact HO

/-- A copy out of the send buffer. -/
theorem st_sendX (kk : Fin 8) (hk : kk.val < 2) {n : Dev nD} (hn : n = peer c kk) {off} {h} (hoff : off = cOff (cpy c kk))
    {ss rs : DmaSem sig} (hss : ss = sS kk) (hrs : rs = rS kk)
    {hsc hsrc hdst hsem} {l : List Pm} {k : PUnit → Prog (TpuEff nD τ sig (Elt F) Λ₀ .tc) α} :
    iprop(records m ρ K ∗ sendP c (cpy c kk) (lent kk) (ebf m ρ c (cpy c kk)) ∗ dstP c kk ∗ tx c kk ∗ ow c (.inr kk :: l))
      ⊢ iprop(((cred (tallyAt (sndC c kk) () N) ∗ ow c l) -∗ WP c (k ⟨⟩) Q)
        -∗ WP c (.op (.enqueueDma (ckS off h) (.remote (Dev.tc n : Thread nD τ) (ckR off h) (.dma ss) hsc) (.dma rs) hsrc hdst hsem) k) Q) := by
  subst hoff
  exact st_send m ρ K c (src := ckS _ h) (X := ebf m ρ c (cpy c kk)) (by unfold sndPay; rw [if_pos hk]; exact BI.Entails.refl _)
    (by unfold rv; rw [orig_px c kk hk]) hn rfl hss hrs
/-- A copy out of the receive buffer. -/
theorem st_sendF (kk : Fin 8) (hk : ¬ kk.val < 2) {n : Dev nD} (hn : n = peer c kk) {off} {h} (hoff : off = cOff (cpy c kk))
    {ss rs : DmaSem sig} (hss : ss = sS kk) (hrs : rs = rS kk)
    {hsc hsrc hdst hsem} {l : List Pm} {k : PUnit → Prog (TpuEff nD τ sig (Elt F) Λ₀ .tc) α} :
    iprop(records m ρ K ∗ recvP c (cpy c kk) (lent kk) (rv m ρ c (cpy c kk)) ∗ dstP c kk ∗ tx c kk ∗ ow c (.inr kk :: l))
      ⊢ iprop(((cred (tallyAt (sndC c kk) () N) ∗ ow c l) -∗ WP c (k ⟨⟩) Q)
        -∗ WP c (.op (.enqueueDma (ckR off h) (.remote (Dev.tc n : Thread nD τ) (ckR off h) (.dma ss) hsc) (.dma rs) hsrc hdst hsem) k) Q) := by
  subst hoff
  exact st_send m ρ K c (src := ckR _ h) (X := rv m ρ c (cpy c kk)) (by unfold sndPay; rw [if_neg hk]; exact BI.Entails.refl _)
    (by unfold rv; rw [orig_fwd c kk hk]) hn rfl hss hrs

/-- The wait for copy `k` of the peer: the chunk, landed; the cell closed. -/
theorem st_waitR (kk : Fin 8) {sem : DmaSem sig} (hsm : sem = rS kk) {sp' sp : Space} {s' s : Shape} {e' e : EltTy}
    {srcw : Memref sig .tc sp' s' e'} {dstw : Memref sig .tc sp s e} (hN : dstw.view.dmaCredit = N) {hsrc hdst}
    {l : List Pm} (hl : ∀ p ∈ l, lvs (.dma (rS kk)) < lvs (psem p))
    {k : PUnit → Prog (TpuEff nD τ sig (Elt F) Λ₀ .tc) α} :
    iprop(records m ρ K ∗ rx c kk ∗ ow c l)
      ⊢ iprop(((recvP c (lnd c kk) fullShare (rv m ρ c (lnd c kk)) ∗ semVal (rcvC c kk) 0 ∗ ow c l) -∗ WP c (k ⟨⟩) Q)
        -∗ WP c (.op (.waitDma2 sem srcw dstw hsrc hdst) k) Q) := by
  subst hsm
  unfold rx ow
  iintro ⟨#HK, ⟨Hat, Hcr⟩, ⟨%W, HO⟩⟩ Hk
  iapply (Rounds.wp_wait_rest_token 𝒱₀ ER (Rd m ρ) (c : Thread nD τ) none (κ := K (c, some (true, kk)))
      (wpE_waitDma2_eq 𝒱₀ (c : Thread nD τ) none Set.univ) (Set.mem_univ _) () (O := tal c l) (W := W) (R := 0) (m := 0) (T := ∅)
      (by rw [Nat.zero_add, expect_rcv, hN])) $$ [Hcr HO Hat]
  · isplitr; · iapply (inv_at m ρ K (c, some (true, kk))); iexact HK
    isplitl [Hcr]; · rw [hN]; iexact Hcr
    isplitl [HO]; · iexact HO
    isplitr
    · iapply (mayWaitR m ρ K c (.dma (rS kk)) l hl); iexact HK
    iexact Hat
  iintro ⟨HO, Hat, -, Hpay⟩
  imod (Rounds.cell_close ER (Rd m ρ) (Set.mem_univ (K (c, some (true, kk)))) (fun h => h) (R := 0 + 1) (duties_later m ρ (rcvC c kk))) $$ [Hat] with Hz
  · isplitr; · iapply (inv_at m ρ K (c, some (true, kk))); iexact HK
    iexact Hat
  ihave Hp := (Entails.of_eq (rest_rcv m ρ c kk)) $$ Hpay
  unfold rcvPay
  iapply Hk
  isplitl [Hp]; · iexact Hp
  isplitl [Hz]; · iexact Hz
  iexists _; iexact HO

/-- The wait for the device's own copy `k`: the share of the source it read; the cell closed. -/
theorem st_waitS (kk : Fin 8) {sem : DmaSem sig} (hsm : sem = sS kk) {sp' sp : Space} {s' s : Shape} {e' e : EltTy}
    {srcw : Memref sig .tc sp' s' e'} {dstw : Memref sig .tc sp s e} (hN : dstw.view.dmaCredit = N) {hsrc hdst}
    {k : PUnit → Prog (TpuEff nD τ sig (Elt F) Λ₀ .tc) α} :
    iprop(records m ρ K ∗ sx c kk ∗ ow c [])
      ⊢ iprop(((sndPay m ρ c kk ∗ semVal (sndC c kk) 0 ∗ ow c []) -∗ WP c (k ⟨⟩) Q)
        -∗ WP c (.op (.waitDma2 sem srcw dstw hsrc hdst) k) Q) := by
  subst hsm
  unfold sx ow
  iintro ⟨#HK, ⟨Hat, Hcr⟩, ⟨%W, HO⟩⟩ Hk
  iapply (Rounds.wp_wait_rest_token 𝒱₀ ER (Rd m ρ) (c : Thread nD τ) none (κ := K (c, some (false, kk)))
      (wpE_waitDma2_eq 𝒱₀ (c : Thread nD τ) none Set.univ) (Set.mem_univ _) () (O := tal c []) (W := W) (R := 0) (m := 0) (T := ∅)
      (by rw [Nat.zero_add, expect_snd, hN])) $$ [Hcr HO Hat]
  · isplitr; · iapply (inv_at m ρ K (c, some (false, kk))); iexact HK
    isplitl [Hcr]; · rw [hN]; iexact Hcr
    isplitl [HO]; · iexact HO
    isplitr
    · iapply (mayWaitR m ρ K c (.dma (sS kk)) [] (fun p hp => absurd hp List.not_mem_nil)); iexact HK
    iexact Hat
  iintro ⟨HO, Hat, -, Hpay⟩
  imod (Rounds.cell_close ER (Rd m ρ) (Set.mem_univ (K (c, some (false, kk)))) (fun h => h) (R := 0 + 1) (duties_later m ρ (sndC c kk))) $$ [Hat] with Hz
  · isplitr; · iapply (inv_at m ρ K (c, some (false, kk))); iexact HK
    iexact Hat
  ihave Hp := (Entails.of_eq (rest_snd m ρ c kk)) $$ Hpay
  iapply Hk
  isplitl [Hp]; · iexact Hp
  isplitl [Hz]; · iexact Hz
  iexists _; iexact HO

/-! ## The barrier -/

/-- The signal to `pr c a`: it hands over the chunks that device's copies land on here. -/
theorem st_signal (a : Fin 3) {n : Dev nD} (hn : n = pr c a) {l : List Pm} {k : PUnit → Prog (TpuEff nD τ sig (Elt F) Λ₀ .tc) α} :
    iprop(records m ρ K ∗ barPay (pr c a) a ∗ dutyTok ER (barC (pr c a)) 0 a ∗ ow c (.inl a :: l))
      ⊢ iprop((ow c l -∗ WP c (k ⟨⟩) Q) -∗ WP c (.op (.semSignal (n, Proc.tc) barS (1#32).toInt) k) Q) := by
  subst hn
  unfold ow
  iintro ⟨#HK, Hp, Ht, ⟨%W, HO⟩⟩ Hk
  iapply (Rounds.wp_signal 𝒱₀ ER (Rd m ρ) (c : Thread nD τ) none (dst := (pr c a : Thread nD τ)) (κ := K (pr c a, none))
      (d := a) (by rw [duties_bar]; exact Finset.mem_univ _) ((amount_bar m ρ (pr c a) a).trans (by decide)) () (tal c l) rfl (W := W)) $$ [HO Ht Hp]
  · isplitr; · iapply (inv_at m ρ K (pr c a, none)); iexact HK
    isplitl [HO]; · iexact HO
    isplitl [Ht]; · iexact Ht
    isplitl [Hp]; · rw [payload_bar]; iexact Hp
    iapply (reached_at m ρ K (pr c a, none)); iexact HK
  iintro HO
  iapply Hk
  iexists W; iexact HO

/-- The barrier's wait: the chunks this device's copies land on, from all three peers. -/
theorem st_barrier {l : List Pm} (hl : ∀ p ∈ l, lvs (.reg barS) < lvs (psem p)) {k : PUnit → Prog (TpuEff nD τ sig (Elt F) Λ₀ .tc) α} :
    iprop(records m ρ K ∗ atPos ER (barC c) 0 ∅ 0 ∗ cred (tallyAt (barC c) () 3) ∗ ow c l)
      ⊢ iprop(((barPay c 0 ∗ barPay c 1 ∗ barPay c 2 ∗ semVal (barC c) 0 ∗ ow c l) -∗ WP c (k ⟨⟩) Q)
        -∗ WP c (.op (.semWait barS (3#32).toInt) k) Q) := by
  unfold ow
  iintro ⟨#HK, Hat, Hcr, ⟨%W, HO⟩⟩ Hk
  iapply (Rounds.wp_wait_rest_token 𝒱₀ ER (Rd m ρ) (c : Thread nD τ) none (κ := K (c, none))
      (wpE_semWait_eq 𝒱₀ (c : Thread nD τ) none Set.univ) (Set.mem_univ _) () (O := tal c l) (W := W) (R := 0) (m := 0) (T := ∅)
      (by rw [expect_bar]; decide)) $$ [Hcr HO Hat]
  · isplitr; · iapply (inv_at m ρ K (c, none)); iexact HK
    isplitl [Hcr]; · iexact Hcr
    isplitl [HO]; · iexact HO
    isplitr
    · iapply (mayWaitR m ρ K c (.reg barS) l hl); iexact HK
    iexact Hat
  iintro ⟨HO, Hat, -, Hpay⟩
  imod (Rounds.cell_close ER (Rd m ρ) (Set.mem_univ (K (c, none))) (fun h => h) (R := 0 + 1) (duties_later m ρ (barC c))) $$ [Hat] with Hz
  · isplitr; · iapply (inv_at m ρ K (c, none)); iexact HK
    iexact Hat
  ihave Hp := (Entails.of_eq (rest_bar m ρ c)) $$ Hpay
  icases Hp with ⟨H0, H1, H2⟩
  iapply Hk
  isplitl [H0]; · iexact H0
  isplitl [H1]; · iexact H1
  isplitl [H2]; · iexact H2
  isplitl [Hz]; · iexact Hz
  iexists _; iexact HO

end Steps

end Cert.KProof
-- ==== Proof.Pieces.lean ====
/-
# The staged stores of the result, and the shares of a chunk

The rules of a transfer out of a staging slot onto a chunk of the result; the rules of `Steps` for the copies between
devices with the chunk and the share as variables; a chunk's three shares; eight chunks in any order.
-/
module

public import proofs.«01_k».proof.Proof.Steps
public import Idealize.ShloMosaic.Lib.MemrefSat

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The chunks of the result -/

def yOff (n : Fin 16) : Fin 2 → ℕ := ![0, 1024 * n.val]
theorem yOff_inb (n : Fin 16) : ∀ a, yOff n a + S512x1024.size a ≤ S512x16384.size a := by revert n; decide +kernel

/-- Chunk `n` of device `c`'s result, held with contents. -/
def yP (c : Dev nD) (n : Fin 16) (X : Vec F S512x1024 .bf16) : sProp 𝕄 :=
  owns (c : Thread nD τ) (ckY (yOff n) (yOff_inb n)) fullShare X

/-- The chunk of the result chunk `j` of device `c`'s own half is, and of the other half. -/
def nS (c : Dev nD) (j : Fin 8) : Fin 16 := Fin.ofNat 16 (8 * (c.val / 16) + j.val)
def nR (c : Dev nD) (j : Fin 8) : Fin 16 := Fin.ofNat 16 (8 * (1 - c.val / 16) + j.val)

/-- The credit of a chunk of the result. -/
abbrev NO : ℕ := (ckY (yOff 0) (yOff_inb 0)).view.dmaCredit
theorem NO_pos : 0 < NO := View.dmaCredit_pos _ (by decide)

/-- A slot's contents as the chunk of the result takes them. -/
def oc (X : Vec F S1x512x1024 .bf16) : Vec F S512x1024 .bf16 := shapeCast S512x1024 X numel_o

section Steps

variable (c : Dev nD) {α : Type} {Q : α → sProp (MT nD τ sig Unit (Elt F) ℕ UU ℕ)}

/-- A staging slot on its way onto a chunk of the result. -/
def FlO (so : Fin 3 → ℕ) (hso : ∀ a, so a + S1x512x1024.size a ≤ S2x512x1024.size a) (sm : DmaSem sig) (n : Fin 16) (X : Vec F S1x512x1024 .bf16) :
    sProp 𝕄 :=
  Transfers.Flight EC (c : Thread nD τ) (.dma sm) () NO iprop(yP c n (oc X) ∗ owns (c : Thread nD τ) (slO so hso) fullShare X)

theorem flO_deliver (n : Fin 16) {so : Fin 3 → ℕ} {hso : ∀ a, so a + S1x512x1024.size a ≤ S2x512x1024.size a} (hq : S1x512x1024.Squeezes S512x1024)
    (X : Vec F S1x512x1024 .bf16) (f : Buf (Elt F) ((slO so hso).view.loc (c : Thread nD τ))) (hf : (slO so hso).view.read (Elt F) f = X)
    (g : Buf (Elt F) ((ckY (yOff n) (yOff_inb n)).view.loc (c : Thread nD τ))) :
    iprop(((ckY (yOff n) (yOff_inb n)).view.loc (c : Thread nD τ) ↦[(ckY (yOff n) (yOff_inb n)).view.set]{fullShare}
        (ckY (yOff n) (yOff_inb n)).view.write (Elt F) g (((slO so hso).squeeze S512x1024 hq).view.read (Elt F) f) Finset.univ)
        ∗ (((slO so hso).squeeze S512x1024 hq).view.loc (c : Thread nD τ) ↦[((slO so hso).squeeze S512x1024 hq).view.set]{fullShare} f))
      ⊢ (iprop(yP c n (oc X) ∗ owns (c : Thread nD τ) (slO so hso) fullShare X) : sProp 𝕄) := by
  unfold yP owns
  iintro ⟨Hy, Hs⟩
  isplitl [Hy]
  · iexists _; isplitr
    swap
    · iexact Hy
    · ipureintro
      rw [View.read_write_univ]
      subst hf
      rfl
  · iexists f; isplitr; · ipureintro; exact hf
    have h : ((slO so hso).squeeze S512x1024 hq).view.set = (slO so hso).view.set := View.set_reshape _ _
    rw [h]
    iexact Hs

theorem st_issueO {off} {h} (n : Fin 16) (hoff : off = yOff n) {so} {hso} {sm sem : DmaSem sig} (hsm : sem = sm) {hq} (X : Vec F S1x512x1024 .bf16)
    {hsrc hdst hsem} {k : PUnit → Prog (TpuEff nD τ sig (Elt F) Λ₀ .tc) α} :
    iprop(owns (c : Thread nD τ) (slO so hso) fullShare X ∗ (∃ Y, yP c n Y) ∗ semVal ((c : Thread nD τ), .dma sm) 0)
      ⊢ iprop((FlO c so hso sm n X -∗ WP c (k ⟨⟩) Q)
        -∗ WP c (.op (.enqueueDma ((slO so hso).squeeze S512x1024 hq) (.here (ckY off h)) (.dma sem) hsrc hdst hsem) k) Q) := by
  subst hoff; subst hsm
  have hset : ((slO so hso).squeeze S512x1024 hq).view.set = (slO so hso).view.set := View.set_reshape _ _
  unfold yP owns
  iintro ⟨⟨%f, %hf, Hs⟩, ⟨%Y, %g, -, Hy⟩, Hv⟩ Hk
  iapply (Transfers.wp_dmaLocal EC 𝒱₀ (c : Thread nD τ) none (src := (slO so hso).squeeze S512x1024 hq) (dst := ckY (yOff n) h) () NO rfl NO_pos
    (Sd := (ckY (yOff n) h).view.set) (fd := g) (fs := f) (q := fullShare) (Finset.Subset.refl _)) $$ [Hs Hy Hv]
  · isplitl [Hs]; · rw [hset]; iexact Hs
    isplitl [Hy]; · iexact Hy
    iexact Hv
  iintro Hf
  iapply Hk
  unfold FlO yP owns
  iapply (Transfers.Flight_mono EC (c : Thread nD τ) (flO_deliver c n (so := so) (hso := hso) hq X f hf g)) $$ Hf

/-- `st_issueW` with the semaphore's equation. -/
theorem st_issueW' {off} {h} (j : Fin 8) (hoff : off = cOff j) {so} {hso} {sm sem : DmaSem sig} (hsm : sem = sm) {hq} {hsrc hdst hsem}
    {k : PUnit → Prog (TpuEff nD τ sig (Elt F) Λ₀ .tc) α} :
    iprop(wP c j (wch m c j) ∗ (∃ X, owns (c : Thread nD τ) (slW so hso) fullShare X) ∗ semVal ((c : Thread nD τ), .dma sm) 0)
      ⊢ iprop((FlW m c so hso sm j -∗ WP c (k ⟨⟩) Q)
        -∗ WP c (.op (.enqueueDma (ckW off h) (.here ((slW so hso).squeeze S1024x1024 hq)) (.dma sem) hsrc hdst hsem) k) Q) := by
  subst hsm; exact st_issueW m c j hoff

/-- The wait for a chunk of `W`. -/
theorem st_waitW {so} {hso} (j : Fin 8) {sp' sp : Space} {s' s : Shape} {e' e : EltTy} {sm sem : DmaSem sig} (hsm : sem = sm)
    {srcw : Memref sig .tc sp' s' e'} {dstw : Memref sig .tc sp s e} (hN : dstw.view.dmaCredit = NW) {hsrc hdst}
    {l : List Pm} (hl : ∀ p ∈ l, lvs (.dma sm) < lvs (psem p))
    {k : PUnit → Prog (TpuEff nD τ sig (Elt F) Λ₀ .tc) α} :
    iprop(records m ρ K ∗ FlW m c so hso sm j ∗ ow c l)
      ⊢ iprop(((owns (c : Thread nD τ) (slW so hso) fullShare (wst m c j) ∗ wP c j (wch m c j) ∗ semVal ((c : Thread nD τ), .dma sm) 0 ∗ ow c l)
          -∗ WP c (k ⟨⟩) Q)
        -∗ WP c (.op (.waitDma2 sem srcw dstw hsrc hdst) k) Q) := by
  unfold FlW
  iintro H Hk
  iapply (st_waitL m ρ K c hsm hN hl) $$ H
  iintro ⟨⟨H1, H2⟩, H3, H4⟩
  iapply Hk
  isplitl [H1]; · iexact H1
  isplitl [H2]; · iexact H2
  isplitl [H3]; · iexact H3
  iexact H4

/-- The wait for a staged store. -/
theorem st_waitO {so} {hso} (n : Fin 16) (X : Vec F S1x512x1024 .bf16) {sp' sp : Space} {s' s : Shape} {e' e : EltTy} {sm sem : DmaSem sig} (hsm : sem = sm)
    {srcw : Memref sig .tc sp' s' e'} {dstw : Memref sig .tc sp s e} (hN : dstw.view.dmaCredit = NO) {hsrc hdst}
    {l : List Pm} (hl : ∀ p ∈ l, lvs (.dma sm) < lvs (psem p))
    {k : PUnit → Prog (TpuEff nD τ sig (Elt F) Λ₀ .tc) α} :
    iprop(records m ρ K ∗ FlO c so hso sm n X ∗ ow c l)
      ⊢ iprop(((yP c n (oc X) ∗ owns (c : Thread nD τ) (slO so hso) fullShare X ∗ semVal ((c : Thread nD τ), .dma sm) 0 ∗ ow c l)
          -∗ WP c (k ⟨⟩) Q)
        -∗ WP c (.op (.waitDma2 sem srcw dstw hsrc hdst) k) Q) := by
  unfold FlO
  iintro H Hk
  iapply (st_waitL m ρ K c hsm hN hl) $$ H
  iintro ⟨⟨H1, H2⟩, H3, H4⟩
  iapply Hk
  isplitl [H1]; · iexact H1
  isplitl [H2]; · iexact H2
  isplitl [H3]; · iexact H3
  iexact H4

/-! ## The copies, chunk and share as variables -/

theorem st_sendX' (kk : Fin 8) (hk : kk.val < 2) {j : Fin 8} (hj : cpy c kk = j) {q} (hq : lent kk = q) {n : Dev nD} (hn : n = peer c kk)
    {off} {h} (hoff : off = cOff j) {ss rs : DmaSem sig} (hss : ss = sS kk) (hrs : rs = rS kk)
    {hsc hsrc hdst hsem} {l : List Pm} {k : PUnit → Prog (TpuEff nD τ sig (Elt F) Λ₀ .tc) α} :
    iprop(records m ρ K ∗ sendP c j q (ebf m ρ c j) ∗ dstP c kk ∗ tx c kk ∗ ow c (.inr kk :: l))
      ⊢ iprop(((cred (tallyAt (sndC c kk) () N) ∗ ow c l) -∗ WP c (k ⟨⟩) Q)
        -∗ WP c (.op (.enqueueDma (ckS off h) (.remote (Dev.tc n : Thread nD τ) (ckR off h) (.dma ss) hsc) (.dma rs) hsrc hdst hsem) k) Q) := by
  subst hj; subst hq; exact st_sendX m ρ K c kk hk hn hoff hss hrs

theorem st_sendF' (kk : Fin 8) (hk : ¬ kk.val < 2) {j : Fin 8} (hj : cpy c kk = j) {q} (hq : lent kk = q) {n : Dev nD} (hn : n = peer c kk)
    {off} {h} (hoff : off = cOff j) {ss rs : DmaSem sig} (hss : ss = sS kk) (hrs : rs = rS kk)
    {hsc hsrc hdst hsem} {l : List Pm} {k : PUnit → Prog (TpuEff nD τ sig (Elt F) Λ₀ .tc) α} :
    iprop(records m ρ K ∗ recvP c j q (rv m ρ c j) ∗ dstP c kk ∗ tx c kk ∗ ow c (.inr kk :: l))
      ⊢ iprop(((cred (tallyAt (sndC c kk) () N) ∗ ow c l) -∗ WP c (k ⟨⟩) Q)
        -∗ WP c (.op (.enqueueDma (ckR off h) (.remote (Dev.tc n : Thread nD τ) (ckR off h) (.dma ss) hsc) (.dma rs) hsrc hdst hsem) k) Q) := by
  subst hj; subst hq; exact st_sendF m ρ K c kk hk hn hoff hss hrs

theorem st_waitSX (kk : Fin 8) (hk : kk.val < 2) {j : Fin 8} (hj : cpy c kk = j) {q} (hq : lent kk = q) {sem : DmaSem sig} (hsm : sem = sS kk)
    {sp' sp : Space} {s' s : Shape} {e' e : EltTy} {srcw : Memref sig .tc sp' s' e'} {dstw : Memref sig .tc sp s e} (hN : dstw.view.dmaCredit = N)
    {hsrc hdst} {k : PUnit → Prog (TpuEff nD τ sig (Elt F) Λ₀ .tc) α} :
    iprop(records m ρ K ∗ sx c kk ∗ ow c [])
      ⊢ iprop(((sendP c j q (ebf m ρ c j) ∗ semVal (sndC c kk) 0 ∗ ow c []) -∗ WP c (k ⟨⟩) Q)
        -∗ WP c (.op (.waitDma2 sem srcw dstw hsrc hdst) k) Q) := by
  subst hj; subst hq
  have h := st_waitS m ρ K c (Q := Q) kk hsm (srcw := srcw) hN (hsrc := hsrc) (hdst := hdst) (k := k)
  unfold sndPay at h; rw [if_pos hk] at h; exact h

theorem st_waitSF (kk : Fin 8) (hk : ¬ kk.val < 2) {j : Fin 8} (hj : cpy c kk = j) {q} (hq : lent kk = q) {sem : DmaSem sig} (hsm : sem = sS kk)
    {sp' sp : Space} {s' s : Shape} {e' e : EltTy} {srcw : Memref sig .tc sp' s' e'} {dstw : Memref sig .tc sp s e} (hN : dstw.view.dmaCredit = N)
    {hsrc hdst} {k : PUnit → Prog (TpuEff nD τ sig (Elt F) Λ₀ .tc) α} :
    iprop(records m ρ K ∗ sx c kk ∗ ow c [])
      ⊢ iprop(((recvP c j q (rv m ρ c j) ∗ semVal (sndC c kk) 0 ∗ ow c []) -∗ WP c (k ⟨⟩) Q)
        -∗ WP c (.op (.waitDma2 sem srcw dstw hsrc hdst) k) Q) := by
  subst hj; subst hq
  have h := st_waitS m ρ K c (Q := Q) kk hsm (srcw := srcw) hN (hsrc := hsrc) (hdst := hdst) (k := k)
  unfold sndPay at h; rw [if_neg hk] at h; exact h

end Steps

/-! ## A chunk's three shares -/

abbrev qL : PosShare TreeShare := fullShare.left
abbrev qM : PosShare TreeShare := fullShare.right.left
abbrev qR : PosShare TreeShare := fullShare.right.right

theorem send_shares (c : Dev nD) (j : Fin 8) (X : Vec F S512x1024 .bf16) :
    (sendP c j fullShare X : sProp 𝕄) ⊣⊢ iprop(sendP c j qL X ∗ sendP c j qM X ∗ sendP c j qR X) :=
  by
  unfold sendP
  exact (owns_halves _ _ _ X).trans (Laws.sep_congr_right (owns_halves _ _ _ X))
theorem recv_shares (c : Dev nD) (j : Fin 8) (X : Vec F S512x1024 .bf16) :
    (recvP c j fullShare X : sProp 𝕄) ⊣⊢ iprop(recvP c j qL X ∗ recvP c j qM X ∗ recvP c j qR X) :=
  by
  unfold recvP
  exact (owns_halves _ _ _ X).trans (Laws.sep_congr_right (owns_halves _ _ _ X))

/-! ## Eight chunks in any order -/

theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide), bigSepL_cons_cons, bigSepL_cons_cons, bigSepL_cons_cons, bigSepL_cons_cons,
    bigSepL_cons_cons, bigSepL_cons_cons, bigSepL_cons_cons, bigSepL_singleton]
  rfl

theorem eight_perm {f : Fin 8 → Fin 8} (hf : Function.Injective f) (Φ : Fin 8 → sProp 𝕄) :
    iprop(Φ (f 0) ∗ Φ (f 1) ∗ Φ (f 2) ∗ Φ (f 3) ∗ Φ (f 4) ∗ Φ (f 5) ∗ Φ (f 6) ∗ Φ (f 7)) = iprop(Φ 0 ∗ Φ 1 ∗ Φ 2 ∗ Φ 3 ∗ Φ 4 ∗ Φ 5 ∗ Φ 6 ∗ Φ 7) := by
  rw [← eight Φ, ← eight (fun i => Φ (f i))]
  exact (bigSep_univ_equiv (Equiv.ofBijective f (Finite.injective_iff_bijective.mp hf)) Φ).symm

end Cert.KProof
-- ==== Proof.Offs.lean ====
/-
# Where the kernel's offsets and devices lie; equal payloads

Each computed offset as a chunk's, each computed device as a peer; the payloads that repeat one another.
-/
module

public import proofs.«01_k».proof.Proof.Pieces

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Offsets -/

theorem o1_0 (c : Dev nD) : k0_off1 c 0#32 = cOff (ch c 0) := by revert c; decide +kernel
theorem o1_1 (c : Dev nD) : k0_off1 c 1#32 = cOff (ch c 1) := by revert c; decide +kernel
theorem o1_2 (c : Dev nD) : k0_off1 c 2#32 = cOff (ch c 2) := by revert c; decide +kernel
theorem o1_3 (c : Dev nD) : k0_off1 c 3#32 = cOff (ch c 3) := by revert c; decide +kernel
theorem o1_4 (c : Dev nD) : k0_off1 c 4#32 = cOff (ch c 4) := by revert c; decide +kernel
theorem o1_5 (c : Dev nD) : k0_off1 c 5#32 = cOff (ch c 5) := by revert c; decide +kernel
theorem o1_6 (c : Dev nD) : k0_off1 c 6#32 = cOff (ch c 6) := by revert c; decide +kernel
theorem o1_7 (c : Dev nD) : k0_off1 c 7#32 = cOff (ch c 7) := by revert c; decide +kernel
theorem o2_0 (c : Dev nD) : k0_off2 c 0#32 = cOff (ch c 0) := by revert c; decide +kernel
theorem o2_1 (c : Dev nD) : k0_off2 c 1#32 = cOff (ch c 1) := by revert c; decide +kernel
theorem o2_2 (c : Dev nD) : k0_off2 c 2#32 = cOff (ch c 2) := by revert c; decide +kernel
theorem o2_3 (c : Dev nD) : k0_off2 c 3#32 = cOff (ch c 3) := by revert c; decide +kernel
theorem o2_4 (c : Dev nD) : k0_off2 c 4#32 = cOff (ch c 4) := by revert c; decide +kernel
theorem o2_5 (c : Dev nD) : k0_off2 c 5#32 = cOff (ch c 5) := by revert c; decide +kernel
theorem o2_6 (c : Dev nD) : k0_off2 c 6#32 = cOff (ch c 6) := by revert c; decide +kernel
theorem o2_7 (c : Dev nD) : k0_off2 c 7#32 = cOff (ch c 7) := by revert c; decide +kernel
theorem o3s_0 (c : Dev nD) : k0_off3 c 0#32 = cOff (ch c 0) := by revert c; decide +kernel
theorem o3r_0 (c : Dev nD) : k0_off3 c 0#32 = cOff (lnd c 0) := by revert c; decide +kernel
theorem o3s_1 (c : Dev nD) : k0_off3 c 1#32 = cOff (ch c 1) := by revert c; decide +kernel
theorem o3r_1 (c : Dev nD) : k0_off3 c 1#32 = cOff (lnd c 1) := by revert c; decide +kernel
theorem o4 (c : Dev nD) : k0_off4 c = cOff (lnd c 5) := by revert c; decide +kernel
theorem o5 (c : Dev nD) : k0_off5 c = cOff (lnd c 3) := by revert c; decide +kernel
theorem o6 (c : Dev nD) : k0_off6 c = cOff (lnd c 0) := by revert c; decide +kernel
theorem o7 (c : Dev nD) : k0_off7 c = cOff (lnd c 5) := by revert c; decide +kernel
theorem o8 (c : Dev nD) : k0_off8 c = cOff (lnd c 1) := by revert c; decide +kernel
theorem o9 (c : Dev nD) : k0_off9 c = cOff (lnd c 3) := by revert c; decide +kernel
theorem o11 (c : Dev nD) : k0_off11 c = cOff (lnd c 2) := by revert c; decide +kernel
theorem o13 (c : Dev nD) : k0_off13 c = cOff (lnd c 6) := by revert c; decide +kernel
theorem o15 (c : Dev nD) : k0_off15 c = cOff (lnd c 4) := by revert c; decide +kernel
theorem o17 (c : Dev nD) : k0_off17 c = cOff (lnd c 7) := by revert c; decide +kernel
theorem o18_0 (c : Dev nD) : k0_off18 c 0#32 = yOff (nS c 0) := by revert c; decide +kernel
theorem o19_0 (c : Dev nD) : k0_off19 c 0#32 = yOff (nR c 0) := by revert c; decide +kernel
theorem o18_1 (c : Dev nD) : k0_off18 c 1024#32 = yOff (nS c 1) := by revert c; decide +kernel
theorem o19_1 (c : Dev nD) : k0_off19 c 1024#32 = yOff (nR c 1) := by revert c; decide +kernel
theorem o18_2 (c : Dev nD) : k0_off18 c 2048#32 = yOff (nS c 2) := by revert c; decide +kernel
theorem o19_2 (c : Dev nD) : k0_off19 c 2048#32 = yOff (nR c 2) := by revert c; decide +kernel
theorem o18_3 (c : Dev nD) : k0_off18 c 3072#32 = yOff (nS c 3) := by revert c; decide +kernel
theorem o19_3 (c : Dev nD) : k0_off19 c 3072#32 = yOff (nR c 3) := by revert c; decide +kernel
theorem o18_4 (c : Dev nD) : k0_off18 c 4096#32 = yOff (nS c 4) := by revert c; decide +kernel
theorem o19_4 (c : Dev nD) : k0_off19 c 4096#32 = yOff (nR c 4) := by revert c; decide +kernel
theorem o18_5 (c : Dev nD) : k0_off18 c 5120#32 = yOff (nS c 5) := by revert c; decide +kernel
theorem o19_5 (c : Dev nD) : k0_off19 c 5120#32 = yOff (nR c 5) := by revert c; decide +kernel
theorem o18_6 (c : Dev nD) : k0_off18 c 6144#32 = yOff (nS c 6) := by revert c; decide +kernel
theorem o19_6 (c : Dev nD) : k0_off19 c 6144#32 = yOff (nR c 6) := by revert c; decide +kernel
theorem o18_7 (c : Dev nD) : k0_off18 c 7168#32 = yOff (nS c 7) := by revert c; decide +kernel
theorem o19_7 (c : Dev nD) : k0_off19 c 7168#32 = yOff (nR c 7) := by revert c; decide +kernel
theorem oL_0 : (![0, 0] : Fin 2 → ℕ) = cOff 0 := rfl
theorem oL_1 : (![0, 1024] : Fin 2 → ℕ) = cOff 1 := rfl
theorem oL_2 : (![0, 2048] : Fin 2 → ℕ) = cOff 2 := rfl
theorem oL_3 : (![0, 3072] : Fin 2 → ℕ) = cOff 3 := rfl
theorem oL_4 : (![0, 4096] : Fin 2 → ℕ) = cOff 4 := rfl
theorem oL_5 : (![0, 5120] : Fin 2 → ℕ) = cOff 5 := rfl
theorem oL_6 : (![0, 6144] : Fin 2 → ℕ) = cOff 6 := rfl
theorem oL_7 : (![0, 7168] : Fin 2 → ℕ) = cOff 7 := rfl

/-! ## Chunks of the copies -/

theorem cp_0 (c : Dev nD) : cpy c 0 = ch c 0 := by revert c; decide +kernel
theorem cp_1 (c : Dev nD) : cpy c 1 = ch c 1 := by revert c; decide +kernel
theorem cp_2 (c : Dev nD) : cpy c 2 = lnd c 0 := by revert c; decide +kernel
theorem cp_3 (c : Dev nD) : cpy c 3 = lnd c 1 := by revert c; decide +kernel
theorem cp_4 (c : Dev nD) : cpy c 4 = lnd c 5 := by revert c; decide +kernel
theorem cp_5 (c : Dev nD) : cpy c 5 = lnd c 0 := by revert c; decide +kernel
theorem cp_6 (c : Dev nD) : cpy c 6 = lnd c 1 := by revert c; decide +kernel
theorem cp_7 (c : Dev nD) : cpy c 7 = lnd c 3 := by revert c; decide +kernel

/-! ## Devices -/

theorem dv_1 (c : Dev nD) : (⟨k0_dev1 c, k0_dev1_lt c⟩ : Dev nD) = pr c 0 := by revert c; decide +kernel
theorem dv_2 (c : Dev nD) : (⟨k0_dev2 c, k0_dev2_lt c⟩ : Dev nD) = pr c 1 := by revert c; decide +kernel
theorem dv_3 (c : Dev nD) : (⟨k0_dev3 c, k0_dev3_lt c⟩ : Dev nD) = pr c 2 := by revert c; decide +kernel
theorem dv_4 (c : Dev nD) : (⟨k0_dev4 c, k0_dev4_lt c⟩ : Dev nD) = peer c 0 := by revert c; decide +kernel
theorem dv_5 (c : Dev nD) : (⟨k0_dev5 c, k0_dev5_lt c⟩ : Dev nD) = peer c 1 := by revert c; decide +kernel
theorem dv_6 (c : Dev nD) : (⟨k0_dev6 c, k0_dev6_lt c⟩ : Dev nD) = peer c 2 := by revert c; decide +kernel
theorem dv_7 (c : Dev nD) : (⟨k0_dev7 c, k0_dev7_lt c⟩ : Dev nD) = peer c 5 := by revert c; decide +kernel
theorem dv_8 (c : Dev nD) : (⟨k0_dev8 c, k0_dev8_lt c⟩ : Dev nD) = peer c 3 := by revert c; decide +kernel
theorem dv_9 (c : Dev nD) : (⟨k0_dev9 c, k0_dev9_lt c⟩ : Dev nD) = peer c 6 := by revert c; decide +kernel
theorem dv_10 (c : Dev nD) : (⟨k0_dev10 c, k0_dev10_lt c⟩ : Dev nD) = peer c 4 := by revert c; decide +kernel
theorem dv_11 (c : Dev nD) : (⟨k0_dev11 c, k0_dev11_lt c⟩ : Dev nD) = peer c 7 := by revert c; decide +kernel

/-! ## Payloads -/

section Pay

variable (x : FVec F S512x1024 .bf16) (s d a b e : FVec F S512x1 .f32) (w : Vec F S1x1024x1024 .f32) (v : Vec F S512x1024 .bf16)

theorem pe_8 : k0_pay8 x w = k0_pay5 x w := rfl
theorem pe_12 : k0_pay12 x (k0_pay10 w) = k0_pay5 x w := rfl
theorem pe_16 : k0_pay16 (k0_pay15 x w) = k0_pay5 x w := rfl
theorem pe_19 : k0_pay19 x w = k0_pay5 x w := rfl
theorem pe_23 : k0_pay23 (k0_pay22 x w) = k0_pay5 x w := rfl
theorem pe_26 : k0_pay26 x w = k0_pay5 x w := rfl
theorem pe_30 : k0_pay30 x w = k0_pay5 x w := rfl
theorem ps_9 : k0_pay9 x s w = k0_pay6 x s w := rfl
theorem ps_13 : k0_pay13 x s (k0_pay10 w) = k0_pay6 x s w := rfl
theorem ps_17 : k0_pay17 s (k0_pay14 x w) = k0_pay6 x s w := rfl
theorem ps_20 : k0_pay20 x s w = k0_pay6 x s w := rfl
theorem ps_24 : k0_pay24 s (k0_pay21 x w) = k0_pay6 x s w := rfl
theorem ps_27 : k0_pay27 x s w = k0_pay6 x s w := rfl
theorem ps_31 : k0_pay31 x s w = k0_pay6 x s w := rfl
theorem po_37 (v' : Vec F S512x1024 .bf16) : k0_pay37 a b v' v = k0_pay40 (k0_pay36 a b v') v := rfl
theorem po_41 : k0_pay41 d v = k0_pay40 d v := rfl
theorem po_42 : k0_pay42 d v = k0_pay40 d v := rfl
theorem po_45 : k0_pay45 d v = k0_pay40 d v := rfl
theorem po_46 : k0_pay46 d v = k0_pay40 d v := rfl
theorem po_47 : k0_pay47 d v = k0_pay40 d v := rfl
theorem po_50 : k0_pay50 d v = k0_pay40 d v := rfl
theorem po_51 : k0_pay51 d v = k0_pay40 d v := rfl
theorem po_52 : k0_pay52 d v = k0_pay40 d v := rfl
theorem po_53 : k0_pay53 d v = k0_pay40 d v := rfl
theorem po_54 : k0_pay54 d v = k0_pay40 d v := rfl
theorem po_55 : k0_pay55 d v = k0_pay40 d v := rfl
theorem po_39 : k0_pay39 d (k0_pay38 v) = k0_pay40 d v := rfl
theorem po_44 : k0_pay44 (k0_pay43 d v) = k0_pay40 d v := rfl
theorem po_49 : k0_pay49 (k0_pay48 d v) = k0_pay40 d v := rfl

end Pay

end Cert.KProof
-- ==== Proof.Vals.lean ====
/-
# What the kernel computes, and the rules as the parts use them

The running sums, the reciprocal and the results, named; the rules of `Steps` and `Pieces` in the form each effect of the kernel uses.
-/
module

public import proofs.«01_k».proof.Proof.Offs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The values -/

section Vals
variable (c : Dev nD)

/-- The row sums of the device's own exponentials after `i` chunks. -/
def sl (c : Dev nD) : ℕ → FVec F S512x1 .f32
  | 0 => k0_pay2 (F := F)
  | i + 1 => k0_pay6 (xv m ρ c) (sl c i) (wst m c (ch c (Fin.ofNat 8 i)))
/-- The row sums of the received exponentials, in the order they are added. -/
def r28 : FVec F S512x1 .f32 := k0_pay28 (k0_pay3 (F := F)) (rv m ρ c (lnd c 0)) (rv m ρ c (lnd c 5))
def r32 : FVec F S512x1 .f32 := k0_pay32 (r28 m ρ c) (rv m ρ c (lnd c 1))
def r33 : FVec F S512x1024 .f32 := k0_pay33 (rv m ρ c (lnd c 3))
def r34 : FVec F S512x1 .f32 := k0_pay34 (r32 m ρ c) (r33 m ρ c) (rv m ρ c (lnd c 2))
def r35 : FVec F S512x1 .f32 := k0_pay35 (r34 m ρ c) (rv m ρ c (lnd c 6)) (rv m ρ c (lnd c 4))
/-- The reciprocal of the row sums. -/
def iv : FVec F S512x1 .f32 := k0_pay36 (sl m ρ c 8) (r35 m ρ c) (rv m ρ c (lnd c 7))
/-- The staged results: of chunk `j` of the device's own half, of the other half. -/
def oS (j : Fin 8) : FVec F S1x512x1024 .bf16 := k0_pay40 (iv m ρ c) (ebf m ρ c j)
def oR (j : Fin 8) : FVec F S1x512x1024 .bf16 := k0_pay40 (iv m ρ c) (rv m ρ c j)

end Vals

/-! ## Semaphores and credits -/

theorem sem_7_0 : ((cc0_scratch4.slice (Rect.unit (s := S2) ![0] S1.size inb_S2_S1_0)).squeeze S_ squeezes_S1_S_).sem = (1 : DmaSem sig) := rfl
theorem sem_7_1 : ((cc0_scratch4.slice (Rect.unit (s := S2) ![1] S1.size inb_S2_S1_1)).squeeze S_ squeezes_S1_S_).sem = (2 : DmaSem sig) := rfl
theorem sem_8_0 : ((cc0_scratch5.slice (Rect.unit (s := S2) ![0] S1.size inb_S2_S1_0)).squeeze S_ squeezes_S1_S_).sem = (3 : DmaSem sig) := rfl
theorem sem_8_1 : ((cc0_scratch5.slice (Rect.unit (s := S2) ![1] S1.size inb_S2_S1_1)).squeeze S_ squeezes_S1_S_).sem = (4 : DmaSem sig) := rfl
theorem sem_9_0 : ((cc0_scratch6.slice (Rect.unit (s := S2) ![0] S1.size inb_S2_S1_0)).squeeze S_ squeezes_S1_S_).sem = (sS 0 : DmaSem sig) := rfl
theorem sem_9_1 : ((cc0_scratch6.slice (Rect.unit (s := S2) ![1] S1.size inb_S2_S1_1)).squeeze S_ squeezes_S1_S_).sem = (sS 1 : DmaSem sig) := rfl
theorem sem_10_0 : ((cc0_scratch7.slice (Rect.unit (s := S2) ![0] S1.size inb_S2_S1_0)).squeeze S_ squeezes_S1_S_).sem = (rS 0 : DmaSem sig) := rfl
theorem sem_10_1 : ((cc0_scratch7.slice (Rect.unit (s := S2) ![1] S1.size inb_S2_S1_1)).squeeze S_ squeezes_S1_S_).sem = (rS 1 : DmaSem sig) := rfl
theorem sem_11_0 : ((cc0_scratch8.slice (Rect.unit (s := S3) ![0] S1.size inb_S3_S1_0)).squeeze S_ squeezes_S1_S_).sem = (sS 2 : DmaSem sig) := rfl
theorem sem_11_1 : ((cc0_scratch8.slice (Rect.unit (s := S3) ![1] S1.size inb_S3_S1_1)).squeeze S_ squeezes_S1_S_).sem = (sS 3 : DmaSem sig) := rfl
theorem sem_11_2 : ((cc0_scratch8.slice (Rect.unit (s := S3) ![2] S1.size inb_S3_S1_2)).squeeze S_ squeezes_S1_S_).sem = (sS 4 : DmaSem sig) := rfl
theorem sem_12_0 : ((cc0_scratch9.slice (Rect.unit (s := S3) ![0] S1.size inb_S3_S1_0)).squeeze S_ squeezes_S1_S_).sem = (rS 2 : DmaSem sig) := rfl
theorem sem_12_1 : ((cc0_scratch9.slice (Rect.unit (s := S3) ![1] S1.size inb_S3_S1_1)).squeeze S_ squeezes_S1_S_).sem = (rS 3 : DmaSem sig) := rfl
theorem sem_12_2 : ((cc0_scratch9.slice (Rect.unit (s := S3) ![2] S1.size inb_S3_S1_2)).squeeze S_ squeezes_S1_S_).sem = (rS 4 : DmaSem sig) := rfl
theorem sem_13_0 : ((cc0_scratch10.slice (Rect.unit (s := S3) ![0] S1.size inb_S3_S1_0)).squeeze S_ squeezes_S1_S_).sem = (sS 5 : DmaSem sig) := rfl
theorem sem_13_1 : ((cc0_scratch10.slice (Rect.unit (s := S3) ![1] S1.size inb_S3_S1_1)).squeeze S_ squeezes_S1_S_).sem = (sS 6 : DmaSem sig) := rfl
theorem sem_13_2 : ((cc0_scratch10.slice (Rect.unit (s := S3) ![2] S1.size inb_S3_S1_2)).squeeze S_ squeezes_S1_S_).sem = (sS 7 : DmaSem sig) := rfl
theorem sem_14_0 : ((cc0_scratch11.slice (Rect.unit (s := S3) ![0] S1.size inb_S3_S1_0)).squeeze S_ squeezes_S1_S_).sem = (rS 5 : DmaSem sig) := rfl
theorem sem_14_1 : ((cc0_scratch11.slice (Rect.unit (s := S3) ![1] S1.size inb_S3_S1_1)).squeeze S_ squeezes_S1_S_).sem = (rS 6 : DmaSem sig) := rfl
theorem sem_14_2 : ((cc0_scratch11.slice (Rect.unit (s := S3) ![2] S1.size inb_S3_S1_2)).squeeze S_ squeezes_S1_S_).sem = (rS 7 : DmaSem sig) := rfl

theorem crW (so) (hso) (hq) : ((slW so hso).squeeze S1024x1024 hq).view.dmaCredit = NW := rfl
theorem crO (so) (hso) (hq) : ((slO so hso).squeeze S512x1024 hq).view.dmaCredit = NO := rfl
theorem crS (off) (h) : (ckS off h).view.dmaCredit = N := rfl
theorem crR (off) (h) : (ckR off h).view.dmaCredit = N := rfl

theorem le_0 : lent 0 = qL := if_neg (by decide)
theorem le_1 : lent 1 = qL := if_neg (by decide)
theorem le_2 : lent 2 = qL := if_neg (by decide)
theorem le_3 : lent 3 = qL := if_neg (by decide)
theorem le_4 : lent 4 = qL := if_neg (by decide)
theorem le_5 : lent 5 = qM := if_pos (by decide)
theorem le_6 : lent 6 = qM := if_pos (by decide)
theorem le_7 : lent 7 = qL := if_neg (by decide)

section Steps

variable (c : Dev nD) {α : Type} {Q : α → sProp (MT nD τ sig Unit (Elt F) ℕ UU ℕ)}

/-- The staged block of `x`, as the pipeline leaves it. -/
def xP : sProp 𝕄 := iprop((c : Thread nD τ).loc cc0_stg0_0 ↦{fullShare} (xstg m ρ c : (cc0_stg0_0 : Ref sig .tc).ty.Contents (Elt F)))

theorem WP_done (a : α) : Q a ⊢ WP (F := F) c (.ret a) Q := by
  unfold WP; rw [wp_ret]; iintro H; imodintro; iexact H

theorem off_zero2 : (![0, 0] : Fin 2 → ℕ) = fun _ => 0 := by funext a; fin_cases a <;> rfl

theorem st_loadX {h} {hl} {k : Vec F S512x1024 .f32 → Prog (TpuEff nD τ sig (Elt F) Λ₀ .tc) α} :
    xP m ρ c ⊢ iprop((xP m ρ c -∗ WP c (k (xstg m ρ c)) Q)
      -∗ WP c (.op (.load xM (Rect.unit (s := S512x1024) ![0, 0] S512x1024.size h).toLoadRect hl) k) Q) := by
  have hr (f : (cc0_stg0_0 : Ref sig .tc).ty.Contents (Elt F)) :
      (xM : Memref sig .tc .vmem S512x1024 .f32).view.readAt (Elt F) (Rect.unit (s := S512x1024) ![0, 0] S512x1024.size h).toLoadRect f = f :=
    Memref.readAt_unit_zero (Elt F) cc0_stg0_0 off_zero2 _ f
  unfold xP
  iintro Hx Hk
  iapply (wp_load 𝒱₀ (c : Thread nD τ) none Set.univ (m := xM) (Finset.subset_univ _)) $$ Hx
  iintro Hx
  rw [hr]
  iapply Hk
  iexact Hx

theorem st_loadWs {so} {hso} (X : Vec F S1x1024x1024 .f32) {hl}
    {k : Vec F S1x1024x1024 .f32 → Prog (TpuEff nD τ sig (Elt F) Λ₀ .tc) α} :
    owns (c : Thread nD τ) (slW so hso) fullShare X
      ⊢ iprop((owns (c : Thread nD τ) (slW so hso) fullShare X -∗ WP c (k X) Q)
        -∗ WP c (.op (.load wStM (Rect.unit (s := S2x1024x1024) so S1x1024x1024.size hso).toLoadRect hl) k) Q) :=
  st_load c (M := wStM) (r := Rect.unit (s := S2x1024x1024) so S1x1024x1024.size hso) (fun _ => rfl) fullShare X
theorem st_loadOs {so} {hso} (X : Vec F S1x512x1024 .bf16) {hl}
    {k : Vec F S1x512x1024 .bf16 → Prog (TpuEff nD τ sig (Elt F) Λ₀ .tc) α} :
    owns (c : Thread nD τ) (slO so hso) fullShare X
      ⊢ iprop((owns (c : Thread nD τ) (slO so hso) fullShare X -∗ WP c (k X) Q)
        -∗ WP c (.op (.load oStM (Rect.unit (s := S2x512x1024) so S1x512x1024.size hso).toLoadRect hl) k) Q) :=
  st_load c (M := oStM) (r := Rect.unit (s := S2x512x1024) so S1x512x1024.size hso) (fun _ => rfl) fullShare X
theorem st_storeOs {so} {hso} {w w' : Vec F S1x512x1024 .bf16} (hw : w = w') {hx hm}
    {k : PUnit → Prog (TpuEff nD τ sig (Elt F) Λ₀ .tc) α} :
    iprop(∃ X, owns (c : Thread nD τ) (slO so hso) fullShare X)
      ⊢ iprop((owns (c : Thread nD τ) (slO so hso) fullShare w' -∗ WP c (k ⟨⟩) Q)
        -∗ WP c (.op (.store oStM (Rect.unit (s := S2x512x1024) so S1x512x1024.size hso) w Finset.univ hx hm) k) Q) := by
  subst hw; exact st_store c (M := oStM) (r := Rect.unit (s := S2x512x1024) so S1x512x1024.size hso) (fun _ => rfl)

/-- A store of a send chunk, which is then held in its three shares. -/
theorem st_storeS' {off} {h} (j : Fin 8) (hoff : off = cOff j) {w w' : Vec F S512x1024 .bf16} (hw : w = w') {hx hm}
    {k : PUnit → Prog (TpuEff nD τ sig (Elt F) Λ₀ .tc) α} :
    iprop(∃ X, sendP c j fullShare X) ⊢ iprop(((sendP c j qL w' ∗ sendP c j qM w' ∗ sendP c j qR w') -∗ WP c (k ⟨⟩) Q)
      -∗ WP c (.op (.store sBufM (Rect.unit (s := S512x8192) off S512x1024.size h) w Finset.univ hx hm) k) Q) := by
  subst hw
  iintro H Hk
  iapply (st_storeS c j hoff) $$ H
  iintro H
  ihave H := (send_shares c j w).1 $$ H
  iapply Hk; iexact H

theorem st_sendX'' (kk : Fin 8) (hk : kk.val < 2) {j : Fin 8} (hj : cpy c kk = j) {q} (hq : lent kk = q) {n : Dev nD} (hn : n = peer c kk)
    {off} {h} (hoff : off = cOff j) {ss rs : DmaSem sig} (hss : ss = sS kk) (hrs : rs = rS kk)
    {hsc hsrc hdst hsem} {l : List Pm} {k : PUnit → Prog (TpuEff nD τ sig (Elt F) Λ₀ .tc) α} :
    iprop(records m ρ K ∗ sendP c j q (ebf m ρ c j) ∗ dstP c kk ∗ tx c kk ∗ atPos ER (sndC c kk) 0 ∅ 0 ∗ ow c (.inr kk :: l))
      ⊢ iprop(((sx c kk ∗ ow c l) -∗ WP c (k ⟨⟩) Q)
        -∗ WP c (.op (.enqueueDma (ckS off h) (.remote (Dev.tc n : Thread nD τ) (ckR off h) (.dma ss) hsc) (.dma rs) hsrc hdst hsem) k) Q) := by
  iintro ⟨HK, H1, H2, H3, Ha, HO⟩ Hk
  iapply (st_sendX' m ρ K c kk hk hj hq hn hoff hss hrs) $$ [HK H1 H2 H3 HO]
  · isplitl [HK]; · iexact HK
    isplitl [H1]; · iexact H1
    isplitl [H2]; · iexact H2
    isplitl [H3]; · iexact H3
    iexact HO
  iintro ⟨Hc, HO⟩
  iapply Hk
  unfold sx
  isplitr [HO]
  · isplitl [Ha]; · iexact Ha
    iexact Hc
  iexact HO

theorem st_sendF'' (kk : Fin 8) (hk : ¬ kk.val < 2) {j : Fin 8} (hj : cpy c kk = j) {q} (hq : lent kk = q) {n : Dev nD} (hn : n = peer c kk)
    {off} {h} (hoff : off = cOff j) {ss rs : DmaSem sig} (hss : ss = sS kk) (hrs : rs = rS kk)
    {hsc hsrc hdst hsem} {l : List Pm} {k : PUnit → Prog (TpuEff nD τ sig (Elt F) Λ₀ .tc) α} :
    iprop(records m ρ K ∗ recvP c j q (rv m ρ c j) ∗ dstP c kk ∗ tx c kk ∗ atPos ER (sndC c kk) 0 ∅ 0 ∗ ow c (.inr kk :: l))
      ⊢ iprop(((sx c kk ∗ ow c l) -∗ WP c (k ⟨⟩) Q)
        -∗ WP c (.op (.enqueueDma (ckR off h) (.remote (Dev.tc n : Thread nD τ) (ckR off h) (.dma ss) hsc) (.dma rs) hsrc hdst hsem) k) Q) := by
  iintro ⟨HK, H1, H2, H3, Ha, HO⟩ Hk
  iapply (st_sendF' m ρ K c kk hk hj hq hn hoff hss hrs) $$ [HK H1 H2 H3 HO]
  · isplitl [HK]; · iexact HK
    isplitl [H1]; · iexact H1
    isplitl [H2]; · iexact H2
    isplitl [H3]; · iexact H3
    iexact HO
  iintro ⟨Hc, HO⟩
  iapply Hk
  unfold sx
  isplitr [HO]
  · isplitl [Ha]; · iexact Ha
    iexact Hc
  iexact HO

/-- The wait for copy `k` of the peer: the chunk, landed, in its three shares. -/
theorem st_waitR' (kk : Fin 8) {sem : DmaSem sig} (hsm : sem = rS kk) {sp' sp : Space} {s' s : Shape} {e' e : EltTy}
    {srcw : Memref sig .tc sp' s' e'} {dstw : Memref sig .tc sp s e} (hN : dstw.view.dmaCredit = N) {hsrc hdst}
    {l : List Pm} (hl : ∀ p ∈ l, lvs (.dma (rS kk)) < lvs (psem p))
    {k : PUnit → Prog (TpuEff nD τ sig (Elt F) Λ₀ .tc) α} :
    iprop(records m ρ K ∗ rx c kk ∗ ow c l)
      ⊢ iprop(((recvP c (lnd c kk) qL (rv m ρ c (lnd c kk)) ∗ recvP c (lnd c kk) qM (rv m ρ c (lnd c kk)) ∗ recvP c (lnd c kk) qR (rv m ρ c (lnd c kk))
          ∗ semVal (rcvC c kk) 0 ∗ ow c l) -∗ WP c (k ⟨⟩) Q)
        -∗ WP c (.op (.waitDma2 sem srcw dstw hsrc hdst) k) Q) := by
  iintro H Hk
  iapply (st_waitR m ρ K c kk hsm hN hl) $$ H
  iintro ⟨H, Hz, HO⟩
  ihave H := (recv_shares c (lnd c kk) (rv m ρ c (lnd c kk))).1 $$ H
  icases H with ⟨H1, H2, H3⟩
  iapply Hk
  isplitl [H1]; · iexact H1
  isplitl [H2]; · iexact H2
  isplitl [H3]; · iexact H3
  isplitl [Hz]; · iexact Hz
  iexact HO

theorem st_barrier' {l : List Pm} (hl : ∀ p ∈ l, lvs (.reg barS) < lvs (psem p)) {k : PUnit → Prog (TpuEff nD τ sig (Elt F) Λ₀ .tc) α} :
    iprop(records m ρ K ∗ atPos ER (barC c) 0 ∅ 0 ∗ cred (tallyAt (barC c) () 3) ∗ ow c l)
      ⊢ iprop(((dstP c 0 ∗ dstP c 1 ∗ dstP c 2 ∗ dstP c 3 ∗ dstP c 4 ∗ dstP c 5 ∗ dstP c 6 ∗ dstP c 7 ∗ semVal (barC c) 0 ∗ ow c l) -∗ WP c (k ⟨⟩) Q)
        -∗ WP c (.op (.semWait barS (3#32).toInt) k) Q) := by
  have h := st_barrier m ρ K c (Q := Q) hl (k := k)
  unfold barPay at h
  iintro H Hk
  iapply h $$ H
  iintro ⟨⟨H0, H1⟩, ⟨H2, H3, H4⟩, ⟨H5, H6, H7⟩, Hz, HO⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hz]; · iexact Hz
  iexact HO

end Steps

end Cert.KProof
-- ==== Proof.Parts1.lean ====
/-
# The kernel's parts 1 to 9

What each part takes and leaves.
-/
module

public import proofs.«01_k».proof.Proof.Vals

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 65536
set_option maxHeartbeats 2000000

variable (m : (ℓ : Loc nD τ sig) → Buf (Elt F) ℓ) (ρ : Dev nD → PrngReg) (K : Dev nD × CI → ℕ)

theorem part1 (c : Dev nD) {Q : (Σ' (d0 : Dev nD) (v2 : BitVec 32) (v5 : BitVec 32) (v8 : BitVec 32) (v11 : BitVec 32) (v12 : BitVec 32) (v13 : BitVec 32) (v16 : BitVec 32) (v20 : BitVec 32) (v24 : BitVec 32) (v29 : BitVec 32) (v32 : FVec F S512x1024 .bf16), BitVec 32) → sProp (MT nD τ sig Unit (Elt F) ℕ UU ℕ)} :
    iprop(records m ρ K
      ∗ (xP m ρ c))
      ⊢ iprop((∀ (v2 : BitVec 32), ∀ (v5 : BitVec 32), ∀ (v8 : BitVec 32), ∀ (v11 : BitVec 32), ∀ (v12 : BitVec 32), ∀ (v13 : BitVec 32), ∀ (v16 : BitVec 32), ∀ (v20 : BitVec 32), ∀ (v24 : BitVec 32), ∀ (v29 : BitVec 32), ∀ (c0_i32 : BitVec 32), ((xP m ρ c))
          -∗ Q ⟨c, v2, v5, v8, v11, v12, v13, v16, v20, v24, v29, (xv m ρ c), c0_i32⟩)
        -∗ WP c (k0_part1 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 ) Q) := by
  rw [k0_part1_eq_skeleton]
  unfold k0_part1_skel
  simp only [semSignalWord, semWaitWord, Prog.lift, Prog.bind_op, Prog.bind_ret, Prog.pure_eq_ret, wp_deviceId]
  iintro ⟨#HK, HX⟩ Hk
  iapply (st_loadX m ρ c) $$ [HX]
  · iexact HX
  iintro HX
  rw [show k0_pay1 (xstg m ρ c) = xv m ρ c from rfl]
  iapply (WP_done c)
  iapply Hk
  iexact HX

theorem part2 (c : Dev nD) (v2 : BitVec 32) (v5 : BitVec 32) (v8 : BitVec 32) (v11 : BitVec 32) (v12 : BitVec 32) (v16 : BitVec 32) (c0_i32 : BitVec 32) {Q : (Σ' (v50 : Sems sig S_), BitVec 32) → sProp (MT nD τ sig Unit (Elt F) ℕ UU ℕ)} :
    iprop(records m ρ K
      ∗ (wP c (ch c 0) (wch m c (ch c 0)))
      ∗ (∃ X, owns (c : Thread nD τ) (slW ![0, 0, 0] inb_S2x1024x1024_S1x1024x1024_0_0_0) fullShare X)
      ∗ (semVal ((c : Thread nD τ), .dma 1) 0)
      ∗ (barPay (pr c 0) 0)
      ∗ (dutyTok ER (barC (pr c 0)) 0 0)
      ∗ (ow c [.inl 0, .inl 1, .inl 2, .inr 0, .inr 1, .inr 2, .inr 5, .inr 3, .inr 6, .inr 4, .inr 7])
      ∗ (barPay (pr c 1) 1)
      ∗ (dutyTok ER (barC (pr c 1)) 0 1))
      ⊢ iprop((∀ (v64 : BitVec 32), ((FlW m c ![0, 0, 0] inb_S2x1024x1024_S1x1024x1024_0_0_0 1 (ch c 0))
        ∗ (ow c [.inl 2, .inr 0, .inr 1, .inr 2, .inr 5, .inr 3, .inr 6, .inr 4, .inr 7]))
          -∗ Q ⟨(SemArray.scalar (sig.barrier 0 rfl) : Sems sig S_), v64⟩)
        -∗ WP c (k0_part2 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 v5 v8 v11 v12 v16 c0_i32) Q) := by
  rw [k0_part2_eq_skeleton]
  unfold k0_part2_skel
  simp only [semSignalWord, semWaitWord, Prog.lift, Prog.bind_op, Prog.bind_ret, Prog.pure_eq_ret, wp_deviceId]
  iintro ⟨#HK, HW0, HWS0, HLS0, HG0, HGT0, HO, HG1, HGT1⟩ Hk
  iapply (st_issueW' m c (ch c 0) (o1_0 c) sem_7_0) $$ [HW0 HWS0 HLS0]
  · isplitl [HW0]; · iexact HW0
    isplitl [HWS0]; · iexact HWS0
    iexact HLS0
  iintro HFW0
  iapply (st_signal m ρ K c 0 (dv_1 c)) $$ [HG0 HGT0 HO]
  · isplitr; · iexact HK
    isplitl [HG0]; · iexact HG0
    isplitl [HGT0]; · iexact HGT0
    iexact HO
  iintro HO
  iapply (st_signal m ρ K c 1 (dv_2 c)) $$ [HG1 HGT1 HO]
  · isplitr; · iexact HK
    isplitl [HG1]; · iexact HG1
    isplitl [HGT1]; · iexact HGT1
    iexact HO
  iintro HO
  iapply (WP_done c)
  iapply Hk
  isplitl [HFW0]; · iexact HFW0
  iexact HO

theorem part3 (c : Dev nD) (v5 : BitVec 32) (v13 : BitVec 32) (v16 : BitVec 32) (v64 : BitVec 32) {Q : (Σ' (v69 : FVec F S512x1 .f32) (v70 : FVec F S512x1 .f32), BitVec 32) → sProp (MT nD τ sig Unit (Elt F) ℕ UU ℕ)} :
    iprop(records m ρ K
      ∗ (barPay (pr c 2) 2)
      ∗ (dutyTok ER (barC (pr c 2)) 0 2)
      ∗ (ow c [.inl 2, .inr 0, .inr 1, .inr 2, .inr 5, .inr 3, .inr 6, .inr 4, .inr 7])
      ∗ (atPos ER (barC c) 0 ∅ 0)
      ∗ (cred (tallyAt (barC c) () 3)))
      ⊢ iprop((∀ (v81 : BitVec 32), ((ow c [.inr 0, .inr 1, .inr 2, .inr 5, .inr 3, .inr 6, .inr 4, .inr 7])
        ∗ (dstP c 0)
        ∗ (dstP c 1)
        ∗ (dstP c 2)
        ∗ (dstP c 3)
        ∗ (dstP c 4)
        ∗ (dstP c 5)
        ∗ (dstP c 6)
        ∗ (dstP c 7)
        ∗ (semVal (barC c) 0))
          -∗ Q ⟨(sl m ρ c 0), (k0_pay3 (F := F)), v81⟩)
        -∗ WP c (k0_part3 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v5 v13 v16 (SemArray.scalar (sig.barrier 0 rfl) : Sems sig S_) v64) Q) := by
  rw [k0_part3_eq_skeleton]
  unfold k0_part3_skel
  simp only [semSignalWord, semWaitWord, Prog.lift, Prog.bind_op, Prog.bind_ret, Prog.pure_eq_ret, wp_deviceId]
  iintro ⟨#HK, HG2, HGT2, HO, HB, HBC⟩ Hk
  iapply (st_signal m ρ K c 2 (dv_3 c)) $$ [HG2 HGT2 HO]
  · isplitr; · iexact HK
    isplitl [HG2]; · iexact HG2
    isplitl [HGT2]; · iexact HGT2
    iexact HO
  iintro HO
  iapply (st_barrier' m ρ K c (l := [.inr 0, .inr 1, .inr 2, .inr 5, .inr 3, .inr 6, .inr 4, .inr 7]) (by decide)) $$ [HB HBC HO]
  · isplitr; · iexact HK
    isplitl [HB]; · iexact HB
    isplitl [HBC]; · iexact HBC
    iexact HO
  iintro ⟨HD0, HD1, HD2, HD3, HD4, HD5, HD6, HD7, HZB, HO⟩
  rw [show k0_pay2 ( F := F ) = sl m ρ c 0 from rfl]
  rw [show k0_pay3 ( F := F ) = k0_pay3 (F := F) from rfl]
  iapply (WP_done c)
  iapply Hk
  isplitl [HO]; · iexact HO
  isplitl [HD0]; · iexact HD0
  isplitl [HD1]; · iexact HD1
  isplitl [HD2]; · iexact HD2
  isplitl [HD3]; · iexact HD3
  isplitl [HD4]; · iexact HD4
  isplitl [HD5]; · iexact HD5
  isplitl [HD6]; · iexact HD6
  isplitl [HD7]; · iexact HD7
  iexact HZB

theorem part4 (c : Dev nD) (v5 : BitVec 32) (v8 : BitVec 32) (v11 : BitVec 32) (v81 : BitVec 32) {Q : (FVec F S512x1 .f32) → sProp (MT nD τ sig Unit (Elt F) ℕ UU ℕ)} :
    iprop(records m ρ K
      ∗ (wP c (ch c 1) (wch m c (ch c 1)))
      ∗ (∃ X, owns (c : Thread nD τ) (slW ![1, 0, 0] inb_S2x1024x1024_S1x1024x1024_1_0_0) fullShare X)
      ∗ (semVal ((c : Thread nD τ), .dma 2) 0)
      ∗ (FlW m c ![0, 0, 0] inb_S2x1024x1024_S1x1024x1024_0_0_0 1 (ch c 0))
      ∗ (ow c [.inr 0, .inr 1, .inr 2, .inr 5, .inr 3, .inr 6, .inr 4, .inr 7])
      ∗ (∃ X, sendP c (ch c 0) fullShare X))
      ⊢ iprop((((FlW m c ![1, 0, 0] inb_S2x1024x1024_S1x1024x1024_1_0_0 2 (ch c 1))
        ∗ (ow c [.inr 0, .inr 1, .inr 2, .inr 5, .inr 3, .inr 6, .inr 4, .inr 7])
        ∗ (owns (c : Thread nD τ) (slW ![0, 0, 0] inb_S2x1024x1024_S1x1024x1024_0_0_0) fullShare (wst m c (ch c 0)))
        ∗ (wP c (ch c 0) (wch m c (ch c 0)))
        ∗ (semVal ((c : Thread nD τ), .dma 1) 0)
        ∗ (sendP c (ch c 0) qL (ebf m ρ c (ch c 0)))
        ∗ (sendP c (ch c 0) qM (ebf m ρ c (ch c 0)))
        ∗ (sendP c (ch c 0) qR (ebf m ρ c (ch c 0))))
          -∗ Q (sl m ρ c 1))
        -∗ WP c (k0_part4 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v5 v8 v11 (xv m ρ c) (sl m ρ c 0) v81) Q) := by
  rw [k0_part4_eq_skeleton]
  unfold k0_part4_skel
  simp only [semSignalWord, semWaitWord, Prog.lift, Prog.bind_op, Prog.bind_ret, Prog.pure_eq_ret, wp_deviceId]
  iintro ⟨#HK, HW1, HWS1, HLS1, HFW0, HO, HS0⟩ Hk
  iapply (st_issueW' m c (ch c 1) (o1_1 c) sem_7_1) $$ [HW1 HWS1 HLS1]
  · isplitl [HW1]; · iexact HW1
    isplitl [HWS1]; · iexact HWS1
    iexact HLS1
  iintro HFW1
  iapply (st_waitW m ρ K c (ch c 0) sem_7_0 (crW _ _ _) (l := [.inr 0, .inr 1, .inr 2, .inr 5, .inr 3, .inr 6, .inr 4, .inr 7]) (by decide)) $$ [HFW0 HO]
  · isplitr; · iexact HK
    isplitl [HFW0]; · iexact HFW0
    iexact HO
  iintro ⟨HWS0, HW0, HLS0, HO⟩
  iapply (st_loadWs c (wst m c (ch c 0))) $$ [HWS0]
  · iexact HWS0
  iintro HWS0
  icases HS0 with ⟨%XS0, HS0⟩
  iapply (st_loadS c (ch c 0) (o2_0 c) fullShare XS0) $$ [HS0]
  · iexact HS0
  iintro HS0
  iapply (st_storeS' c (ch c 0) (o2_0 c) (w' := ebf m ρ c (ch c 0)) rfl) $$ [HS0]
  · iexists _; iexact HS0
  iintro ⟨HS0l, HS0m, HS0r⟩
  rw [show k0_pay6 (xv m ρ c) (sl m ρ c 0) (wst m c (ch c 0)) = sl m ρ c 1 from rfl]
  iapply (WP_done c)
  iapply Hk
  isplitl [HFW1]; · iexact HFW1
  isplitl [HO]; · iexact HO
  isplitl [HWS0]; · iexact HWS0
  isplitl [HW0]; · iexact HW0
  isplitl [HLS0]; · iexact HLS0
  isplitl [HS0l]; · iexact HS0l
  isplitl [HS0m]; · iexact HS0m
  iexact HS0r

theorem part5 (c : Dev nD) (v16 : BitVec 32) {Q : (BitVec 32) → sProp (MT nD τ sig Unit (Elt F) ℕ UU ℕ)} :
    iprop(records m ρ K
      ∗ (sendP c (ch c 0) qL (ebf m ρ c (ch c 0)))
      ∗ (dstP c 0)
      ∗ (tx c 0)
      ∗ (atPos ER (sndC c 0) 0 ∅ 0)
      ∗ (ow c [.inr 0, .inr 1, .inr 2, .inr 5, .inr 3, .inr 6, .inr 4, .inr 7])
      ∗ (wP c (ch c 2) (wch m c (ch c 2)))
      ∗ (owns (c : Thread nD τ) (slW ![0, 0, 0] inb_S2x1024x1024_S1x1024x1024_0_0_0) fullShare (wst m c (ch c 0)))
      ∗ (semVal ((c : Thread nD τ), .dma 1) 0))
      ⊢ iprop((∀ (v143 : BitVec 32), ((ow c [.inr 1, .inr 2, .inr 5, .inr 3, .inr 6, .inr 4, .inr 7])
        ∗ (sx c 0)
        ∗ (FlW m c ![0, 0, 0] inb_S2x1024x1024_S1x1024x1024_0_0_0 1 (ch c 2)))
          -∗ Q v143)
        -∗ WP c (k0_part5 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v16) Q) := by
  rw [k0_part5_eq_skeleton]
  unfold k0_part5_skel
  simp only [semSignalWord, semWaitWord, Prog.lift, Prog.bind_op, Prog.bind_ret, Prog.pure_eq_ret, wp_deviceId]
  iintro ⟨#HK, HS0l, HD0, HT0, HA0, HO, HW2, HWS0, HLS0⟩ Hk
  iapply (st_sendX'' m ρ K c 0 (by decide) (cp_0 c) le_0 (dv_4 c) (o3s_0 c) sem_9_0 sem_10_0) $$ [HS0l HD0 HT0 HA0 HO]
  · isplitr; · iexact HK
    isplitl [HS0l]; · iexact HS0l
    isplitl [HD0]; · iexact HD0
    isplitl [HT0]; · iexact HT0
    isplitl [HA0]; · iexact HA0
    iexact HO
  iintro ⟨HSX0, HO⟩
  iapply (st_issueW' m c (ch c 2) (o1_2 c) sem_7_0) $$ [HW2 HWS0 HLS0]
  · isplitl [HW2]; · iexact HW2
    isplitl [HWS0]; · iexists _; iexact HWS0
    iexact HLS0
  iintro HFW0
  iapply (WP_done c)
  iapply Hk
  isplitl [HO]; · iexact HO
  isplitl [HSX0]; · iexact HSX0
  iexact HFW0

theorem part6 (c : Dev nD) (v5 : BitVec 32) (v8 : BitVec 32) (v11 : BitVec 32) (v16 : BitVec 32) (v143 : BitVec 32) {Q : (Σ' (v180 : FVec F S512x1 .f32) (v197 : BitVec 32), BitVec 32) → sProp (MT nD τ sig Unit (Elt F) ℕ UU ℕ)} :
    iprop(records m ρ K
      ∗ (FlW m c ![1, 0, 0] inb_S2x1024x1024_S1x1024x1024_1_0_0 2 (ch c 1))
      ∗ (ow c [.inr 1, .inr 2, .inr 5, .inr 3, .inr 6, .inr 4, .inr 7])
      ∗ (∃ X, sendP c (ch c 1) fullShare X)
      ∗ (dstP c 1)
      ∗ (tx c 1)
      ∗ (atPos ER (sndC c 1) 0 ∅ 0))
      ⊢ iprop((∀ (v197 : BitVec 32), ∀ (v198 : BitVec 32), ((ow c [.inr 2, .inr 5, .inr 3, .inr 6, .inr 4, .inr 7])
        ∗ (owns (c : Thread nD τ) (slW ![1, 0, 0] inb_S2x1024x1024_S1x1024x1024_1_0_0) fullShare (wst m c (ch c 1)))
        ∗ (wP c (ch c 1) (wch m c (ch c 1)))
        ∗ (semVal ((c : Thread nD τ), .dma 2) 0)
        ∗ (sendP c (ch c 1) qM (ebf m ρ c (ch c 1)))
        ∗ (sendP c (ch c 1) qR (ebf m ρ c (ch c 1)))
        ∗ (sx c 1))
          -∗ Q ⟨(sl m ρ c 2), v197, v198⟩)
        -∗ WP c (k0_part6 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v5 v8 v11 v16 (xv m ρ c) (sl m ρ c 1) v143) Q) := by
  rw [k0_part6_eq_skeleton]
  unfold k0_part6_skel
  simp only [semSignalWord, semWaitWord, Prog.lift, Prog.bind_op, Prog.bind_ret, Prog.pure_eq_ret, wp_deviceId]
  iintro ⟨#HK, HFW1, HO, HS1, HD1, HT1, HA1⟩ Hk
  iapply (st_waitW m ρ K c (ch c 1) sem_7_1 (crW _ _ _) (l := [.inr 1, .inr 2, .inr 5, .inr 3, .inr 6, .inr 4, .inr 7]) (by decide)) $$ [HFW1 HO]
  · isplitr; · iexact HK
    isplitl [HFW1]; · iexact HFW1
    iexact HO
  iintro ⟨HWS1, HW1, HLS1, HO⟩
  iapply (st_loadWs c (wst m c (ch c 1))) $$ [HWS1]
  · iexact HWS1
  iintro HWS1
  icases HS1 with ⟨%XS1, HS1⟩
  iapply (st_loadS c (ch c 1) (o2_1 c) fullShare XS1) $$ [HS1]
  · iexact HS1
  iintro HS1
  iapply (st_storeS' c (ch c 1) (o2_1 c) (w' := ebf m ρ c (ch c 1)) (pe_8 _ _)) $$ [HS1]
  · iexists _; iexact HS1
  iintro ⟨HS1l, HS1m, HS1r⟩
  iapply (st_sendX'' m ρ K c 1 (by decide) (cp_1 c) le_1 (dv_5 c) (o3s_1 c) sem_9_1 sem_10_1) $$ [HS1l HD1 HT1 HA1 HO]
  · isplitr; · iexact HK
    isplitl [HS1l]; · iexact HS1l
    isplitl [HD1]; · iexact HD1
    isplitl [HT1]; · iexact HT1
    isplitl [HA1]; · iexact HA1
    iexact HO
  iintro ⟨HSX1, HO⟩
  rw [show k0_pay9 (xv m ρ c) (sl m ρ c 1) (wst m c (ch c 1)) = sl m ρ c 2 from rfl]
  iapply (WP_done c)
  iapply Hk
  isplitl [HO]; · iexact HO
  isplitl [HWS1]; · iexact HWS1
  isplitl [HW1]; · iexact HW1
  isplitl [HLS1]; · iexact HLS1
  isplitl [HS1m]; · iexact HS1m
  isplitl [HS1r]; · iexact HS1r
  iexact HSX1

theorem part7 (c : Dev nD) (v16 : BitVec 32) (v197 : BitVec 32) (v198 : BitVec 32) {Q : (Σ' (v205 : BitVec 32), FVec F S1024x1024 .bf16) → sProp (MT nD τ sig Unit (Elt F) ℕ UU ℕ)} :
    iprop(records m ρ K
      ∗ (wP c (ch c 3) (wch m c (ch c 3)))
      ∗ (owns (c : Thread nD τ) (slW ![1, 0, 0] inb_S2x1024x1024_S1x1024x1024_1_0_0) fullShare (wst m c (ch c 1)))
      ∗ (semVal ((c : Thread nD τ), .dma 2) 0)
      ∗ (FlW m c ![0, 0, 0] inb_S2x1024x1024_S1x1024x1024_0_0_0 1 (ch c 2))
      ∗ (ow c [.inr 2, .inr 5, .inr 3, .inr 6, .inr 4, .inr 7]))
      ⊢ iprop((∀ (v205 : BitVec 32), ((FlW m c ![1, 0, 0] inb_S2x1024x1024_S1x1024x1024_1_0_0 2 (ch c 3))
        ∗ (ow c [.inr 2, .inr 5, .inr 3, .inr 6, .inr 4, .inr 7])
        ∗ (owns (c : Thread nD τ) (slW ![0, 0, 0] inb_S2x1024x1024_S1x1024x1024_0_0_0) fullShare (wst m c (ch c 2)))
        ∗ (wP c (ch c 2) (wch m c (ch c 2)))
        ∗ (semVal ((c : Thread nD τ), .dma 1) 0))
          -∗ Q ⟨v205, (k0_pay10 (wst m c (ch c 2)))⟩)
        -∗ WP c (k0_part7 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v16 v197 v198) Q) := by
  rw [k0_part7_eq_skeleton]
  unfold k0_part7_skel
  simp only [semSignalWord, semWaitWord, Prog.lift, Prog.bind_op, Prog.bind_ret, Prog.pure_eq_ret, wp_deviceId]
  iintro ⟨#HK, HW3, HWS1, HLS1, HFW0, HO⟩ Hk
  iapply (st_issueW' m c (ch c 3) (o1_3 c) sem_7_1) $$ [HW3 HWS1 HLS1]
  · isplitl [HW3]; · iexact HW3
    isplitl [HWS1]; · iexists _; iexact HWS1
    iexact HLS1
  iintro HFW1
  iapply (st_waitW m ρ K c (ch c 2) sem_7_0 (crW _ _ _) (l := [.inr 2, .inr 5, .inr 3, .inr 6, .inr 4, .inr 7]) (by decide)) $$ [HFW0 HO]
  · isplitr; · iexact HK
    isplitl [HFW0]; · iexact HFW0
    iexact HO
  iintro ⟨HWS0, HW2, HLS0, HO⟩
  iapply (st_loadWs c (wst m c (ch c 2))) $$ [HWS0]
  · iexact HWS0
  iintro HWS0
  rw [show k0_pay10 (wst m c (ch c 2)) = k0_pay10 (wst m c (ch c 2)) from rfl]
  iapply (WP_done c)
  iapply Hk
  isplitl [HFW1]; · iexact HFW1
  isplitl [HO]; · iexact HO
  isplitl [HWS0]; · iexact HWS0
  isplitl [HW2]; · iexact HW2
  iexact HLS0

theorem part8 (c : Dev nD) (v5 : BitVec 32) (v8 : BitVec 32) (v11 : BitVec 32) (v16 : BitVec 32) (v205 : BitVec 32) {Q : (Σ' (v242 : FVec F S512x1 .f32) (v253 : BitVec 32), BitVec 32) → sProp (MT nD τ sig Unit (Elt F) ℕ UU ℕ)} :
    iprop(records m ρ K
      ∗ (∃ X, sendP c (ch c 2) fullShare X)
      ∗ (rx c 0)
      ∗ (ow c [.inr 2, .inr 5, .inr 3, .inr 6, .inr 4, .inr 7]))
      ⊢ iprop((∀ (v253 : BitVec 32), ∀ (c16_i32_183 : BitVec 32), ((sendP c (ch c 2) qL (ebf m ρ c (ch c 2)))
        ∗ (sendP c (ch c 2) qM (ebf m ρ c (ch c 2)))
        ∗ (sendP c (ch c 2) qR (ebf m ρ c (ch c 2)))
        ∗ (ow c [.inr 2, .inr 5, .inr 3, .inr 6, .inr 4, .inr 7])
        ∗ (recvP c (lnd c 0) qL (rv m ρ c (lnd c 0)))
        ∗ (recvP c (lnd c 0) qM (rv m ρ c (lnd c 0)))
        ∗ (recvP c (lnd c 0) qR (rv m ρ c (lnd c 0)))
        ∗ (semVal (rcvC c 0) 0))
          -∗ Q ⟨(sl m ρ c 3), v253, c16_i32_183⟩)
        -∗ WP c (k0_part8 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v5 v8 v11 v16 (xv m ρ c) (sl m ρ c 2) v205 (k0_pay10 (wst m c (ch c 2)))) Q) := by
  rw [k0_part8_eq_skeleton]
  unfold k0_part8_skel
  simp only [semSignalWord, semWaitWord, Prog.lift, Prog.bind_op, Prog.bind_ret, Prog.pure_eq_ret, wp_deviceId]
  iintro ⟨#HK, HS2, HR0, HO⟩ Hk
  icases HS2 with ⟨%XS2, HS2⟩
  iapply (st_loadS c (ch c 2) (o2_2 c) fullShare XS2) $$ [HS2]
  · iexact HS2
  iintro HS2
  iapply (st_storeS' c (ch c 2) (o2_2 c) (w' := ebf m ρ c (ch c 2)) (pe_12 _ _)) $$ [HS2]
  · iexists _; iexact HS2
  iintro ⟨HS2l, HS2m, HS2r⟩
  iapply (st_waitR' m ρ K c 0 sem_10_0 (crR _ _) (l := [.inr 2, .inr 5, .inr 3, .inr 6, .inr 4, .inr 7]) (by decide)) $$ [HR0 HO]
  · isplitr; · iexact HK
    isplitl [HR0]; · iexact HR0
    iexact HO
  iintro ⟨HV0l, HV0m, HV0r, HZR0, HO⟩
  rw [show k0_pay13 (xv m ρ c) (sl m ρ c 2) (k0_pay10 (wst m c (ch c 2))) = sl m ρ c 3 from rfl]
  iapply (WP_done c)
  iapply Hk
  isplitl [HS2l]; · iexact HS2l
  isplitl [HS2m]; · iexact HS2m
  isplitl [HS2r]; · iexact HS2r
  isplitl [HO]; · iexact HO
  isplitl [HV0l]; · iexact HV0l
  isplitl [HV0m]; · iexact HV0m
  isplitl [HV0r]; · iexact HV0r
  iexact HZR0

theorem part9 (c : Dev nD) (v2 : BitVec 32) (v5 : BitVec 32) (v8 : BitVec 32) (v12 : BitVec 32) (v13 : BitVec 32) (v16 : BitVec 32) (v253 : BitVec 32) (c16_i32_183 : BitVec 32) {Q : (Σ' (v295 : BitVec 32) (v300 : BitVec 1), BitVec 32) → sProp (MT nD τ sig Unit (Elt F) ℕ UU ℕ)} :
    iprop(records m ρ K
      ∗ (recvP c (lnd c 0) qL (rv m ρ c (lnd c 0)))
      ∗ (dstP c 2)
      ∗ (tx c 2)
      ∗ (atPos ER (sndC c 2) 0 ∅ 0)
      ∗ (ow c [.inr 2, .inr 5, .inr 3, .inr 6, .inr 4, .inr 7])
      ∗ (recvP c (lnd c 0) qM (rv m ρ c (lnd c 0)))
      ∗ (dstP c 5)
      ∗ (tx c 5)
      ∗ (atPos ER (sndC c 5) 0 ∅ 0))
      ⊢ iprop((∀ (v295 : BitVec 32), ∀ (v300 : BitVec 1), ∀ (v301 : BitVec 32), ((ow c [.inr 3, .inr 6, .inr 4, .inr 7])
        ∗ (sx c 2)
        ∗ (sx c 5))
          -∗ Q ⟨v295, v300, v301⟩)
        -∗ WP c (k0_part9 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 v5 v8 v12 v13 v16 v253 c16_i32_183) Q) := by
  rw [k0_part9_eq_skeleton]
  unfold k0_part9_skel
  simp only [semSignalWord, semWaitWord, Prog.lift, Prog.bind_op, Prog.bind_ret, Prog.pure_eq_ret, wp_deviceId]
  iintro ⟨#HK, HV0l, HD2, HT2, HA2, HO, HV0m, HD5, HT5, HA5⟩ Hk
  iapply (st_sendF'' m ρ K c 2 (by decide) (cp_2 c) le_2 (dv_6 c) (o3r_0 c) sem_11_0 sem_12_0) $$ [HV0l HD2 HT2 HA2 HO]
  · isplitr; · iexact HK
    isplitl [HV0l]; · iexact HV0l
    isplitl [HD2]; · iexact HD2
    isplitl [HT2]; · iexact HT2
    isplitl [HA2]; · iexact HA2
    iexact HO
  iintro ⟨HSX2, HO⟩
  iapply (st_sendF'' m ρ K c 5 (by decide) (cp_5 c) le_5 (dv_7 c) (o3r_0 c) sem_13_0 sem_14_0) $$ [HV0m HD5 HT5 HA5 HO]
  · isplitr; · iexact HK
    isplitl [HV0m]; · iexact HV0m
    isplitl [HD5]; · iexact HD5
    isplitl [HT5]; · iexact HT5
    isplitl [HA5]; · iexact HA5
    iexact HO
  iintro ⟨HSX5, HO⟩
  iapply (WP_done c)
  iapply Hk
  isplitl [HO]; · iexact HO
  isplitl [HSX2]; · iexact HSX2
  iexact HSX5

end Cert.KProof
-- ==== Proof.Parts2.lean ====
/-
# The kernel's parts 10 to 16

What each part takes and leaves.
-/
module

public import proofs.«01_k».proof.Proof.Vals

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 65536
set_option maxHeartbeats 2000000

variable (m : (ℓ : Loc nD τ sig) → Buf (Elt F) ℓ) (ρ : Dev nD → PrngReg) (K : Dev nD × CI → ℕ)

theorem part10 (c : Dev nD) (v16 : BitVec 32) (v295 : BitVec 32) (v300 : BitVec 1) (v301 : BitVec 32) {Q : (Σ' (v330 : FVec F S512x1024 .f32) (v331 : FVec F S512x1024 .bf16), Vec F S512x1024 .bf16) → sProp (MT nD τ sig Unit (Elt F) ℕ UU ℕ)} :
    iprop(records m ρ K
      ∗ (wP c (ch c 4) (wch m c (ch c 4)))
      ∗ (owns (c : Thread nD τ) (slW ![0, 0, 0] inb_S2x1024x1024_S1x1024x1024_0_0_0) fullShare (wst m c (ch c 2)))
      ∗ (semVal ((c : Thread nD τ), .dma 1) 0)
      ∗ (FlW m c ![1, 0, 0] inb_S2x1024x1024_S1x1024x1024_1_0_0 2 (ch c 3))
      ∗ (ow c [.inr 3, .inr 6, .inr 4, .inr 7])
      ∗ (∃ X, sendP c (ch c 3) fullShare X))
      ⊢ iprop((∀ (v334 : Vec F S512x1024 .bf16), ((FlW m c ![0, 0, 0] inb_S2x1024x1024_S1x1024x1024_0_0_0 1 (ch c 4))
        ∗ (ow c [.inr 3, .inr 6, .inr 4, .inr 7])
        ∗ (owns (c : Thread nD τ) (slW ![1, 0, 0] inb_S2x1024x1024_S1x1024x1024_1_0_0) fullShare (wst m c (ch c 3)))
        ∗ (wP c (ch c 3) (wch m c (ch c 3)))
        ∗ (semVal ((c : Thread nD τ), .dma 2) 0)
        ∗ (∃ X, sendP c (ch c 3) fullShare X))
          -∗ Q ⟨(k0_pay14 (xv m ρ c) (wst m c (ch c 3))), (k0_pay15 (xv m ρ c) (wst m c (ch c 3))), v334⟩)
        -∗ WP c (k0_part10 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v16 (xv m ρ c) v295 v300 v301) Q) := by
  rw [k0_part10_eq_skeleton]
  unfold k0_part10_skel
  simp only [semSignalWord, semWaitWord, Prog.lift, Prog.bind_op, Prog.bind_ret, Prog.pure_eq_ret, wp_deviceId]
  iintro ⟨#HK, HW4, HWS0, HLS0, HFW1, HO, HS3⟩ Hk
  iapply (st_issueW' m c (ch c 4) (o1_4 c) sem_7_0) $$ [HW4 HWS0 HLS0]
  · isplitl [HW4]; · iexact HW4
    isplitl [HWS0]; · iexists _; iexact HWS0
    iexact HLS0
  iintro HFW0
  iapply (st_waitW m ρ K c (ch c 3) sem_7_1 (crW _ _ _) (l := [.inr 3, .inr 6, .inr 4, .inr 7]) (by decide)) $$ [HFW1 HO]
  · isplitr; · iexact HK
    isplitl [HFW1]; · iexact HFW1
    iexact HO
  iintro ⟨HWS1, HW3, HLS1, HO⟩
  iapply (st_loadWs c (wst m c (ch c 3))) $$ [HWS1]
  · iexact HWS1
  iintro HWS1
  icases HS3 with ⟨%XS3, HS3⟩
  iapply (st_loadS c (ch c 3) (o2_3 c) fullShare XS3) $$ [HS3]
  · iexact HS3
  iintro HS3
  rw [show k0_pay14 (xv m ρ c) (wst m c (ch c 3)) = k0_pay14 (xv m ρ c) (wst m c (ch c 3)) from rfl]
  rw [show k0_pay15 (xv m ρ c) (wst m c (ch c 3)) = k0_pay15 (xv m ρ c) (wst m c (ch c 3)) from rfl]
  iapply (WP_done c)
  iapply Hk
  isplitl [HFW0]; · iexact HFW0
  isplitl [HO]; · iexact HO
  isplitl [HWS1]; · iexact HWS1
  isplitl [HW3]; · iexact HW3
  isplitl [HLS1]; · iexact HLS1
  iexists _; iexact HS3

theorem part11 (c : Dev nD) (v2 : BitVec 32) (v5 : BitVec 32) (v8 : BitVec 32) (v11 : BitVec 32) (v12 : BitVec 32) (v16 : BitVec 32) (v334 : Vec F S512x1024 .bf16) {Q : (Σ' (v339 : FVec F S512x1 .f32), BitVec 32) → sProp (MT nD τ sig Unit (Elt F) ℕ UU ℕ)} :
    iprop(records m ρ K
      ∗ (∃ X, sendP c (ch c 3) fullShare X)
      ∗ (rx c 1)
      ∗ (ow c [.inr 3, .inr 6, .inr 4, .inr 7]))
      ⊢ iprop((∀ (v350 : BitVec 32), ((sendP c (ch c 3) qL (ebf m ρ c (ch c 3)))
        ∗ (sendP c (ch c 3) qM (ebf m ρ c (ch c 3)))
        ∗ (sendP c (ch c 3) qR (ebf m ρ c (ch c 3)))
        ∗ (ow c [.inr 3, .inr 6, .inr 4, .inr 7])
        ∗ (recvP c (lnd c 1) qL (rv m ρ c (lnd c 1)))
        ∗ (recvP c (lnd c 1) qM (rv m ρ c (lnd c 1)))
        ∗ (recvP c (lnd c 1) qR (rv m ρ c (lnd c 1)))
        ∗ (semVal (rcvC c 1) 0))
          -∗ Q ⟨(sl m ρ c 4), v350⟩)
        -∗ WP c (k0_part11 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 v5 v8 v11 v12 v16 (sl m ρ c 3) (k0_pay14 (xv m ρ c) (wst m c (ch c 3))) (k0_pay15 (xv m ρ c) (wst m c (ch c 3))) v334) Q) := by
  rw [k0_part11_eq_skeleton]
  unfold k0_part11_skel
  simp only [semSignalWord, semWaitWord, Prog.lift, Prog.bind_op, Prog.bind_ret, Prog.pure_eq_ret, wp_deviceId]
  iintro ⟨#HK, HS3, HR1, HO⟩ Hk
  iapply (st_storeS' c (ch c 3) (o2_3 c) (w' := ebf m ρ c (ch c 3)) (pe_16 _ _)) $$ [HS3]
  · iexact HS3
  iintro ⟨HS3l, HS3m, HS3r⟩
  iapply (st_waitR' m ρ K c 1 sem_10_1 (crR _ _) (l := [.inr 3, .inr 6, .inr 4, .inr 7]) (by decide)) $$ [HR1 HO]
  · isplitr; · iexact HK
    isplitl [HR1]; · iexact HR1
    iexact HO
  iintro ⟨HV1l, HV1m, HV1r, HZR1, HO⟩
  rw [show k0_pay17 (sl m ρ c 3) (k0_pay14 (xv m ρ c) (wst m c (ch c 3))) = sl m ρ c 4 from rfl]
  iapply (WP_done c)
  iapply Hk
  isplitl [HS3l]; · iexact HS3l
  isplitl [HS3m]; · iexact HS3m
  isplitl [HS3r]; · iexact HS3r
  isplitl [HO]; · iexact HO
  isplitl [HV1l]; · iexact HV1l
  isplitl [HV1m]; · iexact HV1m
  isplitl [HV1r]; · iexact HV1r
  iexact HZR1

theorem part12 (c : Dev nD) (v2 : BitVec 32) (v5 : BitVec 32) (v13 : BitVec 32) (v16 : BitVec 32) (v350 : BitVec 32) {Q : (Σ' (v399 : BitVec 32) (v402 : BitVec 32), BitVec 32) → sProp (MT nD τ sig Unit (Elt F) ℕ UU ℕ)} :
    iprop(records m ρ K
      ∗ (recvP c (lnd c 1) qL (rv m ρ c (lnd c 1)))
      ∗ (dstP c 3)
      ∗ (tx c 3)
      ∗ (atPos ER (sndC c 3) 0 ∅ 0)
      ∗ (ow c [.inr 3, .inr 6, .inr 4, .inr 7])
      ∗ (recvP c (lnd c 1) qM (rv m ρ c (lnd c 1)))
      ∗ (dstP c 6)
      ∗ (tx c 6)
      ∗ (atPos ER (sndC c 6) 0 ∅ 0))
      ⊢ iprop((∀ (v399 : BitVec 32), ∀ (v402 : BitVec 32), ∀ (v403 : BitVec 32), ((ow c [.inr 4, .inr 7])
        ∗ (sx c 3)
        ∗ (sx c 6))
          -∗ Q ⟨v399, v402, v403⟩)
        -∗ WP c (k0_part12 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 v5 v13 v16 v350) Q) := by
  rw [k0_part12_eq_skeleton]
  unfold k0_part12_skel
  simp only [semSignalWord, semWaitWord, Prog.lift, Prog.bind_op, Prog.bind_ret, Prog.pure_eq_ret, wp_deviceId]
  iintro ⟨#HK, HV1l, HD3, HT3, HA3, HO, HV1m, HD6, HT6, HA6⟩ Hk
  iapply (st_sendF'' m ρ K c 3 (by decide) (cp_3 c) le_3 (dv_8 c) (o3r_1 c) sem_11_1 sem_12_1) $$ [HV1l HD3 HT3 HA3 HO]
  · isplitr; · iexact HK
    isplitl [HV1l]; · iexact HV1l
    isplitl [HD3]; · iexact HD3
    isplitl [HT3]; · iexact HT3
    isplitl [HA3]; · iexact HA3
    iexact HO
  iintro ⟨HSX3, HO⟩
  iapply (st_sendF'' m ρ K c 6 (by decide) (cp_6 c) le_6 (dv_9 c) (o3r_1 c) sem_13_1 sem_14_1) $$ [HV1m HD6 HT6 HA6 HO]
  · isplitr; · iexact HK
    isplitl [HV1m]; · iexact HV1m
    isplitl [HD6]; · iexact HD6
    isplitl [HT6]; · iexact HT6
    isplitl [HA6]; · iexact HA6
    iexact HO
  iintro ⟨HSX6, HO⟩
  iapply (WP_done c)
  iapply Hk
  isplitl [HO]; · iexact HO
  isplitl [HSX3]; · iexact HSX3
  iexact HSX6

theorem part13 (c : Dev nD) (v24 : BitVec 32) (v399 : BitVec 32) (v402 : BitVec 32) (v403 : BitVec 32) {Q : (FVec F S512x1 .f32) → sProp (MT nD τ sig Unit (Elt F) ℕ UU ℕ)} :
    iprop(records m ρ K
      ∗ (wP c (ch c 5) (wch m c (ch c 5)))
      ∗ (owns (c : Thread nD τ) (slW ![1, 0, 0] inb_S2x1024x1024_S1x1024x1024_1_0_0) fullShare (wst m c (ch c 3)))
      ∗ (semVal ((c : Thread nD τ), .dma 2) 0)
      ∗ (FlW m c ![0, 0, 0] inb_S2x1024x1024_S1x1024x1024_0_0_0 1 (ch c 4))
      ∗ (ow c [.inr 4, .inr 7])
      ∗ (∃ X, sendP c (ch c 4) fullShare X))
      ⊢ iprop((((FlW m c ![1, 0, 0] inb_S2x1024x1024_S1x1024x1024_1_0_0 2 (ch c 5))
        ∗ (ow c [.inr 4, .inr 7])
        ∗ (owns (c : Thread nD τ) (slW ![0, 0, 0] inb_S2x1024x1024_S1x1024x1024_0_0_0) fullShare (wst m c (ch c 4)))
        ∗ (wP c (ch c 4) (wch m c (ch c 4)))
        ∗ (semVal ((c : Thread nD τ), .dma 1) 0)
        ∗ (sendP c (ch c 4) qL (ebf m ρ c (ch c 4)))
        ∗ (sendP c (ch c 4) qM (ebf m ρ c (ch c 4)))
        ∗ (sendP c (ch c 4) qR (ebf m ρ c (ch c 4))))
          -∗ Q (sl m ρ c 5))
        -∗ WP c (k0_part13 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v24 (xv m ρ c) (sl m ρ c 4) v399 v402 v403) Q) := by
  rw [k0_part13_eq_skeleton]
  unfold k0_part13_skel
  simp only [semSignalWord, semWaitWord, Prog.lift, Prog.bind_op, Prog.bind_ret, Prog.pure_eq_ret, wp_deviceId]
  iintro ⟨#HK, HW5, HWS1, HLS1, HFW0, HO, HS4⟩ Hk
  iapply (st_issueW' m c (ch c 5) (o1_5 c) sem_7_1) $$ [HW5 HWS1 HLS1]
  · isplitl [HW5]; · iexact HW5
    isplitl [HWS1]; · iexists _; iexact HWS1
    iexact HLS1
  iintro HFW1
  iapply (st_waitW m ρ K c (ch c 4) sem_7_0 (crW _ _ _) (l := [.inr 4, .inr 7]) (by decide)) $$ [HFW0 HO]
  · isplitr; · iexact HK
    isplitl [HFW0]; · iexact HFW0
    iexact HO
  iintro ⟨HWS0, HW4, HLS0, HO⟩
  iapply (st_loadWs c (wst m c (ch c 4))) $$ [HWS0]
  · iexact HWS0
  iintro HWS0
  icases HS4 with ⟨%XS4, HS4⟩
  iapply (st_loadS c (ch c 4) (o2_4 c) fullShare XS4) $$ [HS4]
  · iexact HS4
  iintro HS4
  iapply (st_storeS' c (ch c 4) (o2_4 c) (w' := ebf m ρ c (ch c 4)) (pe_19 _ _)) $$ [HS4]
  · iexists _; iexact HS4
  iintro ⟨HS4l, HS4m, HS4r⟩
  rw [show k0_pay20 (xv m ρ c) (sl m ρ c 4) (wst m c (ch c 4)) = sl m ρ c 5 from rfl]
  iapply (WP_done c)
  iapply Hk
  isplitl [HFW1]; · iexact HFW1
  isplitl [HO]; · iexact HO
  isplitl [HWS0]; · iexact HWS0
  isplitl [HW4]; · iexact HW4
  isplitl [HLS0]; · iexact HLS0
  isplitl [HS4l]; · iexact HS4l
  isplitl [HS4m]; · iexact HS4m
  iexact HS4r

theorem part14 (c : Dev nD) (v2 : BitVec 32) (v5 : BitVec 32) (v8 : BitVec 32) (v11 : BitVec 32) (v12 : BitVec 32) (v16 : BitVec 32) (v24 : BitVec 32) {Q : (Σ' (v465 : BitVec 32) (v466 : BitVec 32) (v467 : BitVec 1) (v468 : BitVec 1), BitVec 1) → sProp (MT nD τ sig Unit (Elt F) ℕ UU ℕ)} :
    iprop(records m ρ K
      ∗ (rx c 5)
      ∗ (ow c [.inr 4, .inr 7])
      ∗ (dstP c 4)
      ∗ (tx c 4)
      ∗ (atPos ER (sndC c 4) 0 ∅ 0))
      ⊢ iprop((∀ (v465 : BitVec 32), ∀ (v466 : BitVec 32), ∀ (v467 : BitVec 1), ∀ (v468 : BitVec 1), ∀ (v469 : BitVec 1), ((ow c [.inr 7])
        ∗ (recvP c (lnd c 5) qM (rv m ρ c (lnd c 5)))
        ∗ (recvP c (lnd c 5) qR (rv m ρ c (lnd c 5)))
        ∗ (semVal (rcvC c 5) 0)
        ∗ (sx c 4))
          -∗ Q ⟨v465, v466, v467, v468, v469⟩)
        -∗ WP c (k0_part14 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 v5 v8 v11 v12 v16 v24) Q) := by
  rw [k0_part14_eq_skeleton]
  unfold k0_part14_skel
  simp only [semSignalWord, semWaitWord, Prog.lift, Prog.bind_op, Prog.bind_ret, Prog.pure_eq_ret, wp_deviceId]
  iintro ⟨#HK, HR5, HO, HD4, HT4, HA4⟩ Hk
  iapply (st_waitR' m ρ K c 5 sem_14_0 (crR _ _) (l := [.inr 4, .inr 7]) (by decide)) $$ [HR5 HO]
  · isplitr; · iexact HK
    isplitl [HR5]; · iexact HR5
    iexact HO
  iintro ⟨HV5l, HV5m, HV5r, HZR5, HO⟩
  iapply (st_sendF'' m ρ K c 4 (by decide) (cp_4 c) le_4 (dv_10 c) (o4 c) sem_11_2 sem_12_2) $$ [HV5l HD4 HT4 HA4 HO]
  · isplitr; · iexact HK
    isplitl [HV5l]; · iexact HV5l
    isplitl [HD4]; · iexact HD4
    isplitl [HT4]; · iexact HT4
    isplitl [HA4]; · iexact HA4
    iexact HO
  iintro ⟨HSX4, HO⟩
  iapply (WP_done c)
  iapply Hk
  isplitl [HO]; · iexact HO
  isplitl [HV5m]; · iexact HV5m
  isplitl [HV5r]; · iexact HV5r
  isplitl [HZR5]; · iexact HZR5
  iexact HSX4

theorem part15 (c : Dev nD) (v16 : BitVec 32) (v465 : BitVec 32) (v466 : BitVec 32) (v467 : BitVec 1) (v468 : BitVec 1) (v469 : BitVec 1) {Q : (Σ' (v501 : FVec F S512x1024 .f32) (v502 : FVec F S512x1024 .bf16), BitVec 32) → sProp (MT nD τ sig Unit (Elt F) ℕ UU ℕ)} :
    iprop(records m ρ K
      ∗ (wP c (ch c 6) (wch m c (ch c 6)))
      ∗ (owns (c : Thread nD τ) (slW ![0, 0, 0] inb_S2x1024x1024_S1x1024x1024_0_0_0) fullShare (wst m c (ch c 4)))
      ∗ (semVal ((c : Thread nD τ), .dma 1) 0)
      ∗ (FlW m c ![1, 0, 0] inb_S2x1024x1024_S1x1024x1024_1_0_0 2 (ch c 5))
      ∗ (ow c [.inr 7]))
      ⊢ iprop((∀ (v503 : BitVec 32), ((FlW m c ![0, 0, 0] inb_S2x1024x1024_S1x1024x1024_0_0_0 1 (ch c 6))
        ∗ (ow c [.inr 7])
        ∗ (owns (c : Thread nD τ) (slW ![1, 0, 0] inb_S2x1024x1024_S1x1024x1024_1_0_0) fullShare (wst m c (ch c 5)))
        ∗ (wP c (ch c 5) (wch m c (ch c 5)))
        ∗ (semVal ((c : Thread nD τ), .dma 2) 0))
          -∗ Q ⟨(k0_pay21 (xv m ρ c) (wst m c (ch c 5))), (k0_pay22 (xv m ρ c) (wst m c (ch c 5))), v503⟩)
        -∗ WP c (k0_part15 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v16 (xv m ρ c) v465 v466 v467 v468 v469) Q) := by
  rw [k0_part15_eq_skeleton]
  unfold k0_part15_skel
  simp only [semSignalWord, semWaitWord, Prog.lift, Prog.bind_op, Prog.bind_ret, Prog.pure_eq_ret, wp_deviceId]
  iintro ⟨#HK, HW6, HWS0, HLS0, HFW1, HO⟩ Hk
  iapply (st_issueW' m c (ch c 6) (o1_6 c) sem_7_0) $$ [HW6 HWS0 HLS0]
  · isplitl [HW6]; · iexact HW6
    isplitl [HWS0]; · iexists _; iexact HWS0
    iexact HLS0
  iintro HFW0
  iapply (st_waitW m ρ K c (ch c 5) sem_7_1 (crW _ _ _) (l := [.inr 7]) (by decide)) $$ [HFW1 HO]
  · isplitr; · iexact HK
    isplitl [HFW1]; · iexact HFW1
    iexact HO
  iintro ⟨HWS1, HW5, HLS1, HO⟩
  iapply (st_loadWs c (wst m c (ch c 5))) $$ [HWS1]
  · iexact HWS1
  iintro HWS1
  rw [show k0_pay21 (xv m ρ c) (wst m c (ch c 5)) = k0_pay21 (xv m ρ c) (wst m c (ch c 5)) from rfl]
  rw [show k0_pay22 (xv m ρ c) (wst m c (ch c 5)) = k0_pay22 (xv m ρ c) (wst m c (ch c 5)) from rfl]
  iapply (WP_done c)
  iapply Hk
  isplitl [HFW0]; · iexact HFW0
  isplitl [HO]; · iexact HO
  isplitl [HWS1]; · iexact HWS1
  isplitl [HW5]; · iexact HW5
  iexact HLS1

theorem part16 (c : Dev nD) (v2 : BitVec 32) (v5 : BitVec 32) (v8 : BitVec 32) (v11 : BitVec 32) (v13 : BitVec 32) (v20 : BitVec 32) (v503 : BitVec 32) {Q : (FVec F S512x1 .f32) → sProp (MT nD τ sig Unit (Elt F) ℕ UU ℕ)} :
    iprop(records m ρ K
      ∗ (∃ X, sendP c (ch c 5) fullShare X)
      ∗ (rx c 3)
      ∗ (ow c [.inr 7]))
      ⊢ iprop((((sendP c (ch c 5) qL (ebf m ρ c (ch c 5)))
        ∗ (sendP c (ch c 5) qM (ebf m ρ c (ch c 5)))
        ∗ (sendP c (ch c 5) qR (ebf m ρ c (ch c 5)))
        ∗ (ow c [.inr 7])
        ∗ (recvP c (lnd c 3) qL (rv m ρ c (lnd c 3)))
        ∗ (recvP c (lnd c 3) qM (rv m ρ c (lnd c 3)))
        ∗ (recvP c (lnd c 3) qR (rv m ρ c (lnd c 3)))
        ∗ (semVal (rcvC c 3) 0))
          -∗ Q (sl m ρ c 6))
        -∗ WP c (k0_part16 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 v5 v8 v11 v13 v20 (sl m ρ c 5) (k0_pay21 (xv m ρ c) (wst m c (ch c 5))) (k0_pay22 (xv m ρ c) (wst m c (ch c 5))) v503) Q) := by
  rw [k0_part16_eq_skeleton]
  unfold k0_part16_skel
  simp only [semSignalWord, semWaitWord, Prog.lift, Prog.bind_op, Prog.bind_ret, Prog.pure_eq_ret, wp_deviceId]
  iintro ⟨#HK, HS5, HR3, HO⟩ Hk
  icases HS5 with ⟨%XS5, HS5⟩
  iapply (st_loadS c (ch c 5) (o2_5 c) fullShare XS5) $$ [HS5]
  · iexact HS5
  iintro HS5
  iapply (st_storeS' c (ch c 5) (o2_5 c) (w' := ebf m ρ c (ch c 5)) (pe_23 _ _)) $$ [HS5]
  · iexists _; iexact HS5
  iintro ⟨HS5l, HS5m, HS5r⟩
  iapply (st_waitR' m ρ K c 3 sem_12_1 (crR _ _) (l := [.inr 7]) (by decide)) $$ [HR3 HO]
  · isplitr; · iexact HK
    isplitl [HR3]; · iexact HR3
    iexact HO
  iintro ⟨HV3l, HV3m, HV3r, HZR3, HO⟩
  rw [show k0_pay24 (sl m ρ c 5) (k0_pay21 (xv m ρ c) (wst m c (ch c 5))) = sl m ρ c 6 from rfl]
  iapply (WP_done c)
  iapply Hk
  isplitl [HS5l]; · iexact HS5l
  isplitl [HS5m]; · iexact HS5m
  isplitl [HS5r]; · iexact HS5r
  isplitl [HO]; · iexact HO
  isplitl [HV3l]; · iexact HV3l
  isplitl [HV3m]; · iexact HV3m
  isplitl [HV3r]; · iexact HV3r
  iexact HZR3

end Cert.KProof
-- ==== Proof.Parts3.lean ====
/-
# The kernel's parts 17 to 22

What each part takes and leaves.
-/
module

public import proofs.«01_k».proof.Proof.Vals

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 65536
set_option maxHeartbeats 2000000

variable (m : (ℓ : Loc nD τ sig) → Buf (Elt F) ℓ) (ρ : Dev nD → PrngReg) (K : Dev nD × CI → ℕ)

theorem send_order (c : Dev nD) : iprop(sendP c (ch c 0) qR (ebf m ρ c (ch c 0)) ∗ sendP c (ch c 1) qR (ebf m ρ c (ch c 1)) ∗ sendP c (ch c 2) qR (ebf m ρ c (ch c 2))
      ∗ sendP c (ch c 3) qR (ebf m ρ c (ch c 3)) ∗ sendP c (ch c 4) qR (ebf m ρ c (ch c 4)) ∗ sendP c (ch c 5) qR (ebf m ρ c (ch c 5))
      ∗ sendP c (ch c 6) qR (ebf m ρ c (ch c 6)) ∗ sendP c (ch c 7) qR (ebf m ρ c (ch c 7)))
    = (iprop(sendP c 0 qR (ebf m ρ c 0) ∗ sendP c 1 qR (ebf m ρ c 1) ∗ sendP c 2 qR (ebf m ρ c 2) ∗ sendP c 3 qR (ebf m ρ c 3)
      ∗ sendP c 4 qR (ebf m ρ c 4) ∗ sendP c 5 qR (ebf m ρ c 5) ∗ sendP c 6 qR (ebf m ρ c 6) ∗ sendP c 7 qR (ebf m ρ c 7)) : sProp 𝕄) :=
  eight_perm (ch_inj c) (fun j => sendP c j qR (ebf m ρ c j))
theorem recv_order (c : Dev nD) : iprop(recvP c (lnd c 0) qR (rv m ρ c (lnd c 0)) ∗ recvP c (lnd c 1) qR (rv m ρ c (lnd c 1)) ∗ recvP c (lnd c 2) qR (rv m ρ c (lnd c 2))
      ∗ recvP c (lnd c 3) qR (rv m ρ c (lnd c 3)) ∗ recvP c (lnd c 4) qR (rv m ρ c (lnd c 4)) ∗ recvP c (lnd c 5) qR (rv m ρ c (lnd c 5))
      ∗ recvP c (lnd c 6) qR (rv m ρ c (lnd c 6)) ∗ recvP c (lnd c 7) qR (rv m ρ c (lnd c 7)))
    = (iprop(recvP c 0 qR (rv m ρ c 0) ∗ recvP c 1 qR (rv m ρ c 1) ∗ recvP c 2 qR (rv m ρ c 2) ∗ recvP c 3 qR (rv m ρ c 3)
      ∗ recvP c 4 qR (rv m ρ c 4) ∗ recvP c 5 qR (rv m ρ c 5) ∗ recvP c 6 qR (rv m ρ c 6) ∗ recvP c 7 qR (rv m ρ c 7)) : sProp 𝕄) :=
  eight_perm (lnd_inj c) (fun j => recvP c j qR (rv m ρ c j))

theorem part17 (c : Dev nD) (v16 : BitVec 32) {Q : (BitVec 32) → sProp (MT nD τ sig Unit (Elt F) ℕ UU ℕ)} :
    iprop(records m ρ K
      ∗ (recvP c (lnd c 3) qL (rv m ρ c (lnd c 3)))
      ∗ (dstP c 7)
      ∗ (tx c 7)
      ∗ (atPos ER (sndC c 7) 0 ∅ 0)
      ∗ (ow c [.inr 7])
      ∗ (wP c (ch c 7) (wch m c (ch c 7)))
      ∗ (owns (c : Thread nD τ) (slW ![1, 0, 0] inb_S2x1024x1024_S1x1024x1024_1_0_0) fullShare (wst m c (ch c 5)))
      ∗ (semVal ((c : Thread nD τ), .dma 2) 0))
      ⊢ iprop((∀ (v549 : BitVec 32), ((ow c [])
        ∗ (sx c 7)
        ∗ (FlW m c ![1, 0, 0] inb_S2x1024x1024_S1x1024x1024_1_0_0 2 (ch c 7)))
          -∗ Q v549)
        -∗ WP c (k0_part17 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v16) Q) := by
  rw [k0_part17_eq_skeleton]
  unfold k0_part17_skel
  simp only [semSignalWord, semWaitWord, Prog.lift, Prog.bind_op, Prog.bind_ret, Prog.pure_eq_ret, wp_deviceId]
  iintro ⟨#HK, HV3l, HD7, HT7, HA7, HO, HW7, HWS1, HLS1⟩ Hk
  iapply (st_sendF'' m ρ K c 7 (by decide) (cp_7 c) le_7 (dv_11 c) (o5 c) sem_13_2 sem_14_2) $$ [HV3l HD7 HT7 HA7 HO]
  · isplitr; · iexact HK
    isplitl [HV3l]; · iexact HV3l
    isplitl [HD7]; · iexact HD7
    isplitl [HT7]; · iexact HT7
    isplitl [HA7]; · iexact HA7
    iexact HO
  iintro ⟨HSX7, HO⟩
  iapply (st_issueW' m c (ch c 7) (o1_7 c) sem_7_1) $$ [HW7 HWS1 HLS1]
  · isplitl [HW7]; · iexact HW7
    isplitl [HWS1]; · iexists _; iexact HWS1
    iexact HLS1
  iintro HFW1
  iapply (WP_done c)
  iapply Hk
  isplitl [HO]; · iexact HO
  isplitl [HSX7]; · iexact HSX7
  iexact HFW1

theorem part18 (c : Dev nD) (v16 : BitVec 32) (v24 : BitVec 32) (v549 : BitVec 32) {Q : (Σ' (v586 : FVec F S512x1 .f32) (v600 : FVec F S512x1 .f32) (v603 : BitVec 32) (v604 : BitVec 32) (v605 : BitVec 1) (v606 : BitVec 1), BitVec 1) → sProp (MT nD τ sig Unit (Elt F) ℕ UU ℕ)} :
    iprop(records m ρ K
      ∗ (FlW m c ![0, 0, 0] inb_S2x1024x1024_S1x1024x1024_0_0_0 1 (ch c 6))
      ∗ (ow c [])
      ∗ (∃ X, sendP c (ch c 6) fullShare X)
      ∗ (recvP c (lnd c 0) qR (rv m ρ c (lnd c 0)))
      ∗ (recvP c (lnd c 5) qR (rv m ρ c (lnd c 5))))
      ⊢ iprop((∀ (v603 : BitVec 32), ∀ (v604 : BitVec 32), ∀ (v605 : BitVec 1), ∀ (v606 : BitVec 1), ∀ (v607 : BitVec 1), ((ow c [])
        ∗ (owns (c : Thread nD τ) (slW ![0, 0, 0] inb_S2x1024x1024_S1x1024x1024_0_0_0) fullShare (wst m c (ch c 6)))
        ∗ (wP c (ch c 6) (wch m c (ch c 6)))
        ∗ (semVal ((c : Thread nD τ), .dma 1) 0)
        ∗ (sendP c (ch c 6) qL (ebf m ρ c (ch c 6)))
        ∗ (sendP c (ch c 6) qM (ebf m ρ c (ch c 6)))
        ∗ (sendP c (ch c 6) qR (ebf m ρ c (ch c 6)))
        ∗ (recvP c (lnd c 0) qR (rv m ρ c (lnd c 0)))
        ∗ (recvP c (lnd c 5) qR (rv m ρ c (lnd c 5))))
          -∗ Q ⟨(sl m ρ c 7), (r28 m ρ c), v603, v604, v605, v606, v607⟩)
        -∗ WP c (k0_part18 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v16 v24 (xv m ρ c) (k0_pay3 (F := F)) (sl m ρ c 6) v549) Q) := by
  rw [k0_part18_eq_skeleton]
  unfold k0_part18_skel
  simp only [semSignalWord, semWaitWord, Prog.lift, Prog.bind_op, Prog.bind_ret, Prog.pure_eq_ret, wp_deviceId]
  iintro ⟨#HK, HFW0, HO, HS6, HV0r, HV5r⟩ Hk
  iapply (st_waitW m ρ K c (ch c 6) sem_7_0 (crW _ _ _) (l := []) (by decide)) $$ [HFW0 HO]
  · isplitr; · iexact HK
    isplitl [HFW0]; · iexact HFW0
    iexact HO
  iintro ⟨HWS0, HW6, HLS0, HO⟩
  iapply (st_loadWs c (wst m c (ch c 6))) $$ [HWS0]
  · iexact HWS0
  iintro HWS0
  icases HS6 with ⟨%XS6, HS6⟩
  iapply (st_loadS c (ch c 6) (o2_6 c) fullShare XS6) $$ [HS6]
  · iexact HS6
  iintro HS6
  iapply (st_storeS' c (ch c 6) (o2_6 c) (w' := ebf m ρ c (ch c 6)) (pe_26 _ _)) $$ [HS6]
  · iexists _; iexact HS6
  iintro ⟨HS6l, HS6m, HS6r⟩
  iapply (st_loadR c (lnd c 0) (o6 c) qR (rv m ρ c (lnd c 0))) $$ [HV0r]
  · iexact HV0r
  iintro HV0r
  iapply (st_loadR c (lnd c 5) (o7 c) qR (rv m ρ c (lnd c 5))) $$ [HV5r]
  · iexact HV5r
  iintro HV5r
  rw [show k0_pay27 (xv m ρ c) (sl m ρ c 6) (wst m c (ch c 6)) = sl m ρ c 7 from rfl]
  rw [show k0_pay28 (k0_pay3 (F := F)) (rv m ρ c (lnd c 0)) (rv m ρ c (lnd c 5)) = r28 m ρ c from rfl]
  iapply (WP_done c)
  iapply Hk
  isplitl [HO]; · iexact HO
  isplitl [HWS0]; · iexact HWS0
  isplitl [HW6]; · iexact HW6
  isplitl [HLS0]; · iexact HLS0
  isplitl [HS6l]; · iexact HS6l
  isplitl [HS6m]; · iexact HS6m
  isplitl [HS6r]; · iexact HS6r
  isplitl [HV0r]; · iexact HV0r
  iexact HV5r

theorem part19 (c : Dev nD) (v16 : BitVec 32) (v20 : BitVec 32) (v603 : BitVec 32) (v604 : BitVec 32) (v605 : BitVec 1) (v606 : BitVec 1) (v607 : BitVec 1) {Q : (Σ' (v631 : FVec F S512x1 .f32) (v639 : FVec F S512x1 .f32), FVec F S512x1024 .f32) → sProp (MT nD τ sig Unit (Elt F) ℕ UU ℕ)} :
    iprop(records m ρ K
      ∗ (FlW m c ![1, 0, 0] inb_S2x1024x1024_S1x1024x1024_1_0_0 2 (ch c 7))
      ∗ (ow c [])
      ∗ (∃ X, sendP c (ch c 7) fullShare X)
      ∗ (recvP c (lnd c 1) qR (rv m ρ c (lnd c 1)))
      ∗ (recvP c (lnd c 3) qR (rv m ρ c (lnd c 3))))
      ⊢ iprop((((ow c [])
        ∗ (owns (c : Thread nD τ) (slW ![1, 0, 0] inb_S2x1024x1024_S1x1024x1024_1_0_0) fullShare (wst m c (ch c 7)))
        ∗ (wP c (ch c 7) (wch m c (ch c 7)))
        ∗ (semVal ((c : Thread nD τ), .dma 2) 0)
        ∗ (sendP c (ch c 7) qL (ebf m ρ c (ch c 7)))
        ∗ (sendP c (ch c 7) qM (ebf m ρ c (ch c 7)))
        ∗ (sendP c (ch c 7) qR (ebf m ρ c (ch c 7)))
        ∗ (recvP c (lnd c 1) qR (rv m ρ c (lnd c 1)))
        ∗ (recvP c (lnd c 3) qR (rv m ρ c (lnd c 3))))
          -∗ Q ⟨(sl m ρ c 8), (r32 m ρ c), (r33 m ρ c)⟩)
        -∗ WP c (k0_part19 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v16 v20 (xv m ρ c) (sl m ρ c 7) (r28 m ρ c) v603 v604 v605 v606 v607) Q) := by
  rw [k0_part19_eq_skeleton]
  unfold k0_part19_skel
  simp only [semSignalWord, semWaitWord, Prog.lift, Prog.bind_op, Prog.bind_ret, Prog.pure_eq_ret, wp_deviceId]
  iintro ⟨#HK, HFW1, HO, HS7, HV1r, HV3r⟩ Hk
  iapply (st_waitW m ρ K c (ch c 7) sem_7_1 (crW _ _ _) (l := []) (by decide)) $$ [HFW1 HO]
  · isplitr; · iexact HK
    isplitl [HFW1]; · iexact HFW1
    iexact HO
  iintro ⟨HWS1, HW7, HLS1, HO⟩
  iapply (st_loadWs c (wst m c (ch c 7))) $$ [HWS1]
  · iexact HWS1
  iintro HWS1
  icases HS7 with ⟨%XS7, HS7⟩
  iapply (st_loadS c (ch c 7) (o2_7 c) fullShare XS7) $$ [HS7]
  · iexact HS7
  iintro HS7
  iapply (st_storeS' c (ch c 7) (o2_7 c) (w' := ebf m ρ c (ch c 7)) (pe_30 _ _)) $$ [HS7]
  · iexists _; iexact HS7
  iintro ⟨HS7l, HS7m, HS7r⟩
  iapply (st_loadR c (lnd c 1) (o8 c) qR (rv m ρ c (lnd c 1))) $$ [HV1r]
  · iexact HV1r
  iintro HV1r
  iapply (st_loadR c (lnd c 3) (o9 c) qR (rv m ρ c (lnd c 3))) $$ [HV3r]
  · iexact HV3r
  iintro HV3r
  rw [show k0_pay31 (xv m ρ c) (sl m ρ c 7) (wst m c (ch c 7)) = sl m ρ c 8 from rfl]
  rw [show k0_pay32 (r28 m ρ c) (rv m ρ c (lnd c 1)) = r32 m ρ c from rfl]
  rw [show k0_pay33 (rv m ρ c (lnd c 3)) = r33 m ρ c from rfl]
  iapply (WP_done c)
  iapply Hk
  isplitl [HO]; · iexact HO
  isplitl [HWS1]; · iexact HWS1
  isplitl [HW7]; · iexact HW7
  isplitl [HLS1]; · iexact HLS1
  isplitl [HS7l]; · iexact HS7l
  isplitl [HS7m]; · iexact HS7m
  isplitl [HS7r]; · iexact HS7r
  isplitl [HV1r]; · iexact HV1r
  iexact HV3r

theorem part20 (c : Dev nD) (v5 : BitVec 32) (v8 : BitVec 32) (v11 : BitVec 32) (v20 : BitVec 32) (v24 : BitVec 32) (v29 : BitVec 32) {Q : (Σ' (v648 : BitVec 32) (v649 : BitVec 32), FVec F S512x1 .f32) → sProp (MT nD τ sig Unit (Elt F) ℕ UU ℕ)} :
    iprop(records m ρ K
      ∗ (rx c 2)
      ∗ (ow c []))
      ⊢ iprop((∀ (v648 : BitVec 32), ∀ (v649 : BitVec 32), ((ow c [])
        ∗ (recvP c (lnd c 2) qL (rv m ρ c (lnd c 2)))
        ∗ (recvP c (lnd c 2) qM (rv m ρ c (lnd c 2)))
        ∗ (recvP c (lnd c 2) qR (rv m ρ c (lnd c 2)))
        ∗ (semVal (rcvC c 2) 0))
          -∗ Q ⟨v648, v649, (r34 m ρ c)⟩)
        -∗ WP c (k0_part20 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v5 v8 v11 v20 v24 v29 (r32 m ρ c) (r33 m ρ c)) Q) := by
  rw [k0_part20_eq_skeleton]
  unfold k0_part20_skel
  simp only [semSignalWord, semWaitWord, Prog.lift, Prog.bind_op, Prog.bind_ret, Prog.pure_eq_ret, wp_deviceId]
  iintro ⟨#HK, HR2, HO⟩ Hk
  iapply (st_waitR' m ρ K c 2 sem_12_0 (crR _ _) (l := []) (by decide)) $$ [HR2 HO]
  · isplitr; · iexact HK
    isplitl [HR2]; · iexact HR2
    iexact HO
  iintro ⟨HV2l, HV2m, HV2r, HZR2, HO⟩
  iapply (st_loadR c (lnd c 2) (o11 c) qR (rv m ρ c (lnd c 2))) $$ [HV2r]
  · iexact HV2r
  iintro HV2r
  rw [show k0_pay34 (r32 m ρ c) (r33 m ρ c) (rv m ρ c (lnd c 2)) = r34 m ρ c from rfl]
  iapply (WP_done c)
  iapply Hk
  isplitl [HO]; · iexact HO
  isplitl [HV2l]; · iexact HV2l
  isplitl [HV2m]; · iexact HV2m
  isplitl [HV2r]; · iexact HV2r
  iexact HZR2

theorem part21 (c : Dev nD) (v5 : BitVec 32) (v8 : BitVec 32) (v11 : BitVec 32) (v29 : BitVec 32) (v648 : BitVec 32) (v649 : BitVec 32) {Q : (Σ' (v706 : FVec F S512x1 .f32) (v712 : BitVec 32), BitVec 32) → sProp (MT nD τ sig Unit (Elt F) ℕ UU ℕ)} :
    iprop(records m ρ K
      ∗ (rx c 6)
      ∗ (ow c [])
      ∗ (rx c 4))
      ⊢ iprop((∀ (v712 : BitVec 32), ∀ (c1_i32_487 : BitVec 32), ((ow c [])
        ∗ (recvP c (lnd c 6) qL (rv m ρ c (lnd c 6)))
        ∗ (recvP c (lnd c 6) qM (rv m ρ c (lnd c 6)))
        ∗ (recvP c (lnd c 6) qR (rv m ρ c (lnd c 6)))
        ∗ (semVal (rcvC c 6) 0)
        ∗ (recvP c (lnd c 4) qL (rv m ρ c (lnd c 4)))
        ∗ (recvP c (lnd c 4) qM (rv m ρ c (lnd c 4)))
        ∗ (recvP c (lnd c 4) qR (rv m ρ c (lnd c 4)))
        ∗ (semVal (rcvC c 4) 0))
          -∗ Q ⟨(r35 m ρ c), v712, c1_i32_487⟩)
        -∗ WP c (k0_part21 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v5 v8 v11 v29 v648 v649 (r34 m ρ c)) Q) := by
  rw [k0_part21_eq_skeleton]
  unfold k0_part21_skel
  simp only [semSignalWord, semWaitWord, Prog.lift, Prog.bind_op, Prog.bind_ret, Prog.pure_eq_ret, wp_deviceId]
  iintro ⟨#HK, HR6, HO, HR4⟩ Hk
  iapply (st_waitR' m ρ K c 6 sem_14_1 (crR _ _) (l := []) (by decide)) $$ [HR6 HO]
  · isplitr; · iexact HK
    isplitl [HR6]; · iexact HR6
    iexact HO
  iintro ⟨HV6l, HV6m, HV6r, HZR6, HO⟩
  iapply (st_loadR c (lnd c 6) (o13 c) qR (rv m ρ c (lnd c 6))) $$ [HV6r]
  · iexact HV6r
  iintro HV6r
  iapply (st_waitR' m ρ K c 4 sem_12_2 (crR _ _) (l := []) (by decide)) $$ [HR4 HO]
  · isplitr; · iexact HK
    isplitl [HR4]; · iexact HR4
    iexact HO
  iintro ⟨HV4l, HV4m, HV4r, HZR4, HO⟩
  iapply (st_loadR c (lnd c 4) (o15 c) qR (rv m ρ c (lnd c 4))) $$ [HV4r]
  · iexact HV4r
  iintro HV4r
  rw [show k0_pay35 (r34 m ρ c) (rv m ρ c (lnd c 6)) (rv m ρ c (lnd c 4)) = r35 m ρ c from rfl]
  iapply (WP_done c)
  iapply Hk
  isplitl [HO]; · iexact HO
  isplitl [HV6l]; · iexact HV6l
  isplitl [HV6m]; · iexact HV6m
  isplitl [HV6r]; · iexact HV6r
  isplitl [HZR6]; · iexact HZR6
  isplitl [HV4l]; · iexact HV4l
  isplitl [HV4m]; · iexact HV4m
  isplitl [HV4r]; · iexact HV4r
  iexact HZR4

theorem part22 (c : Dev nD) (v2 : BitVec 32) (v8 : BitVec 32) (v649 : BitVec 32) (v712 : BitVec 32) (c1_i32_487 : BitVec 32) {Q : (Σ' (v728 : FVec F S512x1 .f32) (v745 : BitVec 32), FVec F S512x1024 .f32) → sProp (MT nD τ sig Unit (Elt F) ℕ UU ℕ)} :
    iprop(records m ρ K
      ∗ (rx c 7)
      ∗ (ow c [])
      ∗ (sendP c (ch c 0) qR (ebf m ρ c (ch c 0)))
      ∗ (sendP c (ch c 1) qR (ebf m ρ c (ch c 1)))
      ∗ (sendP c (ch c 2) qR (ebf m ρ c (ch c 2)))
      ∗ (sendP c (ch c 3) qR (ebf m ρ c (ch c 3)))
      ∗ (sendP c (ch c 4) qR (ebf m ρ c (ch c 4)))
      ∗ (sendP c (ch c 5) qR (ebf m ρ c (ch c 5)))
      ∗ (sendP c (ch c 6) qR (ebf m ρ c (ch c 6)))
      ∗ (sendP c (ch c 7) qR (ebf m ρ c (ch c 7)))
      ∗ (recvP c (lnd c 0) qR (rv m ρ c (lnd c 0)))
      ∗ (recvP c (lnd c 1) qR (rv m ρ c (lnd c 1)))
      ∗ (recvP c (lnd c 2) qR (rv m ρ c (lnd c 2)))
      ∗ (recvP c (lnd c 3) qR (rv m ρ c (lnd c 3)))
      ∗ (recvP c (lnd c 4) qR (rv m ρ c (lnd c 4)))
      ∗ (recvP c (lnd c 5) qR (rv m ρ c (lnd c 5)))
      ∗ (recvP c (lnd c 6) qR (rv m ρ c (lnd c 6)))
      ∗ (∃ X, owns (c : Thread nD τ) (slO ![0, 0, 0] inb_S2x512x1024_S1x512x1024_0_0_0) fullShare X)
      ∗ (∃ Y, yP c (nS c 0) Y)
      ∗ (semVal ((c : Thread nD τ), .dma 3) 0))
      ⊢ iprop((∀ (v745 : BitVec 32), ((ow c [])
        ∗ (recvP c (lnd c 7) qL (rv m ρ c (lnd c 7)))
        ∗ (recvP c (lnd c 7) qM (rv m ρ c (lnd c 7)))
        ∗ (semVal (rcvC c 7) 0)
        ∗ (sendP c 0 qR (ebf m ρ c 0))
        ∗ (sendP c 1 qR (ebf m ρ c 1))
        ∗ (sendP c 2 qR (ebf m ρ c 2))
        ∗ (sendP c 3 qR (ebf m ρ c 3))
        ∗ (sendP c 4 qR (ebf m ρ c 4))
        ∗ (sendP c 5 qR (ebf m ρ c 5))
        ∗ (sendP c 6 qR (ebf m ρ c 6))
        ∗ (sendP c 7 qR (ebf m ρ c 7))
        ∗ (recvP c 0 qR (rv m ρ c 0))
        ∗ (recvP c 1 qR (rv m ρ c 1))
        ∗ (recvP c 2 qR (rv m ρ c 2))
        ∗ (recvP c 3 qR (rv m ρ c 3))
        ∗ (recvP c 4 qR (rv m ρ c 4))
        ∗ (recvP c 5 qR (rv m ρ c 5))
        ∗ (recvP c 6 qR (rv m ρ c 6))
        ∗ (recvP c 7 qR (rv m ρ c 7))
        ∗ (FlO c ![0, 0, 0] inb_S2x512x1024_S1x512x1024_0_0_0 3 (nS c 0) (oS m ρ c 0)))
          -∗ Q ⟨(iv m ρ c), v745, (k0_pay38 (rv m ρ c 0))⟩)
        -∗ WP c (k0_part22 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 v8 (sl m ρ c 8) v649 (r35 m ρ c) v712 c1_i32_487) Q) := by
  rw [k0_part22_eq_skeleton]
  unfold k0_part22_skel
  simp only [semSignalWord, semWaitWord, Prog.lift, Prog.bind_op, Prog.bind_ret, Prog.pure_eq_ret, wp_deviceId]
  iintro ⟨#HK, HR7, HO, HS0r, HS1r, HS2r, HS3r, HS4r, HS5r, HS6r, HS7r, HV0r, HV1r, HV2r, HV3r, HV4r, HV5r, HV6r, HOS0, HYS0, HTS0⟩ Hk
  iapply (st_waitR' m ρ K c 7 sem_14_2 (crR _ _) (l := []) (by decide)) $$ [HR7 HO]
  · isplitr; · iexact HK
    isplitl [HR7]; · iexact HR7
    iexact HO
  iintro ⟨HV7l, HV7m, HV7r, HZR7, HO⟩
  iapply (st_loadR c (lnd c 7) (o17 c) qR (rv m ρ c (lnd c 7))) $$ [HV7r]
  · iexact HV7r
  iintro HV7r
  ihave HQS := (Entails.of_eq (send_order m ρ c)) $$ [HS0r HS1r HS2r HS3r HS4r HS5r HS6r HS7r]
  · isplitl [HS0r]; · iexact HS0r
    isplitl [HS1r]; · iexact HS1r
    isplitl [HS2r]; · iexact HS2r
    isplitl [HS3r]; · iexact HS3r
    isplitl [HS4r]; · iexact HS4r
    isplitl [HS5r]; · iexact HS5r
    isplitl [HS6r]; · iexact HS6r
    iexact HS7r
  icases HQS with ⟨HQS0, HQS1, HQS2, HQS3, HQS4, HQS5, HQS6, HQS7⟩
  ihave HQR := (Entails.of_eq (recv_order m ρ c)) $$ [HV0r HV1r HV2r HV3r HV4r HV5r HV6r HV7r]
  · isplitl [HV0r]; · iexact HV0r
    isplitl [HV1r]; · iexact HV1r
    isplitl [HV2r]; · iexact HV2r
    isplitl [HV3r]; · iexact HV3r
    isplitl [HV4r]; · iexact HV4r
    isplitl [HV5r]; · iexact HV5r
    isplitl [HV6r]; · iexact HV6r
    iexact HV7r
  icases HQR with ⟨HQR0, HQR1, HQR2, HQR3, HQR4, HQR5, HQR6, HQR7⟩
  iapply (st_loadS c 0 oL_0 qR (ebf m ρ c 0)) $$ [HQS0]
  · iexact HQS0
  iintro HQS0
  icases HOS0 with ⟨%XOS0, HOS0⟩
  iapply (st_loadOs c XOS0) $$ [HOS0]
  · iexact HOS0
  iintro HOS0
  iapply (st_storeOs c (w' := oS m ρ c 0) (po_37 _ _ _ _)) $$ [HOS0]
  · iexists _; iexact HOS0
  iintro HOS0
  iapply (st_issueO c (nS c 0) (o18_0 c) sem_8_0 (oS m ρ c 0)) $$ [HOS0 HYS0 HTS0]
  · isplitl [HOS0]; · iexact HOS0
    isplitl [HYS0]; · iexact HYS0
    iexact HTS0
  iintro HFO0
  iapply (st_loadR c 0 oL_0 qR (rv m ρ c 0)) $$ [HQR0]
  · iexact HQR0
  iintro HQR0
  rw [show k0_pay36 (sl m ρ c 8) (r35 m ρ c) (rv m ρ c (lnd c 7)) = iv m ρ c from rfl]
  rw [show k0_pay38 (rv m ρ c 0) = k0_pay38 (rv m ρ c 0) from rfl]
  iapply (WP_done c)
  iapply Hk
  isplitl [HO]; · iexact HO
  isplitl [HV7l]; · iexact HV7l
  isplitl [HV7m]; · iexact HV7m
  isplitl [HZR7]; · iexact HZR7
  isplitl [HQS0]; · iexact HQS0
  isplitl [HQS1]; · iexact HQS1
  isplitl [HQS2]; · iexact HQS2
  isplitl [HQS3]; · iexact HQS3
  isplitl [HQS4]; · iexact HQS4
  isplitl [HQS5]; · iexact HQS5
  isplitl [HQS6]; · iexact HQS6
  isplitl [HQS7]; · iexact HQS7
  isplitl [HQR0]; · iexact HQR0
  isplitl [HQR1]; · iexact HQR1
  isplitl [HQR2]; · iexact HQR2
  isplitl [HQR3]; · iexact HQR3
  isplitl [HQR4]; · iexact HQR4
  isplitl [HQR5]; · iexact HQR5
  isplitl [HQR6]; · iexact HQR6
  isplitl [HQR7]; · iexact HQR7
  iexact HFO0

end Cert.KProof
-- ==== Proof.Parts4.lean ====
/-
# The kernel's parts 23 to 28

What each part takes and leaves.
-/
module

public import proofs.«01_k».proof.Proof.Vals

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 65536
set_option maxHeartbeats 2000000

variable (m : (ℓ : Loc nD τ sig) → Buf (Elt F) ℓ) (ρ : Dev nD → PrngReg) (K : Dev nD × CI → ℕ)

theorem part23 (c : Dev nD) (v2 : BitVec 32) (v745 : BitVec 32) {Q : (PUnit) → sProp (MT nD τ sig Unit (Elt F) ℕ UU ℕ)} :
    iprop(records m ρ K
      ∗ (∃ X, owns (c : Thread nD τ) (slO ![1, 0, 0] inb_S2x512x1024_S1x512x1024_1_0_0) fullShare X)
      ∗ (∃ Y, yP c (nR c 0) Y)
      ∗ (semVal ((c : Thread nD τ), .dma 4) 0)
      ∗ (FlO c ![0, 0, 0] inb_S2x512x1024_S1x512x1024_0_0_0 3 (nS c 0) (oS m ρ c 0))
      ∗ (ow c [])
      ∗ (sendP c 1 qR (ebf m ρ c 1)))
      ⊢ iprop((((FlO c ![1, 0, 0] inb_S2x512x1024_S1x512x1024_1_0_0 4 (nR c 0) (oR m ρ c 0))
        ∗ (ow c [])
        ∗ (yP c (nS c 0) (oc (oS m ρ c 0)))
        ∗ (owns (c : Thread nD τ) (slO ![0, 0, 0] inb_S2x512x1024_S1x512x1024_0_0_0) fullShare (oS m ρ c 1))
        ∗ (semVal ((c : Thread nD τ), .dma 3) 0)
        ∗ (sendP c 1 qR (ebf m ρ c 1)))
          -∗ Q ⟨⟩)
        -∗ WP c (k0_part23 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 (iv m ρ c) v745 (k0_pay38 (rv m ρ c 0))) Q) := by
  rw [k0_part23_eq_skeleton]
  unfold k0_part23_skel
  simp only [semSignalWord, semWaitWord, Prog.lift, Prog.bind_op, Prog.bind_ret, Prog.pure_eq_ret, wp_deviceId]
  iintro ⟨#HK, HOS1, HYR0, HTS1, HFO0, HO, HQS1⟩ Hk
  icases HOS1 with ⟨%XOS1, HOS1⟩
  iapply (st_loadOs c XOS1) $$ [HOS1]
  · iexact HOS1
  iintro HOS1
  iapply (st_storeOs c (w' := oR m ρ c 0) (po_39 _ _)) $$ [HOS1]
  · iexists _; iexact HOS1
  iintro HOS1
  iapply (st_issueO c (nR c 0) (o19_0 c) sem_8_1 (oR m ρ c 0)) $$ [HOS1 HYR0 HTS1]
  · isplitl [HOS1]; · iexact HOS1
    isplitl [HYR0]; · iexact HYR0
    iexact HTS1
  iintro HFO1
  iapply (st_waitO m ρ K c (nS c 0) (oS m ρ c 0) sem_8_0 (crO _ _ _) (l := []) (by decide)) $$ [HFO0 HO]
  · isplitr; · iexact HK
    isplitl [HFO0]; · iexact HFO0
    iexact HO
  iintro ⟨HZYS0, HOS0, HTS0, HO⟩
  iapply (st_loadS c 1 oL_1 qR (ebf m ρ c 1)) $$ [HQS1]
  · iexact HQS1
  iintro HQS1
  iapply (st_loadOs c (oS m ρ c 0)) $$ [HOS0]
  · iexact HOS0
  iintro HOS0
  iapply (st_storeOs c (w' := oS m ρ c 1) rfl) $$ [HOS0]
  · iexists _; iexact HOS0
  iintro HOS0
  iapply (WP_done c)
  iapply Hk
  isplitl [HFO1]; · iexact HFO1
  isplitl [HO]; · iexact HO
  isplitl [HZYS0]; · iexact HZYS0
  isplitl [HOS0]; · iexact HOS0
  isplitl [HTS0]; · iexact HTS0
  iexact HQS1

theorem part24 (c : Dev nD) (v2 : BitVec 32) {Q : (BitVec 32) → sProp (MT nD τ sig Unit (Elt F) ℕ UU ℕ)} :
    iprop(records m ρ K
      ∗ (owns (c : Thread nD τ) (slO ![0, 0, 0] inb_S2x512x1024_S1x512x1024_0_0_0) fullShare (oS m ρ c 1))
      ∗ (∃ Y, yP c (nS c 1) Y)
      ∗ (semVal ((c : Thread nD τ), .dma 3) 0)
      ∗ (FlO c ![1, 0, 0] inb_S2x512x1024_S1x512x1024_1_0_0 4 (nR c 0) (oR m ρ c 0))
      ∗ (ow c [])
      ∗ (recvP c 1 qR (rv m ρ c 1))
      ∗ (∃ Y, yP c (nR c 1) Y))
      ⊢ iprop((∀ (v803 : BitVec 32), ((FlO c ![0, 0, 0] inb_S2x512x1024_S1x512x1024_0_0_0 3 (nS c 1) (oS m ρ c 1))
        ∗ (FlO c ![1, 0, 0] inb_S2x512x1024_S1x512x1024_1_0_0 4 (nR c 1) (oR m ρ c 1))
        ∗ (ow c [])
        ∗ (yP c (nR c 0) (oc (oR m ρ c 0)))
        ∗ (recvP c 1 qR (rv m ρ c 1)))
          -∗ Q v803)
        -∗ WP c (k0_part24 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 (iv m ρ c)) Q) := by
  rw [k0_part24_eq_skeleton]
  unfold k0_part24_skel
  simp only [semSignalWord, semWaitWord, Prog.lift, Prog.bind_op, Prog.bind_ret, Prog.pure_eq_ret, wp_deviceId]
  iintro ⟨#HK, HOS0, HYS1, HTS0, HFO1, HO, HQR1, HYR1⟩ Hk
  iapply (st_issueO c (nS c 1) (o18_1 c) sem_8_0 (oS m ρ c 1)) $$ [HOS0 HYS1 HTS0]
  · isplitl [HOS0]; · iexact HOS0
    isplitl [HYS1]; · iexact HYS1
    iexact HTS0
  iintro HFO0
  iapply (st_waitO m ρ K c (nR c 0) (oR m ρ c 0) sem_8_1 (crO _ _ _) (l := []) (by decide)) $$ [HFO1 HO]
  · isplitr; · iexact HK
    isplitl [HFO1]; · iexact HFO1
    iexact HO
  iintro ⟨HZYR0, HOS1, HTS1, HO⟩
  iapply (st_loadR c 1 oL_1 qR (rv m ρ c 1)) $$ [HQR1]
  · iexact HQR1
  iintro HQR1
  iapply (st_loadOs c (oR m ρ c 0)) $$ [HOS1]
  · iexact HOS1
  iintro HOS1
  iapply (st_storeOs c (w' := oR m ρ c 1) (po_41 _ _)) $$ [HOS1]
  · iexists _; iexact HOS1
  iintro HOS1
  iapply (st_issueO c (nR c 1) (o19_1 c) sem_8_1 (oR m ρ c 1)) $$ [HOS1 HYR1 HTS1]
  · isplitl [HOS1]; · iexact HOS1
    isplitl [HYR1]; · iexact HYR1
    iexact HTS1
  iintro HFO1
  iapply (WP_done c)
  iapply Hk
  isplitl [HFO0]; · iexact HFO0
  isplitl [HFO1]; · iexact HFO1
  isplitl [HO]; · iexact HO
  isplitl [HZYR0]; · iexact HZYR0
  iexact HQR1

theorem part25 (c : Dev nD) (v2 : BitVec 32) (v803 : BitVec 32) {Q : (Σ' (v825 : BitVec 32), FVec F S512x1024 .bf16) → sProp (MT nD τ sig Unit (Elt F) ℕ UU ℕ)} :
    iprop(records m ρ K
      ∗ (FlO c ![0, 0, 0] inb_S2x512x1024_S1x512x1024_0_0_0 3 (nS c 1) (oS m ρ c 1))
      ∗ (ow c [])
      ∗ (sendP c 2 qR (ebf m ρ c 2))
      ∗ (∃ Y, yP c (nS c 2) Y)
      ∗ (FlO c ![1, 0, 0] inb_S2x512x1024_S1x512x1024_1_0_0 4 (nR c 1) (oR m ρ c 1))
      ∗ (recvP c 2 qR (rv m ρ c 2)))
      ⊢ iprop((∀ (v825 : BitVec 32), ((FlO c ![0, 0, 0] inb_S2x512x1024_S1x512x1024_0_0_0 3 (nS c 2) (oS m ρ c 2))
        ∗ (ow c [])
        ∗ (yP c (nS c 1) (oc (oS m ρ c 1)))
        ∗ (sendP c 2 qR (ebf m ρ c 2))
        ∗ (yP c (nR c 1) (oc (oR m ρ c 1)))
        ∗ (owns (c : Thread nD τ) (slO ![1, 0, 0] inb_S2x512x1024_S1x512x1024_1_0_0) fullShare (oR m ρ c 1))
        ∗ (semVal ((c : Thread nD τ), .dma 4) 0)
        ∗ (recvP c 2 qR (rv m ρ c 2)))
          -∗ Q ⟨v825, (k0_pay43 (iv m ρ c) (rv m ρ c 2))⟩)
        -∗ WP c (k0_part25 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 (iv m ρ c) v803) Q) := by
  rw [k0_part25_eq_skeleton]
  unfold k0_part25_skel
  simp only [semSignalWord, semWaitWord, Prog.lift, Prog.bind_op, Prog.bind_ret, Prog.pure_eq_ret, wp_deviceId]
  iintro ⟨#HK, HFO0, HO, HQS2, HYS2, HFO1, HQR2⟩ Hk
  iapply (st_waitO m ρ K c (nS c 1) (oS m ρ c 1) sem_8_0 (crO _ _ _) (l := []) (by decide)) $$ [HFO0 HO]
  · isplitr; · iexact HK
    isplitl [HFO0]; · iexact HFO0
    iexact HO
  iintro ⟨HZYS1, HOS0, HTS0, HO⟩
  iapply (st_loadS c 2 oL_2 qR (ebf m ρ c 2)) $$ [HQS2]
  · iexact HQS2
  iintro HQS2
  iapply (st_loadOs c (oS m ρ c 1)) $$ [HOS0]
  · iexact HOS0
  iintro HOS0
  iapply (st_storeOs c (w' := oS m ρ c 2) (po_42 _ _)) $$ [HOS0]
  · iexists _; iexact HOS0
  iintro HOS0
  iapply (st_issueO c (nS c 2) (o18_2 c) sem_8_0 (oS m ρ c 2)) $$ [HOS0 HYS2 HTS0]
  · isplitl [HOS0]; · iexact HOS0
    isplitl [HYS2]; · iexact HYS2
    iexact HTS0
  iintro HFO0
  iapply (st_waitO m ρ K c (nR c 1) (oR m ρ c 1) sem_8_1 (crO _ _ _) (l := []) (by decide)) $$ [HFO1 HO]
  · isplitr; · iexact HK
    isplitl [HFO1]; · iexact HFO1
    iexact HO
  iintro ⟨HZYR1, HOS1, HTS1, HO⟩
  iapply (st_loadR c 2 oL_2 qR (rv m ρ c 2)) $$ [HQR2]
  · iexact HQR2
  iintro HQR2
  rw [show k0_pay43 (iv m ρ c) (rv m ρ c 2) = k0_pay43 (iv m ρ c) (rv m ρ c 2) from rfl]
  iapply (WP_done c)
  iapply Hk
  isplitl [HFO0]; · iexact HFO0
  isplitl [HO]; · iexact HO
  isplitl [HZYS1]; · iexact HZYS1
  isplitl [HQS2]; · iexact HQS2
  isplitl [HZYR1]; · iexact HZYR1
  isplitl [HOS1]; · iexact HOS1
  isplitl [HTS1]; · iexact HTS1
  iexact HQR2

theorem part26 (c : Dev nD) (v2 : BitVec 32) (v825 : BitVec 32) {Q : (PUnit) → sProp (MT nD τ sig Unit (Elt F) ℕ UU ℕ)} :
    iprop(records m ρ K
      ∗ (owns (c : Thread nD τ) (slO ![1, 0, 0] inb_S2x512x1024_S1x512x1024_1_0_0) fullShare (oR m ρ c 1))
      ∗ (∃ Y, yP c (nR c 2) Y)
      ∗ (semVal ((c : Thread nD τ), .dma 4) 0)
      ∗ (FlO c ![0, 0, 0] inb_S2x512x1024_S1x512x1024_0_0_0 3 (nS c 2) (oS m ρ c 2))
      ∗ (ow c [])
      ∗ (sendP c 3 qR (ebf m ρ c 3)))
      ⊢ iprop((((FlO c ![1, 0, 0] inb_S2x512x1024_S1x512x1024_1_0_0 4 (nR c 2) (oR m ρ c 2))
        ∗ (ow c [])
        ∗ (yP c (nS c 2) (oc (oS m ρ c 2)))
        ∗ (owns (c : Thread nD τ) (slO ![0, 0, 0] inb_S2x512x1024_S1x512x1024_0_0_0) fullShare (oS m ρ c 3))
        ∗ (semVal ((c : Thread nD τ), .dma 3) 0)
        ∗ (sendP c 3 qR (ebf m ρ c 3)))
          -∗ Q ⟨⟩)
        -∗ WP c (k0_part26 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 (iv m ρ c) v825 (k0_pay43 (iv m ρ c) (rv m ρ c 2))) Q) := by
  rw [k0_part26_eq_skeleton]
  unfold k0_part26_skel
  simp only [semSignalWord, semWaitWord, Prog.lift, Prog.bind_op, Prog.bind_ret, Prog.pure_eq_ret, wp_deviceId]
  iintro ⟨#HK, HOS1, HYR2, HTS1, HFO0, HO, HQS3⟩ Hk
  iapply (st_loadOs c (oR m ρ c 1)) $$ [HOS1]
  · iexact HOS1
  iintro HOS1
  iapply (st_storeOs c (w' := oR m ρ c 2) (po_44 _ _)) $$ [HOS1]
  · iexists _; iexact HOS1
  iintro HOS1
  iapply (st_issueO c (nR c 2) (o19_2 c) sem_8_1 (oR m ρ c 2)) $$ [HOS1 HYR2 HTS1]
  · isplitl [HOS1]; · iexact HOS1
    isplitl [HYR2]; · iexact HYR2
    iexact HTS1
  iintro HFO1
  iapply (st_waitO m ρ K c (nS c 2) (oS m ρ c 2) sem_8_0 (crO _ _ _) (l := []) (by decide)) $$ [HFO0 HO]
  · isplitr; · iexact HK
    isplitl [HFO0]; · iexact HFO0
    iexact HO
  iintro ⟨HZYS2, HOS0, HTS0, HO⟩
  iapply (st_loadS c 3 oL_3 qR (ebf m ρ c 3)) $$ [HQS3]
  · iexact HQS3
  iintro HQS3
  iapply (st_loadOs c (oS m ρ c 2)) $$ [HOS0]
  · iexact HOS0
  iintro HOS0
  iapply (st_storeOs c (w' := oS m ρ c 3) (po_45 _ _)) $$ [HOS0]
  · iexists _; iexact HOS0
  iintro HOS0
  iapply (WP_done c)
  iapply Hk
  isplitl [HFO1]; · iexact HFO1
  isplitl [HO]; · iexact HO
  isplitl [HZYS2]; · iexact HZYS2
  isplitl [HOS0]; · iexact HOS0
  isplitl [HTS0]; · iexact HTS0
  iexact HQS3

theorem part27 (c : Dev nD) (v2 : BitVec 32) {Q : (BitVec 32) → sProp (MT nD τ sig Unit (Elt F) ℕ UU ℕ)} :
    iprop(records m ρ K
      ∗ (owns (c : Thread nD τ) (slO ![0, 0, 0] inb_S2x512x1024_S1x512x1024_0_0_0) fullShare (oS m ρ c 3))
      ∗ (∃ Y, yP c (nS c 3) Y)
      ∗ (semVal ((c : Thread nD τ), .dma 3) 0)
      ∗ (FlO c ![1, 0, 0] inb_S2x512x1024_S1x512x1024_1_0_0 4 (nR c 2) (oR m ρ c 2))
      ∗ (ow c [])
      ∗ (recvP c 3 qR (rv m ρ c 3))
      ∗ (∃ Y, yP c (nR c 3) Y))
      ⊢ iprop((∀ (v889 : BitVec 32), ((FlO c ![0, 0, 0] inb_S2x512x1024_S1x512x1024_0_0_0 3 (nS c 3) (oS m ρ c 3))
        ∗ (FlO c ![1, 0, 0] inb_S2x512x1024_S1x512x1024_1_0_0 4 (nR c 3) (oR m ρ c 3))
        ∗ (ow c [])
        ∗ (yP c (nR c 2) (oc (oR m ρ c 2)))
        ∗ (recvP c 3 qR (rv m ρ c 3)))
          -∗ Q v889)
        -∗ WP c (k0_part27 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 (iv m ρ c)) Q) := by
  rw [k0_part27_eq_skeleton]
  unfold k0_part27_skel
  simp only [semSignalWord, semWaitWord, Prog.lift, Prog.bind_op, Prog.bind_ret, Prog.pure_eq_ret, wp_deviceId]
  iintro ⟨#HK, HOS0, HYS3, HTS0, HFO1, HO, HQR3, HYR3⟩ Hk
  iapply (st_issueO c (nS c 3) (o18_3 c) sem_8_0 (oS m ρ c 3)) $$ [HOS0 HYS3 HTS0]
  · isplitl [HOS0]; · iexact HOS0
    isplitl [HYS3]; · iexact HYS3
    iexact HTS0
  iintro HFO0
  iapply (st_waitO m ρ K c (nR c 2) (oR m ρ c 2) sem_8_1 (crO _ _ _) (l := []) (by decide)) $$ [HFO1 HO]
  · isplitr; · iexact HK
    isplitl [HFO1]; · iexact HFO1
    iexact HO
  iintro ⟨HZYR2, HOS1, HTS1, HO⟩
  iapply (st_loadR c 3 oL_3 qR (rv m ρ c 3)) $$ [HQR3]
  · iexact HQR3
  iintro HQR3
  iapply (st_loadOs c (oR m ρ c 2)) $$ [HOS1]
  · iexact HOS1
  iintro HOS1
  iapply (st_storeOs c (w' := oR m ρ c 3) (po_46 _ _)) $$ [HOS1]
  · iexists _; iexact HOS1
  iintro HOS1
  iapply (st_issueO c (nR c 3) (o19_3 c) sem_8_1 (oR m ρ c 3)) $$ [HOS1 HYR3 HTS1]
  · isplitl [HOS1]; · iexact HOS1
    isplitl [HYR3]; · iexact HYR3
    iexact HTS1
  iintro HFO1
  iapply (WP_done c)
  iapply Hk
  isplitl [HFO0]; · iexact HFO0
  isplitl [HFO1]; · iexact HFO1
  isplitl [HO]; · iexact HO
  isplitl [HZYR2]; · iexact HZYR2
  iexact HQR3

theorem part28 (c : Dev nD) (v2 : BitVec 32) (v889 : BitVec 32) {Q : (Σ' (v911 : BitVec 32), FVec F S512x1024 .bf16) → sProp (MT nD τ sig Unit (Elt F) ℕ UU ℕ)} :
    iprop(records m ρ K
      ∗ (FlO c ![0, 0, 0] inb_S2x512x1024_S1x512x1024_0_0_0 3 (nS c 3) (oS m ρ c 3))
      ∗ (ow c [])
      ∗ (sendP c 4 qR (ebf m ρ c 4))
      ∗ (∃ Y, yP c (nS c 4) Y)
      ∗ (FlO c ![1, 0, 0] inb_S2x512x1024_S1x512x1024_1_0_0 4 (nR c 3) (oR m ρ c 3))
      ∗ (recvP c 4 qR (rv m ρ c 4)))
      ⊢ iprop((∀ (v911 : BitVec 32), ((FlO c ![0, 0, 0] inb_S2x512x1024_S1x512x1024_0_0_0 3 (nS c 4) (oS m ρ c 4))
        ∗ (ow c [])
        ∗ (yP c (nS c 3) (oc (oS m ρ c 3)))
        ∗ (sendP c 4 qR (ebf m ρ c 4))
        ∗ (yP c (nR c 3) (oc (oR m ρ c 3)))
        ∗ (owns (c : Thread nD τ) (slO ![1, 0, 0] inb_S2x512x1024_S1x512x1024_1_0_0) fullShare (oR m ρ c 3))
        ∗ (semVal ((c : Thread nD τ), .dma 4) 0)
        ∗ (recvP c 4 qR (rv m ρ c 4)))
          -∗ Q ⟨v911, (k0_pay48 (iv m ρ c) (rv m ρ c 4))⟩)
        -∗ WP c (k0_part28 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 (iv m ρ c) v889) Q) := by
  rw [k0_part28_eq_skeleton]
  unfold k0_part28_skel
  simp only [semSignalWord, semWaitWord, Prog.lift, Prog.bind_op, Prog.bind_ret, Prog.pure_eq_ret, wp_deviceId]
  iintro ⟨#HK, HFO0, HO, HQS4, HYS4, HFO1, HQR4⟩ Hk
  iapply (st_waitO m ρ K c (nS c 3) (oS m ρ c 3) sem_8_0 (crO _ _ _) (l := []) (by decide)) $$ [HFO0 HO]
  · isplitr; · iexact HK
    isplitl [HFO0]; · iexact HFO0
    iexact HO
  iintro ⟨HZYS3, HOS0, HTS0, HO⟩
  iapply (st_loadS c 4 oL_4 qR (ebf m ρ c 4)) $$ [HQS4]
  · iexact HQS4
  iintro HQS4
  iapply (st_loadOs c (oS m ρ c 3)) $$ [HOS0]
  · iexact HOS0
  iintro HOS0
  iapply (st_storeOs c (w' := oS m ρ c 4) (po_47 _ _)) $$ [HOS0]
  · iexists _; iexact HOS0
  iintro HOS0
  iapply (st_issueO c (nS c 4) (o18_4 c) sem_8_0 (oS m ρ c 4)) $$ [HOS0 HYS4 HTS0]
  · isplitl [HOS0]; · iexact HOS0
    isplitl [HYS4]; · iexact HYS4
    iexact HTS0
  iintro HFO0
  iapply (st_waitO m ρ K c (nR c 3) (oR m ρ c 3) sem_8_1 (crO _ _ _) (l := []) (by decide)) $$ [HFO1 HO]
  · isplitr; · iexact HK
    isplitl [HFO1]; · iexact HFO1
    iexact HO
  iintro ⟨HZYR3, HOS1, HTS1, HO⟩
  iapply (st_loadR c 4 oL_4 qR (rv m ρ c 4)) $$ [HQR4]
  · iexact HQR4
  iintro HQR4
  iapply (st_loadOs c (oR m ρ c 3)) $$ [HOS1]
  · iexact HOS1
  iintro HOS1
  rw [show k0_pay48 (iv m ρ c) (rv m ρ c 4) = k0_pay48 (iv m ρ c) (rv m ρ c 4) from rfl]
  iapply (WP_done c)
  iapply Hk
  isplitl [HFO0]; · iexact HFO0
  isplitl [HO]; · iexact HO
  isplitl [HZYS3]; · iexact HZYS3
  isplitl [HQS4]; · iexact HQS4
  isplitl [HZYR3]; · iexact HZYR3
  isplitl [HOS1]; · iexact HOS1
  isplitl [HTS1]; · iexact HTS1
  iexact HQR4

end Cert.KProof
-- ==== Proof.Parts5.lean ====
/-
# The kernel's parts 29 to 34

What each part takes and leaves.
-/
module

public import proofs.«01_k».proof.Proof.Vals

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 65536
set_option maxHeartbeats 2000000

variable (m : (ℓ : Loc nD τ sig) → Buf (Elt F) ℓ) (ρ : Dev nD → PrngReg) (K : Dev nD × CI → ℕ)

theorem part29 (c : Dev nD) (v2 : BitVec 32) (v911 : BitVec 32) {Q : (BitVec 32) → sProp (MT nD τ sig Unit (Elt F) ℕ UU ℕ)} :
    iprop(records m ρ K
      ∗ (owns (c : Thread nD τ) (slO ![1, 0, 0] inb_S2x512x1024_S1x512x1024_1_0_0) fullShare (oR m ρ c 3))
      ∗ (∃ Y, yP c (nR c 4) Y)
      ∗ (semVal ((c : Thread nD τ), .dma 4) 0)
      ∗ (FlO c ![0, 0, 0] inb_S2x512x1024_S1x512x1024_0_0_0 3 (nS c 4) (oS m ρ c 4))
      ∗ (ow c [])
      ∗ (sendP c 5 qR (ebf m ρ c 5))
      ∗ (∃ Y, yP c (nS c 5) Y))
      ⊢ iprop((∀ (v953 : BitVec 32), ((FlO c ![1, 0, 0] inb_S2x512x1024_S1x512x1024_1_0_0 4 (nR c 4) (oR m ρ c 4))
        ∗ (FlO c ![0, 0, 0] inb_S2x512x1024_S1x512x1024_0_0_0 3 (nS c 5) (oS m ρ c 5))
        ∗ (ow c [])
        ∗ (yP c (nS c 4) (oc (oS m ρ c 4)))
        ∗ (sendP c 5 qR (ebf m ρ c 5)))
          -∗ Q v953)
        -∗ WP c (k0_part29 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 (iv m ρ c) v911 (k0_pay48 (iv m ρ c) (rv m ρ c 4))) Q) := by
  rw [k0_part29_eq_skeleton]
  unfold k0_part29_skel
  simp only [semSignalWord, semWaitWord, Prog.lift, Prog.bind_op, Prog.bind_ret, Prog.pure_eq_ret, wp_deviceId]
  iintro ⟨#HK, HOS1, HYR4, HTS1, HFO0, HO, HQS5, HYS5⟩ Hk
  iapply (st_storeOs c (w' := oR m ρ c 4) (po_49 _ _)) $$ [HOS1]
  · iexists _; iexact HOS1
  iintro HOS1
  iapply (st_issueO c (nR c 4) (o19_4 c) sem_8_1 (oR m ρ c 4)) $$ [HOS1 HYR4 HTS1]
  · isplitl [HOS1]; · iexact HOS1
    isplitl [HYR4]; · iexact HYR4
    iexact HTS1
  iintro HFO1
  iapply (st_waitO m ρ K c (nS c 4) (oS m ρ c 4) sem_8_0 (crO _ _ _) (l := []) (by decide)) $$ [HFO0 HO]
  · isplitr; · iexact HK
    isplitl [HFO0]; · iexact HFO0
    iexact HO
  iintro ⟨HZYS4, HOS0, HTS0, HO⟩
  iapply (st_loadS c 5 oL_5 qR (ebf m ρ c 5)) $$ [HQS5]
  · iexact HQS5
  iintro HQS5
  iapply (st_loadOs c (oS m ρ c 4)) $$ [HOS0]
  · iexact HOS0
  iintro HOS0
  iapply (st_storeOs c (w' := oS m ρ c 5) (po_50 _ _)) $$ [HOS0]
  · iexists _; iexact HOS0
  iintro HOS0
  iapply (st_issueO c (nS c 5) (o18_5 c) sem_8_0 (oS m ρ c 5)) $$ [HOS0 HYS5 HTS0]
  · isplitl [HOS0]; · iexact HOS0
    isplitl [HYS5]; · iexact HYS5
    iexact HTS0
  iintro HFO0
  iapply (WP_done c)
  iapply Hk
  isplitl [HFO1]; · iexact HFO1
  isplitl [HFO0]; · iexact HFO0
  isplitl [HO]; · iexact HO
  isplitl [HZYS4]; · iexact HZYS4
  iexact HQS5

theorem part30 (c : Dev nD) (v2 : BitVec 32) (v953 : BitVec 32) {Q : (BitVec 32) → sProp (MT nD τ sig Unit (Elt F) ℕ UU ℕ)} :
    iprop(records m ρ K
      ∗ (FlO c ![1, 0, 0] inb_S2x512x1024_S1x512x1024_1_0_0 4 (nR c 4) (oR m ρ c 4))
      ∗ (ow c [])
      ∗ (recvP c 5 qR (rv m ρ c 5))
      ∗ (∃ Y, yP c (nR c 5) Y)
      ∗ (FlO c ![0, 0, 0] inb_S2x512x1024_S1x512x1024_0_0_0 3 (nS c 5) (oS m ρ c 5)))
      ⊢ iprop((∀ (v975 : BitVec 32), ((FlO c ![1, 0, 0] inb_S2x512x1024_S1x512x1024_1_0_0 4 (nR c 5) (oR m ρ c 5))
        ∗ (ow c [])
        ∗ (yP c (nR c 4) (oc (oR m ρ c 4)))
        ∗ (recvP c 5 qR (rv m ρ c 5))
        ∗ (yP c (nS c 5) (oc (oS m ρ c 5)))
        ∗ (owns (c : Thread nD τ) (slO ![0, 0, 0] inb_S2x512x1024_S1x512x1024_0_0_0) fullShare (oS m ρ c 5))
        ∗ (semVal ((c : Thread nD τ), .dma 3) 0))
          -∗ Q v975)
        -∗ WP c (k0_part30 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 (iv m ρ c) v953) Q) := by
  rw [k0_part30_eq_skeleton]
  unfold k0_part30_skel
  simp only [semSignalWord, semWaitWord, Prog.lift, Prog.bind_op, Prog.bind_ret, Prog.pure_eq_ret, wp_deviceId]
  iintro ⟨#HK, HFO1, HO, HQR5, HYR5, HFO0⟩ Hk
  iapply (st_waitO m ρ K c (nR c 4) (oR m ρ c 4) sem_8_1 (crO _ _ _) (l := []) (by decide)) $$ [HFO1 HO]
  · isplitr; · iexact HK
    isplitl [HFO1]; · iexact HFO1
    iexact HO
  iintro ⟨HZYR4, HOS1, HTS1, HO⟩
  iapply (st_loadR c 5 oL_5 qR (rv m ρ c 5)) $$ [HQR5]
  · iexact HQR5
  iintro HQR5
  iapply (st_loadOs c (oR m ρ c 4)) $$ [HOS1]
  · iexact HOS1
  iintro HOS1
  iapply (st_storeOs c (w' := oR m ρ c 5) (po_51 _ _)) $$ [HOS1]
  · iexists _; iexact HOS1
  iintro HOS1
  iapply (st_issueO c (nR c 5) (o19_5 c) sem_8_1 (oR m ρ c 5)) $$ [HOS1 HYR5 HTS1]
  · isplitl [HOS1]; · iexact HOS1
    isplitl [HYR5]; · iexact HYR5
    iexact HTS1
  iintro HFO1
  iapply (st_waitO m ρ K c (nS c 5) (oS m ρ c 5) sem_8_0 (crO _ _ _) (l := []) (by decide)) $$ [HFO0 HO]
  · isplitr; · iexact HK
    isplitl [HFO0]; · iexact HFO0
    iexact HO
  iintro ⟨HZYS5, HOS0, HTS0, HO⟩
  iapply (WP_done c)
  iapply Hk
  isplitl [HFO1]; · iexact HFO1
  isplitl [HO]; · iexact HO
  isplitl [HZYR4]; · iexact HZYR4
  isplitl [HQR5]; · iexact HQR5
  isplitl [HZYS5]; · iexact HZYS5
  isplitl [HOS0]; · iexact HOS0
  iexact HTS0

theorem part31 (c : Dev nD) (v2 : BitVec 32) (v975 : BitVec 32) {Q : (PUnit) → sProp (MT nD τ sig Unit (Elt F) ℕ UU ℕ)} :
    iprop(records m ρ K
      ∗ (sendP c 6 qR (ebf m ρ c 6))
      ∗ (owns (c : Thread nD τ) (slO ![0, 0, 0] inb_S2x512x1024_S1x512x1024_0_0_0) fullShare (oS m ρ c 5))
      ∗ (∃ Y, yP c (nS c 6) Y)
      ∗ (semVal ((c : Thread nD τ), .dma 3) 0)
      ∗ (FlO c ![1, 0, 0] inb_S2x512x1024_S1x512x1024_1_0_0 4 (nR c 5) (oR m ρ c 5))
      ∗ (ow c [])
      ∗ (recvP c 6 qR (rv m ρ c 6)))
      ⊢ iprop((((sendP c 6 qR (ebf m ρ c 6))
        ∗ (FlO c ![0, 0, 0] inb_S2x512x1024_S1x512x1024_0_0_0 3 (nS c 6) (oS m ρ c 6))
        ∗ (ow c [])
        ∗ (yP c (nR c 5) (oc (oR m ρ c 5)))
        ∗ (owns (c : Thread nD τ) (slO ![1, 0, 0] inb_S2x512x1024_S1x512x1024_1_0_0) fullShare (oR m ρ c 6))
        ∗ (semVal ((c : Thread nD τ), .dma 4) 0)
        ∗ (recvP c 6 qR (rv m ρ c 6)))
          -∗ Q ⟨⟩)
        -∗ WP c (k0_part31 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 (iv m ρ c) v975) Q) := by
  rw [k0_part31_eq_skeleton]
  unfold k0_part31_skel
  simp only [semSignalWord, semWaitWord, Prog.lift, Prog.bind_op, Prog.bind_ret, Prog.pure_eq_ret, wp_deviceId]
  iintro ⟨#HK, HQS6, HOS0, HYS6, HTS0, HFO1, HO, HQR6⟩ Hk
  iapply (st_loadS c 6 oL_6 qR (ebf m ρ c 6)) $$ [HQS6]
  · iexact HQS6
  iintro HQS6
  iapply (st_loadOs c (oS m ρ c 5)) $$ [HOS0]
  · iexact HOS0
  iintro HOS0
  iapply (st_storeOs c (w' := oS m ρ c 6) (po_52 _ _)) $$ [HOS0]
  · iexists _; iexact HOS0
  iintro HOS0
  iapply (st_issueO c (nS c 6) (o18_6 c) sem_8_0 (oS m ρ c 6)) $$ [HOS0 HYS6 HTS0]
  · isplitl [HOS0]; · iexact HOS0
    isplitl [HYS6]; · iexact HYS6
    iexact HTS0
  iintro HFO0
  iapply (st_waitO m ρ K c (nR c 5) (oR m ρ c 5) sem_8_1 (crO _ _ _) (l := []) (by decide)) $$ [HFO1 HO]
  · isplitr; · iexact HK
    isplitl [HFO1]; · iexact HFO1
    iexact HO
  iintro ⟨HZYR5, HOS1, HTS1, HO⟩
  iapply (st_loadR c 6 oL_6 qR (rv m ρ c 6)) $$ [HQR6]
  · iexact HQR6
  iintro HQR6
  iapply (st_loadOs c (oR m ρ c 5)) $$ [HOS1]
  · iexact HOS1
  iintro HOS1
  iapply (st_storeOs c (w' := oR m ρ c 6) (po_53 _ _)) $$ [HOS1]
  · iexists _; iexact HOS1
  iintro HOS1
  iapply (WP_done c)
  iapply Hk
  isplitl [HQS6]; · iexact HQS6
  isplitl [HFO0]; · iexact HFO0
  isplitl [HO]; · iexact HO
  isplitl [HZYR5]; · iexact HZYR5
  isplitl [HOS1]; · iexact HOS1
  isplitl [HTS1]; · iexact HTS1
  iexact HQR6

theorem part32 (c : Dev nD) (v2 : BitVec 32) {Q : (BitVec 32) → sProp (MT nD τ sig Unit (Elt F) ℕ UU ℕ)} :
    iprop(records m ρ K
      ∗ (owns (c : Thread nD τ) (slO ![1, 0, 0] inb_S2x512x1024_S1x512x1024_1_0_0) fullShare (oR m ρ c 6))
      ∗ (∃ Y, yP c (nR c 6) Y)
      ∗ (semVal ((c : Thread nD τ), .dma 4) 0)
      ∗ (FlO c ![0, 0, 0] inb_S2x512x1024_S1x512x1024_0_0_0 3 (nS c 6) (oS m ρ c 6))
      ∗ (ow c [])
      ∗ (sendP c 7 qR (ebf m ρ c 7))
      ∗ (∃ Y, yP c (nS c 7) Y))
      ⊢ iprop((∀ (v1040 : BitVec 32), ((FlO c ![1, 0, 0] inb_S2x512x1024_S1x512x1024_1_0_0 4 (nR c 6) (oR m ρ c 6))
        ∗ (FlO c ![0, 0, 0] inb_S2x512x1024_S1x512x1024_0_0_0 3 (nS c 7) (oS m ρ c 7))
        ∗ (ow c [])
        ∗ (yP c (nS c 6) (oc (oS m ρ c 6)))
        ∗ (sendP c 7 qR (ebf m ρ c 7)))
          -∗ Q v1040)
        -∗ WP c (k0_part32 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c v2 (iv m ρ c)) Q) := by
  rw [k0_part32_eq_skeleton]
  unfold k0_part32_skel
  simp only [semSignalWord, semWaitWord, Prog.lift, Prog.bind_op, Prog.bind_ret, Prog.pure_eq_ret, wp_deviceId]
  iintro ⟨#HK, HOS1, HYR6, HTS1, HFO0, HO, HQS7, HYS7⟩ Hk
  iapply (st_issueO c (nR c 6) (o19_6 c) sem_8_1 (oR m ρ c 6)) $$ [HOS1 HYR6 HTS1]
  · isplitl [HOS1]; · iexact HOS1
    isplitl [HYR6]; · iexact HYR6
    iexact HTS1
  iintro HFO1
  iapply (st_waitO m ρ K c (nS c 6) (oS m ρ c 6) sem_8_0 (crO _ _ _) (l := []) (by decide)) $$ [HFO0 HO]
  · isplitr; · iexact HK
    isplitl [HFO0]; · iexact HFO0
    iexact HO
  iintro ⟨HZYS6, HOS0, HTS0, HO⟩
  iapply (st_loadS c 7 oL_7 qR (ebf m ρ c 7)) $$ [HQS7]
  · iexact HQS7
  iintro HQS7
  iapply (st_loadOs c (oS m ρ c 6)) $$ [HOS0]
  · iexact HOS0
  iintro HOS0
  iapply (st_storeOs c (w' := oS m ρ c 7) (po_54 _ _)) $$ [HOS0]
  · iexists _; iexact HOS0
  iintro HOS0
  iapply (st_issueO c (nS c 7) (o18_7 c) sem_8_0 (oS m ρ c 7)) $$ [HOS0 HYS7 HTS0]
  · isplitl [HOS0]; · iexact HOS0
    isplitl [HYS7]; · iexact HYS7
    iexact HTS0
  iintro HFO0
  iapply (WP_done c)
  iapply Hk
  isplitl [HFO1]; · iexact HFO1
  isplitl [HFO0]; · iexact HFO0
  isplitl [HO]; · iexact HO
  isplitl [HZYS6]; · iexact HZYS6
  iexact HQS7

theorem part33 (c : Dev nD) (v1040 : BitVec 32) {Q : (PUnit) → sProp (MT nD τ sig Unit (Elt F) ℕ UU ℕ)} :
    iprop(records m ρ K
      ∗ (FlO c ![1, 0, 0] inb_S2x512x1024_S1x512x1024_1_0_0 4 (nR c 6) (oR m ρ c 6))
      ∗ (ow c [])
      ∗ (recvP c 7 qR (rv m ρ c 7))
      ∗ (∃ Y, yP c (nR c 7) Y)
      ∗ (sx c 0)
      ∗ (sx c 1))
      ⊢ iprop((((FlO c ![1, 0, 0] inb_S2x512x1024_S1x512x1024_1_0_0 4 (nR c 7) (oR m ρ c 7))
        ∗ (ow c [])
        ∗ (yP c (nR c 6) (oc (oR m ρ c 6)))
        ∗ (recvP c 7 qR (rv m ρ c 7))
        ∗ (sendP c (ch c 0) qL (ebf m ρ c (ch c 0)))
        ∗ (semVal (sndC c 0) 0)
        ∗ (sendP c (ch c 1) qL (ebf m ρ c (ch c 1)))
        ∗ (semVal (sndC c 1) 0))
          -∗ Q ⟨⟩)
        -∗ WP c (k0_part33 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c (iv m ρ c) v1040) Q) := by
  rw [k0_part33_eq_skeleton]
  unfold k0_part33_skel
  simp only [semSignalWord, semWaitWord, Prog.lift, Prog.bind_op, Prog.bind_ret, Prog.pure_eq_ret, wp_deviceId]
  iintro ⟨#HK, HFO1, HO, HQR7, HYR7, HSX0, HSX1⟩ Hk
  iapply (st_waitO m ρ K c (nR c 6) (oR m ρ c 6) sem_8_1 (crO _ _ _) (l := []) (by decide)) $$ [HFO1 HO]
  · isplitr; · iexact HK
    isplitl [HFO1]; · iexact HFO1
    iexact HO
  iintro ⟨HZYR6, HOS1, HTS1, HO⟩
  iapply (st_loadR c 7 oL_7 qR (rv m ρ c 7)) $$ [HQR7]
  · iexact HQR7
  iintro HQR7
  iapply (st_loadOs c (oR m ρ c 6)) $$ [HOS1]
  · iexact HOS1
  iintro HOS1
  iapply (st_storeOs c (w' := oR m ρ c 7) (po_55 _ _)) $$ [HOS1]
  · iexists _; iexact HOS1
  iintro HOS1
  iapply (st_issueO c (nR c 7) (o19_7 c) sem_8_1 (oR m ρ c 7)) $$ [HOS1 HYR7 HTS1]
  · isplitl [HOS1]; · iexact HOS1
    isplitl [HYR7]; · iexact HYR7
    iexact HTS1
  iintro HFO1
  iapply (st_waitSX m ρ K c 0 (by decide) (cp_0 c) le_0 sem_9_0 (crS _ _)) $$ [HSX0 HO]
  · isplitr; · iexact HK
    isplitl [HSX0]; · iexact HSX0
    iexact HO
  iintro ⟨HS0l, HZS0, HO⟩
  iapply (st_waitSX m ρ K c 1 (by decide) (cp_1 c) le_1 sem_9_1 (crS _ _)) $$ [HSX1 HO]
  · isplitr; · iexact HK
    isplitl [HSX1]; · iexact HSX1
    iexact HO
  iintro ⟨HS1l, HZS1, HO⟩
  iapply (WP_done c)
  iapply Hk
  isplitl [HFO1]; · iexact HFO1
  isplitl [HO]; · iexact HO
  isplitl [HZYR6]; · iexact HZYR6
  isplitl [HQR7]; · iexact HQR7
  isplitl [HS0l]; · iexact HS0l
  isplitl [HZS0]; · iexact HZS0
  isplitl [HS1l]; · iexact HS1l
  iexact HZS1

theorem part34 (c : Dev nD) {Q : (PUnit) → sProp (MT nD τ sig Unit (Elt F) ℕ UU ℕ)} :
    iprop(records m ρ K
      ∗ (sx c 2)
      ∗ (ow c [])
      ∗ (sx c 5)
      ∗ (sx c 3)
      ∗ (sx c 6)
      ∗ (sx c 4)
      ∗ (sx c 7))
      ⊢ iprop((((ow c [])
        ∗ (recvP c (lnd c 0) qL (rv m ρ c (lnd c 0)))
        ∗ (semVal (sndC c 2) 0)
        ∗ (recvP c (lnd c 0) qM (rv m ρ c (lnd c 0)))
        ∗ (semVal (sndC c 5) 0)
        ∗ (recvP c (lnd c 1) qL (rv m ρ c (lnd c 1)))
        ∗ (semVal (sndC c 3) 0)
        ∗ (recvP c (lnd c 1) qM (rv m ρ c (lnd c 1)))
        ∗ (semVal (sndC c 6) 0)
        ∗ (recvP c (lnd c 5) qL (rv m ρ c (lnd c 5)))
        ∗ (semVal (sndC c 4) 0)
        ∗ (recvP c (lnd c 3) qL (rv m ρ c (lnd c 3)))
        ∗ (semVal (sndC c 7) 0))
          -∗ Q ⟨⟩)
        -∗ WP c (k0_part34 xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11 c) Q) := by
  rw [k0_part34_eq_skeleton]
  unfold k0_part34_skel
  simp only [semSignalWord, semWaitWord, Prog.lift, Prog.bind_op, Prog.bind_ret, Prog.pure_eq_ret, wp_deviceId]
  iintro ⟨#HK, HSX2, HO, HSX5, HSX3, HSX6, HSX4, HSX7⟩ Hk
  iapply (st_waitSF m ρ K c 2 (by decide) (cp_2 c) le_2 sem_11_0 (crR _ _)) $$ [HSX2 HO]
  · isplitr; · iexact HK
    isplitl [HSX2]; · iexact HSX2
    iexact HO
  iintro ⟨HV0l, HZS2, HO⟩
  iapply (st_waitSF m ρ K c 5 (by decide) (cp_5 c) le_5 sem_13_0 (crR _ _)) $$ [HSX5 HO]
  · isplitr; · iexact HK
    isplitl [HSX5]; · iexact HSX5
    iexact HO
  iintro ⟨HV0m, HZS5, HO⟩
  iapply (st_waitSF m ρ K c 3 (by decide) (cp_3 c) le_3 sem_11_1 (crR _ _)) $$ [HSX3 HO]
  · isplitr; · iexact HK
    isplitl [HSX3]; · iexact HSX3
    iexact HO
  iintro ⟨HV1l, HZS3, HO⟩
  iapply (st_waitSF m ρ K c 6 (by decide) (cp_6 c) le_6 sem_13_1 (crR _ _)) $$ [HSX6 HO]
  · isplitr; · iexact HK
    isplitl [HSX6]; · iexact HSX6
    iexact HO
  iintro ⟨HV1m, HZS6, HO⟩
  iapply (st_waitSF m ρ K c 4 (by decide) (cp_4 c) le_4 sem_11_2 (crR _ _)) $$ [HSX4 HO]
  · isplitr; · iexact HK
    isplitl [HSX4]; · iexact HSX4
    iexact HO
  iintro ⟨HV5l, HZS4, HO⟩
  iapply (st_waitSF m ρ K c 7 (by decide) (cp_7 c) le_7 sem_13_2 (crR _ _)) $$ [HSX7 HO]
  · isplitr; · iexact HK
    isplitl [HSX7]; · iexact HSX7
    iexact HO
  iintro ⟨HV3l, HZS7, HO⟩
  iapply (WP_done c)
  iapply Hk
  isplitl [HO]; · iexact HO
  isplitl [HV0l]; · iexact HV0l
  isplitl [HZS2]; · iexact HZS2
  isplitl [HV0m]; · iexact HV0m
  isplitl [HZS5]; · iexact HZS5
  isplitl [HV1l]; · iexact HV1l
  isplitl [HZS3]; · iexact HZS3
  isplitl [HV1m]; · iexact HV1m
  isplitl [HZS6]; · iexact HZS6
  isplitl [HV5l]; · iexact HV5l
  isplitl [HZS4]; · iexact HZS4
  isplitl [HV3l]; · iexact HV3l
  iexact HZS7

end Cert.KProof
-- ==== Proof.Run.lean ====
/-
# The kernel's body

The parts one after another: what the whole body takes and what it leaves.
-/
module

public import proofs.«01_k».proof.Proof.Parts1
public import proofs.«01_k».proof.Proof.Parts2
public import proofs.«01_k».proof.Proof.Parts3
public import proofs.«01_k».proof.Proof.Parts4
public import proofs.«01_k».proof.Proof.Parts5

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 65536
set_option maxHeartbeats 4000000

variable (m : (ℓ : Loc nD τ sig) → Buf (Elt F) ℓ) (ρ : Dev nD → PrngReg) (K : Dev nD × CI → ℕ)

theorem WP_bind (c : Dev nD) {α β : Type} (p : Prog (TpuEff nD τ sig (Elt F) Λ₀ .tc) α) (k : α → Prog (TpuEff nD τ sig (Elt F) Λ₀ .tc) β)
    (Q : β → sProp (MT nD τ sig Unit (Elt F) ℕ UU ℕ)) : WP c p (fun a => WP c (k a) Q) ⊢ WP c (p >>= k) Q := by
  unfold WP; rw [wp_bind]

/-- What the body leaves. -/
def bodyOut (c : Dev nD) : sProp 𝕄 :=
  iprop((xP m ρ c)
    ∗ (ow c [])
    ∗ (semVal (barC c) 0)
    ∗ (wP c (ch c 0) (wch m c (ch c 0)))
    ∗ (sendP c (ch c 0) qM (ebf m ρ c (ch c 0)))
    ∗ (wP c (ch c 1) (wch m c (ch c 1)))
    ∗ (sendP c (ch c 1) qM (ebf m ρ c (ch c 1)))
    ∗ (wP c (ch c 2) (wch m c (ch c 2)))
    ∗ (sendP c (ch c 2) qL (ebf m ρ c (ch c 2)))
    ∗ (sendP c (ch c 2) qM (ebf m ρ c (ch c 2)))
    ∗ (semVal (rcvC c 0) 0)
    ∗ (wP c (ch c 3) (wch m c (ch c 3)))
    ∗ (sendP c (ch c 3) qL (ebf m ρ c (ch c 3)))
    ∗ (sendP c (ch c 3) qM (ebf m ρ c (ch c 3)))
    ∗ (semVal (rcvC c 1) 0)
    ∗ (wP c (ch c 4) (wch m c (ch c 4)))
    ∗ (sendP c (ch c 4) qL (ebf m ρ c (ch c 4)))
    ∗ (sendP c (ch c 4) qM (ebf m ρ c (ch c 4)))
    ∗ (recvP c (lnd c 5) qM (rv m ρ c (lnd c 5)))
    ∗ (semVal (rcvC c 5) 0)
    ∗ (wP c (ch c 5) (wch m c (ch c 5)))
    ∗ (sendP c (ch c 5) qL (ebf m ρ c (ch c 5)))
    ∗ (sendP c (ch c 5) qM (ebf m ρ c (ch c 5)))
    ∗ (recvP c (lnd c 3) qM (rv m ρ c (lnd c 3)))
    ∗ (semVal (rcvC c 3) 0)
    ∗ (owns (c : Thread nD τ) (slW ![0, 0, 0] inb_S2x1024x1024_S1x1024x1024_0_0_0) fullShare (wst m c (ch c 6)))
    ∗ (wP c (ch c 6) (wch m c (ch c 6)))
    ∗ (semVal ((c : Thread nD τ), .dma 1) 0)
    ∗ (sendP c (ch c 6) qL (ebf m ρ c (ch c 6)))
    ∗ (sendP c (ch c 6) qM (ebf m ρ c (ch c 6)))
    ∗ (owns (c : Thread nD τ) (slW ![1, 0, 0] inb_S2x1024x1024_S1x1024x1024_1_0_0) fullShare (wst m c (ch c 7)))
    ∗ (wP c (ch c 7) (wch m c (ch c 7)))
    ∗ (semVal ((c : Thread nD τ), .dma 2) 0)
    ∗ (sendP c (ch c 7) qL (ebf m ρ c (ch c 7)))
    ∗ (sendP c (ch c 7) qM (ebf m ρ c (ch c 7)))
    ∗ (recvP c (lnd c 2) qL (rv m ρ c (lnd c 2)))
    ∗ (recvP c (lnd c 2) qM (rv m ρ c (lnd c 2)))
    ∗ (semVal (rcvC c 2) 0)
    ∗ (recvP c (lnd c 6) qL (rv m ρ c (lnd c 6)))
    ∗ (recvP c (lnd c 6) qM (rv m ρ c (lnd c 6)))
    ∗ (semVal (rcvC c 6) 0)
    ∗ (recvP c (lnd c 4) qL (rv m ρ c (lnd c 4)))
    ∗ (recvP c (lnd c 4) qM (rv m ρ c (lnd c 4)))
    ∗ (semVal (rcvC c 4) 0)
    ∗ (recvP c (lnd c 7) qL (rv m ρ c (lnd c 7)))
    ∗ (recvP c (lnd c 7) qM (rv m ρ c (lnd c 7)))
    ∗ (semVal (rcvC c 7) 0)
    ∗ (sendP c 0 qR (ebf m ρ c 0))
    ∗ (sendP c 1 qR (ebf m ρ c 1))
    ∗ (sendP c 2 qR (ebf m ρ c 2))
    ∗ (sendP c 3 qR (ebf m ρ c 3))
    ∗ (sendP c 4 qR (ebf m ρ c 4))
    ∗ (sendP c 5 qR (ebf m ρ c 5))
    ∗ (sendP c 6 qR (ebf m ρ c 6))
    ∗ (sendP c 7 qR (ebf m ρ c 7))
    ∗ (recvP c 0 qR (rv m ρ c 0))
    ∗ (recvP c 1 qR (rv m ρ c 1))
    ∗ (recvP c 2 qR (rv m ρ c 2))
    ∗ (recvP c 3 qR (rv m ρ c 3))
    ∗ (recvP c 4 qR (rv m ρ c 4))
    ∗ (recvP c 5 qR (rv m ρ c 5))
    ∗ (recvP c 6 qR (rv m ρ c 6))
    ∗ (recvP c 7 qR (rv m ρ c 7))
    ∗ (yP c (nS c 0) (oc (oS m ρ c 0)))
    ∗ (yP c (nR c 0) (oc (oR m ρ c 0)))
    ∗ (yP c (nS c 1) (oc (oS m ρ c 1)))
    ∗ (yP c (nR c 1) (oc (oR m ρ c 1)))
    ∗ (yP c (nS c 2) (oc (oS m ρ c 2)))
    ∗ (yP c (nR c 2) (oc (oR m ρ c 2)))
    ∗ (yP c (nS c 3) (oc (oS m ρ c 3)))
    ∗ (yP c (nR c 3) (oc (oR m ρ c 3)))
    ∗ (yP c (nS c 4) (oc (oS m ρ c 4)))
    ∗ (yP c (nR c 4) (oc (oR m ρ c 4)))
    ∗ (yP c (nS c 5) (oc (oS m ρ c 5)))
    ∗ (yP c (nR c 5) (oc (oR m ρ c 5)))
    ∗ (yP c (nS c 6) (oc (oS m ρ c 6)))
    ∗ (yP c (nR c 6) (oc (oR m ρ c 6)))
    ∗ (sendP c (ch c 0) qL (ebf m ρ c (ch c 0)))
    ∗ (semVal (sndC c 0) 0)
    ∗ (sendP c (ch c 1) qL (ebf m ρ c (ch c 1)))
    ∗ (semVal (sndC c 1) 0)
    ∗ (recvP c (lnd c 0) qL (rv m ρ c (lnd c 0)))
    ∗ (semVal (sndC c 2) 0)
    ∗ (recvP c (lnd c 0) qM (rv m ρ c (lnd c 0)))
    ∗ (semVal (sndC c 5) 0)
    ∗ (recvP c (lnd c 1) qL (rv m ρ c (lnd c 1)))
    ∗ (semVal (sndC c 3) 0)
    ∗ (recvP c (lnd c 1) qM (rv m ρ c (lnd c 1)))
    ∗ (semVal (sndC c 6) 0)
    ∗ (recvP c (lnd c 5) qL (rv m ρ c (lnd c 5)))
    ∗ (semVal (sndC c 4) 0)
    ∗ (recvP c (lnd c 3) qL (rv m ρ c (lnd c 3)))
    ∗ (semVal (sndC c 7) 0)
    ∗ (yP c (nS c 7) (oc (oS m ρ c 7)))
    ∗ (owns (c : Thread nD τ) (slO ![0, 0, 0] inb_S2x512x1024_S1x512x1024_0_0_0) fullShare (oS m ρ c 7))
    ∗ (semVal ((c : Thread nD τ), .dma 3) 0)
    ∗ (yP c (nR c 7) (oc (oR m ρ c 7)))
    ∗ (owns (c : Thread nD τ) (slO ![1, 0, 0] inb_S2x512x1024_S1x512x1024_1_0_0) fullShare (oR m ρ c 7))
    ∗ (semVal ((c : Thread nD τ), .dma 4) 0))

/-- What the body takes. -/
def bodyIn (c : Dev nD) : sProp 𝕄 :=
  iprop((xP m ρ c)
    ∗ (wP c (ch c 0) (wch m c (ch c 0)))
    ∗ (wP c (ch c 1) (wch m c (ch c 1)))
    ∗ (wP c (ch c 2) (wch m c (ch c 2)))
    ∗ (wP c (ch c 3) (wch m c (ch c 3)))
    ∗ (wP c (ch c 4) (wch m c (ch c 4)))
    ∗ (wP c (ch c 5) (wch m c (ch c 5)))
    ∗ (wP c (ch c 6) (wch m c (ch c 6)))
    ∗ (wP c (ch c 7) (wch m c (ch c 7)))
    ∗ (∃ X, owns (c : Thread nD τ) (slW ![0, 0, 0] inb_S2x1024x1024_S1x1024x1024_0_0_0) fullShare X)
    ∗ (∃ X, owns (c : Thread nD τ) (slO ![0, 0, 0] inb_S2x512x1024_S1x512x1024_0_0_0) fullShare X)
    ∗ (semVal ((c : Thread nD τ), .dma 1) 0)
    ∗ (semVal ((c : Thread nD τ), .dma 3) 0)
    ∗ (∃ X, owns (c : Thread nD τ) (slW ![1, 0, 0] inb_S2x1024x1024_S1x1024x1024_1_0_0) fullShare X)
    ∗ (∃ X, owns (c : Thread nD τ) (slO ![1, 0, 0] inb_S2x512x1024_S1x512x1024_1_0_0) fullShare X)
    ∗ (semVal ((c : Thread nD τ), .dma 2) 0)
    ∗ (semVal ((c : Thread nD τ), .dma 4) 0)
    ∗ (∃ X, sendP c (ch c 0) fullShare X)
    ∗ (∃ X, sendP c (ch c 1) fullShare X)
    ∗ (∃ X, sendP c (ch c 2) fullShare X)
    ∗ (∃ X, sendP c (ch c 3) fullShare X)
    ∗ (∃ X, sendP c (ch c 4) fullShare X)
    ∗ (∃ X, sendP c (ch c 5) fullShare X)
    ∗ (∃ X, sendP c (ch c 6) fullShare X)
    ∗ (∃ X, sendP c (ch c 7) fullShare X)
    ∗ (barPay (pr c 0) 0)
    ∗ (dutyTok ER (barC (pr c 0)) 0 0)
    ∗ (barPay (pr c 1) 1)
    ∗ (dutyTok ER (barC (pr c 1)) 0 1)
    ∗ (barPay (pr c 2) 2)
    ∗ (dutyTok ER (barC (pr c 2)) 0 2)
    ∗ (atPos ER (barC c) 0 ∅ 0)
    ∗ (cred (tallyAt (barC c) () 3))
    ∗ (tx c 0)
    ∗ (atPos ER (sndC c 0) 0 ∅ 0)
    ∗ (rx c 0)
    ∗ (tx c 1)
    ∗ (atPos ER (sndC c 1) 0 ∅ 0)
    ∗ (rx c 1)
    ∗ (tx c 2)
    ∗ (atPos ER (sndC c 2) 0 ∅ 0)
    ∗ (rx c 2)
    ∗ (tx c 3)
    ∗ (atPos ER (sndC c 3) 0 ∅ 0)
    ∗ (rx c 3)
    ∗ (tx c 4)
    ∗ (atPos ER (sndC c 4) 0 ∅ 0)
    ∗ (rx c 4)
    ∗ (tx c 5)
    ∗ (atPos ER (sndC c 5) 0 ∅ 0)
    ∗ (rx c 5)
    ∗ (tx c 6)
    ∗ (atPos ER (sndC c 6) 0 ∅ 0)
    ∗ (rx c 6)
    ∗ (tx c 7)
    ∗ (atPos ER (sndC c 7) 0 ∅ 0)
    ∗ (rx c 7)
    ∗ (∃ Y, yP c (nS c 0) Y)
    ∗ (∃ Y, yP c (nR c 0) Y)
    ∗ (∃ Y, yP c (nS c 1) Y)
    ∗ (∃ Y, yP c (nR c 1) Y)
    ∗ (∃ Y, yP c (nS c 2) Y)
    ∗ (∃ Y, yP c (nR c 2) Y)
    ∗ (∃ Y, yP c (nS c 3) Y)
    ∗ (∃ Y, yP c (nR c 3) Y)
    ∗ (∃ Y, yP c (nS c 4) Y)
    ∗ (∃ Y, yP c (nR c 4) Y)
    ∗ (∃ Y, yP c (nS c 5) Y)
    ∗ (∃ Y, yP c (nR c 5) Y)
    ∗ (∃ Y, yP c (nS c 6) Y)
    ∗ (∃ Y, yP c (nR c 6) Y)
    ∗ (∃ Y, yP c (nS c 7) Y)
    ∗ (∃ Y, yP c (nR c 7) Y)
    ∗ (ow c [.inl 0, .inl 1, .inl 2, .inr 0, .inr 1, .inr 2, .inr 5, .inr 3, .inr 6, .inr 4, .inr 7]))

theorem body_run (c : Dev nD) {Q : PUnit → sProp (MT nD τ sig Unit (Elt F) ℕ UU ℕ)} :
    iprop(records m ρ K ∗ bodyIn m ρ c)
      ⊢ iprop((bodyOut m ρ c -∗ Q ⟨⟩) -∗ WP c (cc0_body xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11) Q) := by
  rw [cc0_body_eq_skeleton]
  unfold cc0_body_skel
  rw [k0_part35_eq_skeleton]
  unfold k0_part35_skel bodyIn bodyOut
  iintro ⟨#HK, HX, HW0, HW1, HW2, HW3, HW4, HW5, HW6, HW7, HWS0, HOS0, HLS0, HTS0, HWS1, HOS1, HLS1, HTS1, HS0, HS1, HS2, HS3, HS4, HS5, HS6, HS7, HG0, HGT0, HG1, HGT1, HG2, HGT2, HB, HBC, HT0, HA0, HR0, HT1, HA1, HR1, HT2, HA2, HR2, HT3, HA3, HR3, HT4, HA4, HR4, HT5, HA5, HR5, HT6, HA6, HR6, HT7, HA7, HR7, HYS0, HYR0, HYS1, HYR1, HYS2, HYR2, HYS3, HYR3, HYS4, HYR4, HYS5, HYR5, HYS6, HYR6, HYS7, HYR7, HO⟩ Hk
  iapply (WP_bind c)
  iapply (WP_bind c)
  iapply (part1 m ρ K c ) $$ [HX]
  · isplitr; · iexact HK
    iexact HX
  iintro %v2 %v5 %v8 %v11 %v12 %v13 %v16 %v20 %v24 %v29 %c0_i32 HX
  dsimp only
  iapply (WP_bind c)
  iapply (part2 m ρ K c v2 v5 v8 v11 v12 v16 c0_i32) $$ [HW0 HWS0 HLS0 HG0 HGT0 HO HG1 HGT1]
  · isplitr; · iexact HK
    isplitl [HW0]; · iexact HW0
    isplitl [HWS0]; · iexact HWS0
    isplitl [HLS0]; · iexact HLS0
    isplitl [HG0]; · iexact HG0
    isplitl [HGT0]; · iexact HGT0
    isplitl [HO]; · iexact HO
    isplitl [HG1]; · iexact HG1
    iexact HGT1
  iintro %v64 ⟨HFW0, HO⟩
  dsimp only
  iapply (WP_bind c)
  iapply (part3 m ρ K c v5 v13 v16 v64) $$ [HG2 HGT2 HO HB HBC]
  · isplitr; · iexact HK
    isplitl [HG2]; · iexact HG2
    isplitl [HGT2]; · iexact HGT2
    isplitl [HO]; · iexact HO
    isplitl [HB]; · iexact HB
    iexact HBC
  iintro %v81 ⟨HO, HD0, HD1, HD2, HD3, HD4, HD5, HD6, HD7, HZB⟩
  dsimp only
  iapply (WP_bind c)
  iapply (part4 m ρ K c v5 v8 v11 v81) $$ [HW1 HWS1 HLS1 HFW0 HO HS0]
  · isplitr; · iexact HK
    isplitl [HW1]; · iexact HW1
    isplitl [HWS1]; · iexact HWS1
    isplitl [HLS1]; · iexact HLS1
    isplitl [HFW0]; · iexact HFW0
    isplitl [HO]; · iexact HO
    iexact HS0
  iintro ⟨HFW1, HO, HWS0, HW0, HLS0, HS0l, HS0m, HS0r⟩
  iapply (WP_bind c)
  iapply (part5 m ρ K c v16) $$ [HS0l HD0 HT0 HA0 HO HW2 HWS0 HLS0]
  · isplitr; · iexact HK
    isplitl [HS0l]; · iexact HS0l
    isplitl [HD0]; · iexact HD0
    isplitl [HT0]; · iexact HT0
    isplitl [HA0]; · iexact HA0
    isplitl [HO]; · iexact HO
    isplitl [HW2]; · iexact HW2
    isplitl [HWS0]; · iexact HWS0
    iexact HLS0
  iintro %v143 ⟨HO, HSX0, HFW0⟩
  iapply (WP_bind c)
  iapply (part6 m ρ K c v5 v8 v11 v16 v143) $$ [HFW1 HO HS1 HD1 HT1 HA1]
  · isplitr; · iexact HK
    isplitl [HFW1]; · iexact HFW1
    isplitl [HO]; · iexact HO
    isplitl [HS1]; · iexact HS1
    isplitl [HD1]; · iexact HD1
    isplitl [HT1]; · iexact HT1
    iexact HA1
  iintro %v197 %v198 ⟨HO, HWS1, HW1, HLS1, HS1m, HS1r, HSX1⟩
  dsimp only
  iapply (WP_bind c)
  iapply (part7 m ρ K c v16 v197 v198) $$ [HW3 HWS1 HLS1 HFW0 HO]
  · isplitr; · iexact HK
    isplitl [HW3]; · iexact HW3
    isplitl [HWS1]; · iexact HWS1
    isplitl [HLS1]; · iexact HLS1
    isplitl [HFW0]; · iexact HFW0
    iexact HO
  iintro %v205 ⟨HFW1, HO, HWS0, HW2, HLS0⟩
  dsimp only
  iapply (WP_bind c)
  iapply (part8 m ρ K c v5 v8 v11 v16 v205) $$ [HS2 HR0 HO]
  · isplitr; · iexact HK
    isplitl [HS2]; · iexact HS2
    isplitl [HR0]; · iexact HR0
    iexact HO
  iintro %v253 %c16_i32_183 ⟨HS2l, HS2m, HS2r, HO, HV0l, HV0m, HV0r, HZR0⟩
  dsimp only
  iapply (WP_bind c)
  iapply (part9 m ρ K c v2 v5 v8 v12 v13 v16 v253 c16_i32_183) $$ [HV0l HD2 HT2 HA2 HO HV0m HD5 HT5 HA5]
  · isplitr; · iexact HK
    isplitl [HV0l]; · iexact HV0l
    isplitl [HD2]; · iexact HD2
    isplitl [HT2]; · iexact HT2
    isplitl [HA2]; · iexact HA2
    isplitl [HO]; · iexact HO
    isplitl [HV0m]; · iexact HV0m
    isplitl [HD5]; · iexact HD5
    isplitl [HT5]; · iexact HT5
    iexact HA5
  iintro %v295 %v300 %v301 ⟨HO, HSX2, HSX5⟩
  dsimp only
  iapply (WP_bind c)
  iapply (part10 m ρ K c v16 v295 v300 v301) $$ [HW4 HWS0 HLS0 HFW1 HO HS3]
  · isplitr; · iexact HK
    isplitl [HW4]; · iexact HW4
    isplitl [HWS0]; · iexact HWS0
    isplitl [HLS0]; · iexact HLS0
    isplitl [HFW1]; · iexact HFW1
    isplitl [HO]; · iexact HO
    iexact HS3
  iintro %v334 ⟨HFW0, HO, HWS1, HW3, HLS1, HS3⟩
  dsimp only
  iapply (WP_bind c)
  iapply (part11 m ρ K c v2 v5 v8 v11 v12 v16 v334) $$ [HS3 HR1 HO]
  · isplitr; · iexact HK
    isplitl [HS3]; · iexact HS3
    isplitl [HR1]; · iexact HR1
    iexact HO
  iintro %v350 ⟨HS3l, HS3m, HS3r, HO, HV1l, HV1m, HV1r, HZR1⟩
  dsimp only
  iapply (WP_bind c)
  iapply (part12 m ρ K c v2 v5 v13 v16 v350) $$ [HV1l HD3 HT3 HA3 HO HV1m HD6 HT6 HA6]
  · isplitr; · iexact HK
    isplitl [HV1l]; · iexact HV1l
    isplitl [HD3]; · iexact HD3
    isplitl [HT3]; · iexact HT3
    isplitl [HA3]; · iexact HA3
    isplitl [HO]; · iexact HO
    isplitl [HV1m]; · iexact HV1m
    isplitl [HD6]; · iexact HD6
    isplitl [HT6]; · iexact HT6
    iexact HA6
  iintro %v399 %v402 %v403 ⟨HO, HSX3, HSX6⟩
  dsimp only
  iapply (WP_bind c)
  iapply (part13 m ρ K c v24 v399 v402 v403) $$ [HW5 HWS1 HLS1 HFW0 HO HS4]
  · isplitr; · iexact HK
    isplitl [HW5]; · iexact HW5
    isplitl [HWS1]; · iexact HWS1
    isplitl [HLS1]; · iexact HLS1
    isplitl [HFW0]; · iexact HFW0
    isplitl [HO]; · iexact HO
    iexact HS4
  iintro ⟨HFW1, HO, HWS0, HW4, HLS0, HS4l, HS4m, HS4r⟩
  iapply (WP_bind c)
  iapply (part14 m ρ K c v2 v5 v8 v11 v12 v16 v24) $$ [HR5 HO HD4 HT4 HA4]
  · isplitr; · iexact HK
    isplitl [HR5]; · iexact HR5
    isplitl [HO]; · iexact HO
    isplitl [HD4]; · iexact HD4
    isplitl [HT4]; · iexact HT4
    iexact HA4
  iintro %v465 %v466 %v467 %v468 %v469 ⟨HO, HV5m, HV5r, HZR5, HSX4⟩
  dsimp only
  iapply (WP_bind c)
  iapply (part15 m ρ K c v16 v465 v466 v467 v468 v469) $$ [HW6 HWS0 HLS0 HFW1 HO]
  · isplitr; · iexact HK
    isplitl [HW6]; · iexact HW6
    isplitl [HWS0]; · iexact HWS0
    isplitl [HLS0]; · iexact HLS0
    isplitl [HFW1]; · iexact HFW1
    iexact HO
  iintro %v503 ⟨HFW0, HO, HWS1, HW5, HLS1⟩
  dsimp only
  iapply (WP_bind c)
  iapply (part16 m ρ K c v2 v5 v8 v11 v13 v20 v503) $$ [HS5 HR3 HO]
  · isplitr; · iexact HK
    isplitl [HS5]; · iexact HS5
    isplitl [HR3]; · iexact HR3
    iexact HO
  iintro ⟨HS5l, HS5m, HS5r, HO, HV3l, HV3m, HV3r, HZR3⟩
  iapply (WP_bind c)
  iapply (part17 m ρ K c v16) $$ [HV3l HD7 HT7 HA7 HO HW7 HWS1 HLS1]
  · isplitr; · iexact HK
    isplitl [HV3l]; · iexact HV3l
    isplitl [HD7]; · iexact HD7
    isplitl [HT7]; · iexact HT7
    isplitl [HA7]; · iexact HA7
    isplitl [HO]; · iexact HO
    isplitl [HW7]; · iexact HW7
    isplitl [HWS1]; · iexact HWS1
    iexact HLS1
  iintro %v549 ⟨HO, HSX7, HFW1⟩
  iapply (WP_bind c)
  iapply (part18 m ρ K c v16 v24 v549) $$ [HFW0 HO HS6 HV0r HV5r]
  · isplitr; · iexact HK
    isplitl [HFW0]; · iexact HFW0
    isplitl [HO]; · iexact HO
    isplitl [HS6]; · iexact HS6
    isplitl [HV0r]; · iexact HV0r
    iexact HV5r
  iintro %v603 %v604 %v605 %v606 %v607 ⟨HO, HWS0, HW6, HLS0, HS6l, HS6m, HS6r, HV0r, HV5r⟩
  dsimp only
  iapply (WP_bind c)
  iapply (part19 m ρ K c v16 v20 v603 v604 v605 v606 v607) $$ [HFW1 HO HS7 HV1r HV3r]
  · isplitr; · iexact HK
    isplitl [HFW1]; · iexact HFW1
    isplitl [HO]; · iexact HO
    isplitl [HS7]; · iexact HS7
    isplitl [HV1r]; · iexact HV1r
    iexact HV3r
  iintro ⟨HO, HWS1, HW7, HLS1, HS7l, HS7m, HS7r, HV1r, HV3r⟩
  dsimp only
  iapply (WP_bind c)
  iapply (part20 m ρ K c v5 v8 v11 v20 v24 v29) $$ [HR2 HO]
  · isplitr; · iexact HK
    isplitl [HR2]; · iexact HR2
    iexact HO
  iintro %v648 %v649 ⟨HO, HV2l, HV2m, HV2r, HZR2⟩
  dsimp only
  iapply (WP_bind c)
  iapply (part21 m ρ K c v5 v8 v11 v29 v648 v649) $$ [HR6 HO HR4]
  · isplitr; · iexact HK
    isplitl [HR6]; · iexact HR6
    isplitl [HO]; · iexact HO
    iexact HR4
  iintro %v712 %c1_i32_487 ⟨HO, HV6l, HV6m, HV6r, HZR6, HV4l, HV4m, HV4r, HZR4⟩
  dsimp only
  iapply (WP_bind c)
  iapply (part22 m ρ K c v2 v8 v649 v712 c1_i32_487) $$ [HR7 HO HS0r HS1r HS2r HS3r HS4r HS5r HS6r HS7r HV0r HV1r HV2r HV3r HV4r HV5r HV6r HOS0 HYS0 HTS0]
  · isplitr; · iexact HK
    isplitl [HR7]; · iexact HR7
    isplitl [HO]; · iexact HO
    isplitl [HS0r]; · iexact HS0r
    isplitl [HS1r]; · iexact HS1r
    isplitl [HS2r]; · iexact HS2r
    isplitl [HS3r]; · iexact HS3r
    isplitl [HS4r]; · iexact HS4r
    isplitl [HS5r]; · iexact HS5r
    isplitl [HS6r]; · iexact HS6r
    isplitl [HS7r]; · iexact HS7r
    isplitl [HV0r]; · iexact HV0r
    isplitl [HV1r]; · iexact HV1r
    isplitl [HV2r]; · iexact HV2r
    isplitl [HV3r]; · iexact HV3r
    isplitl [HV4r]; · iexact HV4r
    isplitl [HV5r]; · iexact HV5r
    isplitl [HV6r]; · iexact HV6r
    isplitl [HOS0]; · iexact HOS0
    isplitl [HYS0]; · iexact HYS0
    iexact HTS0
  iintro %v745 ⟨HO, HV7l, HV7m, HZR7, HQS0, HQS1, HQS2, HQS3, HQS4, HQS5, HQS6, HQS7, HQR0, HQR1, HQR2, HQR3, HQR4, HQR5, HQR6, HQR7, HFO0⟩
  dsimp only
  iapply (WP_bind c)
  iapply (part23 m ρ K c v2 v745) $$ [HOS1 HYR0 HTS1 HFO0 HO HQS1]
  · isplitr; · iexact HK
    isplitl [HOS1]; · iexact HOS1
    isplitl [HYR0]; · iexact HYR0
    isplitl [HTS1]; · iexact HTS1
    isplitl [HFO0]; · iexact HFO0
    isplitl [HO]; · iexact HO
    iexact HQS1
  iintro ⟨HFO1, HO, HZYS0, HOS0, HTS0, HQS1⟩
  skip
  iapply (WP_bind c)
  iapply (part24 m ρ K c v2) $$ [HOS0 HYS1 HTS0 HFO1 HO HQR1 HYR1]
  · isplitr; · iexact HK
    isplitl [HOS0]; · iexact HOS0
    isplitl [HYS1]; · iexact HYS1
    isplitl [HTS0]; · iexact HTS0
    isplitl [HFO1]; · iexact HFO1
    isplitl [HO]; · iexact HO
    isplitl [HQR1]; · iexact HQR1
    iexact HYR1
  iintro %v803 ⟨HFO0, HFO1, HO, HZYR0, HQR1⟩
  iapply (WP_bind c)
  iapply (part25 m ρ K c v2 v803) $$ [HFO0 HO HQS2 HYS2 HFO1 HQR2]
  · isplitr; · iexact HK
    isplitl [HFO0]; · iexact HFO0
    isplitl [HO]; · iexact HO
    isplitl [HQS2]; · iexact HQS2
    isplitl [HYS2]; · iexact HYS2
    isplitl [HFO1]; · iexact HFO1
    iexact HQR2
  iintro %v825 ⟨HFO0, HO, HZYS1, HQS2, HZYR1, HOS1, HTS1, HQR2⟩
  dsimp only
  iapply (WP_bind c)
  iapply (part26 m ρ K c v2 v825) $$ [HOS1 HYR2 HTS1 HFO0 HO HQS3]
  · isplitr; · iexact HK
    isplitl [HOS1]; · iexact HOS1
    isplitl [HYR2]; · iexact HYR2
    isplitl [HTS1]; · iexact HTS1
    isplitl [HFO0]; · iexact HFO0
    isplitl [HO]; · iexact HO
    iexact HQS3
  iintro ⟨HFO1, HO, HZYS2, HOS0, HTS0, HQS3⟩
  skip
  iapply (WP_bind c)
  iapply (part27 m ρ K c v2) $$ [HOS0 HYS3 HTS0 HFO1 HO HQR3 HYR3]
  · isplitr; · iexact HK
    isplitl [HOS0]; · iexact HOS0
    isplitl [HYS3]; · iexact HYS3
    isplitl [HTS0]; · iexact HTS0
    isplitl [HFO1]; · iexact HFO1
    isplitl [HO]; · iexact HO
    isplitl [HQR3]; · iexact HQR3
    iexact HYR3
  iintro %v889 ⟨HFO0, HFO1, HO, HZYR2, HQR3⟩
  iapply (WP_bind c)
  iapply (part28 m ρ K c v2 v889) $$ [HFO0 HO HQS4 HYS4 HFO1 HQR4]
  · isplitr; · iexact HK
    isplitl [HFO0]; · iexact HFO0
    isplitl [HO]; · iexact HO
    isplitl [HQS4]; · iexact HQS4
    isplitl [HYS4]; · iexact HYS4
    isplitl [HFO1]; · iexact HFO1
    iexact HQR4
  iintro %v911 ⟨HFO0, HO, HZYS3, HQS4, HZYR3, HOS1, HTS1, HQR4⟩
  dsimp only
  iapply (WP_bind c)
  iapply (part29 m ρ K c v2 v911) $$ [HOS1 HYR4 HTS1 HFO0 HO HQS5 HYS5]
  · isplitr; · iexact HK
    isplitl [HOS1]; · iexact HOS1
    isplitl [HYR4]; · iexact HYR4
    isplitl [HTS1]; · iexact HTS1
    isplitl [HFO0]; · iexact HFO0
    isplitl [HO]; · iexact HO
    isplitl [HQS5]; · iexact HQS5
    iexact HYS5
  iintro %v953 ⟨HFO1, HFO0, HO, HZYS4, HQS5⟩
  iapply (WP_bind c)
  iapply (part30 m ρ K c v2 v953) $$ [HFO1 HO HQR5 HYR5 HFO0]
  · isplitr; · iexact HK
    isplitl [HFO1]; · iexact HFO1
    isplitl [HO]; · iexact HO
    isplitl [HQR5]; · iexact HQR5
    isplitl [HYR5]; · iexact HYR5
    iexact HFO0
  iintro %v975 ⟨HFO1, HO, HZYR4, HQR5, HZYS5, HOS0, HTS0⟩
  iapply (WP_bind c)
  iapply (part31 m ρ K c v2 v975) $$ [HQS6 HOS0 HYS6 HTS0 HFO1 HO HQR6]
  · isplitr; · iexact HK
    isplitl [HQS6]; · iexact HQS6
    isplitl [HOS0]; · iexact HOS0
    isplitl [HYS6]; · iexact HYS6
    isplitl [HTS0]; · iexact HTS0
    isplitl [HFO1]; · iexact HFO1
    isplitl [HO]; · iexact HO
    iexact HQR6
  iintro ⟨HQS6, HFO0, HO, HZYR5, HOS1, HTS1, HQR6⟩
  skip
  iapply (WP_bind c)
  iapply (part32 m ρ K c v2) $$ [HOS1 HYR6 HTS1 HFO0 HO HQS7 HYS7]
  · isplitr; · iexact HK
    isplitl [HOS1]; · iexact HOS1
    isplitl [HYR6]; · iexact HYR6
    isplitl [HTS1]; · iexact HTS1
    isplitl [HFO0]; · iexact HFO0
    isplitl [HO]; · iexact HO
    isplitl [HQS7]; · iexact HQS7
    iexact HYS7
  iintro %v1040 ⟨HFO1, HFO0, HO, HZYS6, HQS7⟩
  iapply (WP_bind c)
  iapply (part33 m ρ K c v1040) $$ [HFO1 HO HQR7 HYR7 HSX0 HSX1]
  · isplitr; · iexact HK
    isplitl [HFO1]; · iexact HFO1
    isplitl [HO]; · iexact HO
    isplitl [HQR7]; · iexact HQR7
    isplitl [HYR7]; · iexact HYR7
    isplitl [HSX0]; · iexact HSX0
    iexact HSX1
  iintro ⟨HFO1, HO, HZYR6, HQR7, HS0l, HZS0, HS1l, HZS1⟩
  skip
  iapply (WP_bind c)
  iapply (part34 m ρ K c ) $$ [HSX2 HO HSX5 HSX3 HSX6 HSX4 HSX7]
  · isplitr; · iexact HK
    isplitl [HSX2]; · iexact HSX2
    isplitl [HO]; · iexact HO
    isplitl [HSX5]; · iexact HSX5
    isplitl [HSX3]; · iexact HSX3
    isplitl [HSX6]; · iexact HSX6
    isplitl [HSX4]; · iexact HSX4
    iexact HSX7
  iintro ⟨HO, HV0l, HZS2, HV0m, HZS5, HV1l, HZS3, HV1m, HZS6, HV5l, HZS4, HV3l, HZS7⟩
  skip
  simp only [semSignalWord, semWaitWord, Prog.lift, Prog.bind_op, Prog.bind_ret, Prog.pure_eq_ret]
  iapply (st_waitO m ρ K c (nS c 7) (oS m ρ c 7) sem_8_0 (crO _ _ _) (l := []) (by decide)) $$ [HFO0 HO]
  · isplitr; · iexact HK
    isplitl [HFO0]; · iexact HFO0
    iexact HO
  iintro ⟨HZYS7, HOS0, HTS0, HO⟩
  iapply (WP_done c)
  iapply (st_waitO m ρ K c (nR c 7) (oR m ρ c 7) sem_8_1 (crO _ _ _) (l := []) (by decide)) $$ [HFO1 HO]
  · isplitr; · iexact HK
    isplitl [HFO1]; · iexact HFO1
    iexact HO
  iintro ⟨HZYR7, HOS1, HTS1, HO⟩
  iapply (WP_done c)
  iapply Hk
  isplitl [HX]; · iexact HX
  isplitl [HO]; · iexact HO
  isplitl [HZB]; · iexact HZB
  isplitl [HW0]; · iexact HW0
  isplitl [HS0m]; · iexact HS0m
  isplitl [HW1]; · iexact HW1
  isplitl [HS1m]; · iexact HS1m
  isplitl [HW2]; · iexact HW2
  isplitl [HS2l]; · iexact HS2l
  isplitl [HS2m]; · iexact HS2m
  isplitl [HZR0]; · iexact HZR0
  isplitl [HW3]; · iexact HW3
  isplitl [HS3l]; · iexact HS3l
  isplitl [HS3m]; · iexact HS3m
  isplitl [HZR1]; · iexact HZR1
  isplitl [HW4]; · iexact HW4
  isplitl [HS4l]; · iexact HS4l
  isplitl [HS4m]; · iexact HS4m
  isplitl [HV5m]; · iexact HV5m
  isplitl [HZR5]; · iexact HZR5
  isplitl [HW5]; · iexact HW5
  isplitl [HS5l]; · iexact HS5l
  isplitl [HS5m]; · iexact HS5m
  isplitl [HV3m]; · iexact HV3m
  isplitl [HZR3]; · iexact HZR3
  isplitl [HWS0]; · iexact HWS0
  isplitl [HW6]; · iexact HW6
  isplitl [HLS0]; · iexact HLS0
  isplitl [HS6l]; · iexact HS6l
  isplitl [HS6m]; · iexact HS6m
  isplitl [HWS1]; · iexact HWS1
  isplitl [HW7]; · iexact HW7
  isplitl [HLS1]; · iexact HLS1
  isplitl [HS7l]; · iexact HS7l
  isplitl [HS7m]; · iexact HS7m
  isplitl [HV2l]; · iexact HV2l
  isplitl [HV2m]; · iexact HV2m
  isplitl [HZR2]; · iexact HZR2
  isplitl [HV6l]; · iexact HV6l
  isplitl [HV6m]; · iexact HV6m
  isplitl [HZR6]; · iexact HZR6
  isplitl [HV4l]; · iexact HV4l
  isplitl [HV4m]; · iexact HV4m
  isplitl [HZR4]; · iexact HZR4
  isplitl [HV7l]; · iexact HV7l
  isplitl [HV7m]; · iexact HV7m
  isplitl [HZR7]; · iexact HZR7
  isplitl [HQS0]; · iexact HQS0
  isplitl [HQS1]; · iexact HQS1
  isplitl [HQS2]; · iexact HQS2
  isplitl [HQS3]; · iexact HQS3
  isplitl [HQS4]; · iexact HQS4
  isplitl [HQS5]; · iexact HQS5
  isplitl [HQS6]; · iexact HQS6
  isplitl [HQS7]; · iexact HQS7
  isplitl [HQR0]; · iexact HQR0
  isplitl [HQR1]; · iexact HQR1
  isplitl [HQR2]; · iexact HQR2
  isplitl [HQR3]; · iexact HQR3
  isplitl [HQR4]; · iexact HQR4
  isplitl [HQR5]; · iexact HQR5
  isplitl [HQR6]; · iexact HQR6
  isplitl [HQR7]; · iexact HQR7
  isplitl [HZYS0]; · iexact HZYS0
  isplitl [HZYR0]; · iexact HZYR0
  isplitl [HZYS1]; · iexact HZYS1
  isplitl [HZYR1]; · iexact HZYR1
  isplitl [HZYS2]; · iexact HZYS2
  isplitl [HZYR2]; · iexact HZYR2
  isplitl [HZYS3]; · iexact HZYS3
  isplitl [HZYR3]; · iexact HZYR3
  isplitl [HZYS4]; · iexact HZYS4
  isplitl [HZYR4]; · iexact HZYR4
  isplitl [HZYS5]; · iexact HZYS5
  isplitl [HZYR5]; · iexact HZYR5
  isplitl [HZYS6]; · iexact HZYS6
  isplitl [HZYR6]; · iexact HZYR6
  isplitl [HS0l]; · iexact HS0l
  isplitl [HZS0]; · iexact HZS0
  isplitl [HS1l]; · iexact HS1l
  isplitl [HZS1]; · iexact HZS1
  isplitl [HV0l]; · iexact HV0l
  isplitl [HZS2]; · iexact HZS2
  isplitl [HV0m]; · iexact HV0m
  isplitl [HZS5]; · iexact HZS5
  isplitl [HV1l]; · iexact HV1l
  isplitl [HZS3]; · iexact HZS3
  isplitl [HV1m]; · iexact HV1m
  isplitl [HZS6]; · iexact HZS6
  isplitl [HV5l]; · iexact HV5l
  isplitl [HZS4]; · iexact HZS4
  isplitl [HV3l]; · iexact HV3l
  isplitl [HZS7]; · iexact HZS7
  isplitl [HZYS7]; · iexact HZYS7
  isplitl [HOS0]; · iexact HOS0
  isplitl [HTS0]; · iexact HTS0
  isplitl [HZYR7]; · iexact HZYR7
  isplitl [HOS1]; · iexact HOS1
  iexact HTS1

end Cert.KProof
-- ==== Proof.Splits.lean ====
/-
# Buffers as chunks

Each buffer whole is its chunks, in the order the body takes them and in the order it leaves them.
-/
module

public import proofs.«01_k».proof.Proof.Run

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Any buffer over any tiling -/

section Tiles

variable (c : Dev nD) {sp : Space} {sh : Shape} {e : EltTy} (M : Memref sig .tc sp sh e) {T : Type} [Fintype T] [DecidableEq T] (r : T → Rect sh)
  (hr : ∀ t a, (r t).stride a = 1) (hd : ∀ t t', t ≠ t' → Disjoint (r t).set (r t').set)
  (hcov : (Finset.univ : Finset T).biUnion (fun t => (r t).set) = Finset.univ)
include hd hcov

theorem tiles_any (X : sh.Idx → Elt F e) : (owns (c : Thread nD τ) M fullShare X : sProp 𝕄)
    ⊢ bigSep Finset.univ fun t => iprop(∃ Y, owns (c : Thread nD τ) (M.slice (r t) (hr t)) fullShare Y) := by
  refine (owns_rects (c : Thread nD τ) M fullShare r hr hd hcov X).trans (bigSep_mono fun t _ => ?_)
  show (owns (c : Thread nD τ) (M.slice (r t) (hr t)) fullShare (fun j => X ((r t).emb j)) : sProp 𝕄) ⊢ iprop(∃ Y, owns (c : Thread nD τ) (M.slice (r t) (hr t)) fullShare Y)
  iintro H; iexists _; iexact H

theorem tiles_all (X : (t : T) → (r t).shape.Idx → Elt F e) :
    (bigSep Finset.univ fun t => (owns (c : Thread nD τ) (M.slice (r t) (hr t)) fullShare (X t) : sProp 𝕄))
      ⊢ iprop(∃ Y, ⌜∀ t, (fun j => Y ((r t).emb j)) = X t⌝ ∗ owns (c : Thread nD τ) M fullShare Y) := by
  refine (bigSep_mono fun t _ => ownsSat_intro (c : Thread nD τ) (M.slice (r t) (hr t)) fullShare (Φ := (· = X t)) rfl).trans ?_
  exact (ownsSat_of_rects (c : Thread nD τ) M fullShare r hr hd hcov (fun t => (· = X t))).trans (ownsSat_elim (c : Thread nD τ) M fullShare _)

end Tiles

/-! ## The tilings -/

section Cols

variable {T : Type} [Fintype T] [DecidableEq T]

def colS (f : T → Fin 8) (t : T) : Rect S512x8192 := Rect.unit (s := S512x8192) (cOff (f t)) S512x1024.size (cOff_inb (f t))
def colW (f : T → Fin 8) (t : T) : Rect S1024x8192 := Rect.unit (s := S1024x8192) (cOff (f t)) S1024x1024.size (cOff_inbW (f t))
def colY (f : T → Fin 16) (t : T) : Rect S512x16384 := Rect.unit (s := S512x16384) (yOff (f t)) S512x1024.size (yOff_inb (f t))

omit [Fintype T] [DecidableEq T] in
theorem colS_one (f : T → Fin 8) (t : T) (a) : (colS f t).stride a = 1 := rfl
omit [Fintype T] [DecidableEq T] in
theorem colW_one (f : T → Fin 8) (t : T) (a) : (colW f t).stride a = 1 := rfl
omit [Fintype T] [DecidableEq T] in
theorem colY_one (f : T → Fin 16) (t : T) (a) : (colY f t).stride a = 1 := rfl

omit [Fintype T] [DecidableEq T] in
theorem colS_disj {f : T → Fin 8} (hf : Function.Injective f) (t t' : T) (h : t ≠ t') : Disjoint (colS f t).set (colS f t').set := by
  refine Rect.unit_disjoint 1 ?_
  have h1 : (f t).val ≠ (f t').val := fun h' => h (hf (Fin.ext h'))
  show 1024 * (f t).val + 1024 ≤ 1024 * (f t').val ∨ 1024 * (f t').val + 1024 ≤ 1024 * (f t).val
  omega
omit [DecidableEq T] in
theorem colS_cov {f : T → Fin 8} (hf : Function.Surjective f) : (Finset.univ : Finset T).biUnion (fun t => (colS f t).set) = Finset.univ := by
  ext i
  refine ⟨fun _ => Finset.mem_univ _, fun _ => ?_⟩
  have h1 : (i 1).val < 8192 := (i 1).isLt
  have h0 : (i 0).val < 512 := (i 0).isLt
  obtain ⟨t, ht⟩ := hf ⟨(i 1).val / 1024, by omega⟩
  have hv : (f t).val = (i 1).val / 1024 := congrArg Fin.val ht
  refine Finset.mem_biUnion.mpr ⟨t, Finset.mem_univ _, Rect.mem_set_unit.mpr fun a => ?_⟩
  match a with
  | 0 => exact ⟨Nat.zero_le _, (show (i 0).val < 0 + 512 by omega)⟩
  | 1 => exact (show 1024 * (f t).val ≤ (i 1).val ∧ (i 1).val < 1024 * (f t).val + 1024 by omega)

omit [Fintype T] [DecidableEq T] in
theorem colW_disj {f : T → Fin 8} (hf : Function.Injective f) (t t' : T) (h : t ≠ t') : Disjoint (colW f t).set (colW f t').set := by
  refine Rect.unit_disjoint 1 ?_
  have h1 : (f t).val ≠ (f t').val := fun h' => h (hf (Fin.ext h'))
  show 1024 * (f t).val + 1024 ≤ 1024 * (f t').val ∨ 1024 * (f t').val + 1024 ≤ 1024 * (f t).val
  omega
omit [DecidableEq T] in
theorem colW_cov {f : T → Fin 8} (hf : Function.Surjective f) : (Finset.univ : Finset T).biUnion (fun t => (colW f t).set) = Finset.univ := by
  ext i
  refine ⟨fun _ => Finset.mem_univ _, fun _ => ?_⟩
  have h1 : (i 1).val < 8192 := (i 1).isLt
  have h0 : (i 0).val < 1024 := (i 0).isLt
  obtain ⟨t, ht⟩ := hf ⟨(i 1).val / 1024, by omega⟩
  have hv : (f t).val = (i 1).val / 1024 := congrArg Fin.val ht
  refine Finset.mem_biUnion.mpr ⟨t, Finset.mem_univ _, Rect.mem_set_unit.mpr fun a => ?_⟩
  match a with
  | 0 => exact ⟨Nat.zero_le _, (show (i 0).val < 0 + 1024 by omega)⟩
  | 1 => exact (show 1024 * (f t).val ≤ (i 1).val ∧ (i 1).val < 1024 * (f t).val + 1024 by omega)

omit [Fintype T] [DecidableEq T] in
theorem colY_disj {f : T → Fin 16} (hf : Function.Injective f) (t t' : T) (h : t ≠ t') : Disjoint (colY f t).set (colY f t').set := by
  refine Rect.unit_disjoint 1 ?_
  have h1 : (f t).val ≠ (f t').val := fun h' => h (hf (Fin.ext h'))
  show 1024 * (f t).val + 1024 ≤ 1024 * (f t').val ∨ 1024 * (f t').val + 1024 ≤ 1024 * (f t).val
  omega
omit [DecidableEq T] in
theorem colY_cov {f : T → Fin 16} (hf : Function.Surjective f) : (Finset.univ : Finset T).biUnion (fun t => (colY f t).set) = Finset.univ := by
  ext i
  refine ⟨fun _ => Finset.mem_univ _, fun _ => ?_⟩
  have h1 : (i 1).val < 16384 := (i 1).isLt
  have h0 : (i 0).val < 512 := (i 0).isLt
  obtain ⟨t, ht⟩ := hf ⟨(i 1).val / 1024, by omega⟩
  have hv : (f t).val = (i 1).val / 1024 := congrArg Fin.val ht
  refine Finset.mem_biUnion.mpr ⟨t, Finset.mem_univ _, Rect.mem_set_unit.mpr fun a => ?_⟩
  match a with
  | 0 => exact ⟨Nat.zero_le _, (show (i 0).val < 0 + 512 by omega)⟩
  | 1 => exact (show 1024 * (f t).val ≤ (i 1).val ∧ (i 1).val < 1024 * (f t).val + 1024 by omega)

end Cols

theorem slot_inbW (b : Fin 2) : ∀ a, (![b.val, 0, 0] : Fin 3 → ℕ) a + S1x1024x1024.size a ≤ S2x1024x1024.size a := by revert b; decide +kernel
theorem slot_inbO (b : Fin 2) : ∀ a, (![b.val, 0, 0] : Fin 3 → ℕ) a + S1x512x1024.size a ≤ S2x512x1024.size a := by revert b; decide +kernel
def slotW (b : Fin 2) : Rect S2x1024x1024 := Rect.unit (s := S2x1024x1024) ![b.val, 0, 0] S1x1024x1024.size (slot_inbW b)
def slotO (b : Fin 2) : Rect S2x512x1024 := Rect.unit (s := S2x512x1024) ![b.val, 0, 0] S1x512x1024.size (slot_inbO b)
theorem slotW_one (t : Fin 2) (a) : (slotW t).stride a = 1 := rfl
theorem slotO_one (t : Fin 2) (a) : (slotO t).stride a = 1 := rfl

theorem slotW_disj (t t' : Fin 2) (h : t ≠ t') : Disjoint (slotW t).set (slotW t').set := by
  refine Rect.unit_disjoint 0 ?_
  have h1 : t.val ≠ t'.val := fun h' => h (Fin.ext h')
  show t.val + 1 ≤ t'.val ∨ t'.val + 1 ≤ t.val
  omega
theorem slotW_cov : (Finset.univ : Finset (Fin 2)).biUnion (fun t => (slotW t).set) = Finset.univ := by
  ext i
  refine ⟨fun _ => Finset.mem_univ _, fun _ => ?_⟩
  have h0 : (i 0).val < 2 := (i 0).isLt
  have h1 : (i 1).val < 1024 := (i 1).isLt
  have h2 : (i 2).val < 1024 := (i 2).isLt
  refine Finset.mem_biUnion.mpr ⟨⟨(i 0).val, h0⟩, Finset.mem_univ _, Rect.mem_set_unit.mpr fun a => ?_⟩
  match a with
  | 0 => exact (show (i 0).val ≤ (i 0).val ∧ (i 0).val < (i 0).val + 1 by omega)
  | 1 => exact ⟨Nat.zero_le _, (show (i 1).val < 0 + 1024 by omega)⟩
  | 2 => exact ⟨Nat.zero_le _, (show (i 2).val < 0 + 1024 by omega)⟩

theorem slotO_disj (t t' : Fin 2) (h : t ≠ t') : Disjoint (slotO t).set (slotO t').set := by
  refine Rect.unit_disjoint 0 ?_
  have h1 : t.val ≠ t'.val := fun h' => h (Fin.ext h')
  show t.val + 1 ≤ t'.val ∨ t'.val + 1 ≤ t.val
  omega
theorem slotO_cov : (Finset.univ : Finset (Fin 2)).biUnion (fun t => (slotO t).set) = Finset.univ := by
  ext i
  refine ⟨fun _ => Finset.mem_univ _, fun _ => ?_⟩
  have h0 : (i 0).val < 2 := (i 0).isLt
  have h1 : (i 1).val < 512 := (i 1).isLt
  have h2 : (i 2).val < 1024 := (i 2).isLt
  refine Finset.mem_biUnion.mpr ⟨⟨(i 0).val, h0⟩, Finset.mem_univ _, Rect.mem_set_unit.mpr fun a => ?_⟩
  match a with
  | 0 => exact (show (i 0).val ≤ (i 0).val ∧ (i 0).val < (i 0).val + 1 by omega)
  | 1 => exact ⟨Nat.zero_le _, (show (i 1).val < 0 + 512 by omega)⟩
  | 2 => exact ⟨Nat.zero_le _, (show (i 2).val < 0 + 1024 by omega)⟩

/-- The chunk of the result: of the device's own half (`false`) and of the other (`true`). -/
def nn (c : Dev nD) (t : Bool × Fin 8) : Fin 16 := if t.1 then nR c t.2 else nS c t.2
theorem nn_inj (c : Dev nD) : Function.Injective (nn c) := by
  intro a b; revert c a b; decide +kernel
theorem nn_surj (c : Dev nD) : Function.Surjective (nn c) := by
  intro a; revert c a; decide +kernel
theorem ch_surj (c : Dev nD) : Function.Surjective (ch c) := Finite.injective_iff_surjective.mp (ch_inj c)
theorem lnd_surj (c : Dev nD) : Function.Surjective (lnd c) := Finite.injective_iff_surjective.mp (lnd_inj c)

theorem two (Φ : Fin 2 → sProp 𝕄) : bigSep Finset.univ Φ = iprop(Φ 0 ∗ Φ 1) := bigSep_univ_eq_bigSepL [0, 1] (by decide) (by decide) Φ
theorem bool2 (Φ : Bool → sProp 𝕄) : bigSep Finset.univ Φ = iprop(Φ false ∗ Φ true) := bigSep_univ_eq_bigSepL [false, true] (by decide) (by decide) Φ

/-! ## The buffers -/

variable (c : Dev nD)

/-- The send buffer, its chunks in the order the device computes them. -/
theorem send_in (f : Buf (Elt F) ((c : Thread nD τ).loc cc0_scratch0)) : (((c : Thread nD τ).loc cc0_scratch0) ↦{fullShare} f : sProp 𝕄)
    ⊢ bigSep Finset.univ fun k => iprop(∃ X, sendP c (ch c k) fullShare X) := by
  rw [← owns_whole (c : Thread nD τ) cc0_scratch0 fullShare f]
  exact tiles_any c sBufM (colS (ch c)) (colS_one _) (colS_disj (ch_inj c)) (colS_cov (ch_surj c)) f
theorem send_out (X : Fin 8 → Vec F S512x1024 .bf16) : (bigSep Finset.univ fun k => (sendP c (ch c k) fullShare (X k) : sProp 𝕄))
    ⊢ iprop(∃ f : Buf (Elt F) ((c : Thread nD τ).loc cc0_scratch0), ((c : Thread nD τ).loc cc0_scratch0) ↦{fullShare} f) := by
  refine (tiles_all c sBufM (colS (ch c)) (colS_one _) (colS_disj (ch_inj c)) (colS_cov (ch_surj c)) X).trans ?_
  iintro ⟨%Y, -, H⟩
  iexists Y
  iapply (Entails.of_eq (owns_whole (c : Thread nD τ) cc0_scratch0 fullShare Y)); iexact H

theorem dstP_peer (k : Fin 8) : (dstP (peer c k) k : sProp 𝕄) = iprop(∃ X, recvP c (lnd c k) fullShare X) := by
  unfold dstP; rw [peer_peer]; rfl

/-- The receive buffer, its chunks as the barrier's signals hand them over. -/
theorem recv_in (f : Buf (Elt F) ((c : Thread nD τ).loc cc0_scratch1)) : (((c : Thread nD τ).loc cc0_scratch1) ↦{fullShare} f : sProp 𝕄)
    ⊢ iprop(barPay (pr c 0) 0 ∗ barPay (pr c 1) 1 ∗ barPay (pr c 2) 2) := by
  rw [← owns_whole (c : Thread nD τ) cc0_scratch1 fullShare f]
  refine (tiles_any c rBufM (colS (lnd c)) (colS_one _) (colS_disj (lnd_inj c)) (colS_cov (lnd_surj c)) f).trans ?_
  refine (Entails.of_eq (bigSep_congr fun k _ => (dstP_peer c k).symm)).trans ?_
  rw [eight]
  show iprop(dstP (px c) 0 ∗ dstP (px c) 1 ∗ dstP (py c) 2 ∗ dstP (py c) 3 ∗ dstP (py c) 4 ∗ dstP (pz c) 5 ∗ dstP (pz c) 6 ∗ dstP (pz c) 7)
    ⊢ iprop((dstP (px c) 0 ∗ dstP (px c) 1) ∗ (dstP (py c) 2 ∗ dstP (py c) 3 ∗ dstP (py c) 4) ∗ (dstP (pz c) 5 ∗ dstP (pz c) 6 ∗ dstP (pz c) 7))
  iintro ⟨H0, H1, H2, H3, H4, H5, H6, H7⟩
  isplitl [H0 H1]
  · isplitl [H0]; · iexact H0
    iexact H1
  isplitl [H2 H3 H4]
  · isplitl [H2]; · iexact H2
    isplitl [H3]; · iexact H3
    iexact H4
  isplitl [H5]; · iexact H5
  isplitl [H6]; · iexact H6
  iexact H7
theorem recv_out (X : Fin 8 → Vec F S512x1024 .bf16) : (bigSep Finset.univ fun k => (recvP c (lnd c k) fullShare (X k) : sProp 𝕄))
    ⊢ iprop(∃ f : Buf (Elt F) ((c : Thread nD τ).loc cc0_scratch1), ((c : Thread nD τ).loc cc0_scratch1) ↦{fullShare} f) := by
  refine (tiles_all c rBufM (colS (lnd c)) (colS_one _) (colS_disj (lnd_inj c)) (colS_cov (lnd_surj c)) X).trans ?_
  iintro ⟨%Y, -, H⟩
  iexists Y
  iapply (Entails.of_eq (owns_whole (c : Thread nD τ) cc0_scratch1 fullShare Y)); iexact H

/-- The device's block of `W`, as chunks. -/
theorem w_chunks : (((c : Thread nD τ).loc main_arg1) ↦{fullShare} m ((c : Thread nD τ).loc main_arg1) : sProp 𝕄)
    = bigSep Finset.univ fun k => wP c (ch c k) (wch m c (ch c k)) := by
  have h := pointsTo_rects (Ix := Unit) (Name := ℕ) (U := UU) (Lvl := ℕ) (c : Thread nD τ) wM fullShare (colW (ch c)) (colW_one _) (colW_disj (ch_inj c))
    (colW_cov (ch_surj c)) (m ((c : Thread nD τ).loc main_arg1))
  rw [View.set_whole] at h
  exact h

/-- The staging slots. -/
theorem wst_in (f : Buf (Elt F) ((c : Thread nD τ).loc cc0_scratch2)) : (((c : Thread nD τ).loc cc0_scratch2) ↦{fullShare} f : sProp 𝕄)
    ⊢ iprop((∃ X, owns (c : Thread nD τ) (slW ![0, 0, 0] inb_S2x1024x1024_S1x1024x1024_0_0_0) fullShare X)
      ∗ (∃ X, owns (c : Thread nD τ) (slW ![1, 0, 0] inb_S2x1024x1024_S1x1024x1024_1_0_0) fullShare X)) := by
  rw [← owns_whole (c : Thread nD τ) cc0_scratch2 fullShare f]
  exact (tiles_any c wStM slotW slotW_one slotW_disj slotW_cov f).trans (Entails.of_eq (two _))
theorem wst_out (X X' : Vec F S1x1024x1024 .f32) :
    iprop(owns (c : Thread nD τ) (slW ![0, 0, 0] inb_S2x1024x1024_S1x1024x1024_0_0_0) fullShare X
      ∗ owns (c : Thread nD τ) (slW ![1, 0, 0] inb_S2x1024x1024_S1x1024x1024_1_0_0) fullShare X')
    ⊢ (iprop(∃ f : Buf (Elt F) ((c : Thread nD τ).loc cc0_scratch2), ((c : Thread nD τ).loc cc0_scratch2) ↦{fullShare} f) : sProp 𝕄) := by
  refine (Entails.of_eq (two (F := F) (fun b : Fin 2 => owns (c : Thread nD τ) (wStM.slice (slotW b) (slotW_one b)) fullShare ((![X, X'] : Fin 2 → Vec F S1x1024x1024 .f32) b))).symm).trans ?_
  refine (tiles_all c wStM slotW slotW_one slotW_disj slotW_cov (fun b => (![X, X'] : Fin 2 → Vec F S1x1024x1024 .f32) b)).trans ?_
  iintro ⟨%Y, -, H⟩
  iexists Y
  iapply (Entails.of_eq (owns_whole (c : Thread nD τ) cc0_scratch2 fullShare Y)); iexact H
theorem ost_in (f : Buf (Elt F) ((c : Thread nD τ).loc cc0_scratch3)) : (((c : Thread nD τ).loc cc0_scratch3) ↦{fullShare} f : sProp 𝕄)
    ⊢ iprop((∃ X, owns (c : Thread nD τ) (slO ![0, 0, 0] inb_S2x512x1024_S1x512x1024_0_0_0) fullShare X)
      ∗ (∃ X, owns (c : Thread nD τ) (slO ![1, 0, 0] inb_S2x512x1024_S1x512x1024_1_0_0) fullShare X)) := by
  rw [← owns_whole (c : Thread nD τ) cc0_scratch3 fullShare f]
  exact (tiles_any c oStM slotO slotO_one slotO_disj slotO_cov f).trans (Entails.of_eq (two _))
theorem ost_out (X X' : Vec F S1x512x1024 .bf16) :
    iprop(owns (c : Thread nD τ) (slO ![0, 0, 0] inb_S2x512x1024_S1x512x1024_0_0_0) fullShare X
      ∗ owns (c : Thread nD τ) (slO ![1, 0, 0] inb_S2x512x1024_S1x512x1024_1_0_0) fullShare X')
    ⊢ (iprop(∃ f : Buf (Elt F) ((c : Thread nD τ).loc cc0_scratch3), ((c : Thread nD τ).loc cc0_scratch3) ↦{fullShare} f) : sProp 𝕄) := by
  refine (Entails.of_eq (two (F := F) (fun b : Fin 2 => owns (c : Thread nD τ) (oStM.slice (slotO b) (slotO_one b)) fullShare ((![X, X'] : Fin 2 → Vec F S1x512x1024 .bf16) b))).symm).trans ?_
  refine (tiles_all c oStM slotO slotO_one slotO_disj slotO_cov (fun b => (![X, X'] : Fin 2 → Vec F S1x512x1024 .bf16) b)).trans ?_
  iintro ⟨%Y, -, H⟩
  iexists Y
  iapply (Entails.of_eq (owns_whole (c : Thread nD τ) cc0_scratch3 fullShare Y)); iexact H

/-- What the result reads on chunk `n`. -/
def yRd (f : Buf (Elt F) ((c : Thread nD τ).loc main_v1)) (n : Fin 16) : Vec F S512x1024 .bf16 :=
  (ckY (yOff n) (yOff_inb n)).view.read (Elt F) f

theorem y_in (f : Buf (Elt F) ((c : Thread nD τ).loc main_v1)) : (((c : Thread nD τ).loc main_v1) ↦{fullShare} f : sProp 𝕄)
    ⊢ iprop((bigSep Finset.univ fun j => iprop(∃ Y, yP c (nS c j) Y)) ∗ (bigSep Finset.univ fun j => iprop(∃ Y, yP c (nR c j) Y))) := by
  rw [← owns_whole (c : Thread nD τ) main_v1 fullShare f]
  refine (tiles_any c yM (colY (nn c)) (colY_one _) (colY_disj (nn_inj c)) (colY_cov (nn_surj c)) f).trans ?_
  rw [bigSep_univ_prod, bool2]
  exact .rfl

/-- The result, whole, from its chunks at the values the body leaves. -/
theorem y_out (X X' : Fin 8 → Vec F S512x1024 .bf16) :
    iprop((bigSep Finset.univ fun j => yP c (nS c j) (X j)) ∗ (bigSep Finset.univ fun j => yP c (nR c j) (X' j)))
      ⊢ (iprop(∃ f : Buf (Elt F) ((c : Thread nD τ).loc main_v1), ⌜(∀ j, yRd c f (nS c j) = X j) ∧ ∀ j, yRd c f (nR c j) = X' j⌝
          ∗ ((c : Thread nD τ).loc main_v1) ↦{fullShare} f) : sProp 𝕄) := by
  have h := tiles_all (F := F) c yM (colY (nn c)) (colY_one _) (colY_disj (nn_inj c)) (colY_cov (nn_surj c)) (fun t => if t.1 then X' t.2 else X t.2)
  rw [bigSep_univ_prod, bool2] at h
  refine (show _ ⊢ _ from h).trans ?_
  iintro ⟨%Y, %hY, H⟩
  iexists Y
  isplitr
  · ipureintro
    exact ⟨fun j => hY (false, j), fun j => hY (true, j)⟩
  iapply (Entails.of_eq (owns_whole (c : Thread nD τ) main_v1 fullShare Y)); iexact H

end Cert.KProof
-- ==== Proof.Body.lean ====
/-
# The body between whole buffers

What the launch hands a device's body becomes what the parts take; what they leave becomes whole buffers again.
-/
module

public import proofs.«01_k».proof.Proof.Splits

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 65536
set_option maxHeartbeats 4000000

variable (m : (ℓ : Loc nD τ sig) → Buf (Elt F) ℓ) (ρ : Dev nD → PrngReg) (K : Dev nD × CI → ℕ)

/-! ## What a device holds -/

theorem bigSep_ci (Φ : CI → sProp 𝕄) : bigSep Finset.univ Φ
    = iprop(Φ none ∗ (bigSep Finset.univ fun k => Φ (some (false, k))) ∗ (bigSep Finset.univ fun k => Φ (some (true, k)))) := by
  have h : bigSep Finset.univ Φ = iprop(((bigSep Finset.univ fun k => Φ (some (false, k))) ∗ (bigSep Finset.univ fun k => Φ (some (true, k)))) ∗ Φ none) := by
    rw [bigSep_univ_equiv (Equiv.optionEquivSumPUnit.{0} (Bool × Fin 8)).symm Φ, bigSep_univ_sum, bigSep_univ_prod, bool2,
      bigSep_univ_eq_bigSepL [PUnit.unit] (by decide) (by decide), bigSepL_singleton]
    rfl
  rw [h]
  have g1 (A B C : sProp 𝕄) : iprop((A ∗ B) ∗ C) ⊢ iprop(C ∗ A ∗ B) := by
    iintro ⟨⟨H1, H2⟩, H3⟩
    isplitl [H3]; · iexact H3
    isplitl [H1]; · iexact H1
    iexact H2
  have g2 (A B C : sProp 𝕄) : iprop(C ∗ A ∗ B) ⊢ iprop((A ∗ B) ∗ C) := by
    iintro ⟨H3, H1, H2⟩
    isplitl [H1 H2]
    · isplitl [H1]; · iexact H1
      iexact H2
    iexact H3
  exact BI.equiv_iff.mp ⟨g1 _ _ _, g2 _ _ _⟩
theorem three (Φ : Fin 3 → sProp 𝕄) : bigSep Finset.univ Φ = iprop(Φ 0 ∗ Φ 1 ∗ Φ 2) := bigSep_univ_eq_bigSepL [0, 1, 2] (by decide) (by decide) Φ

/-- The semaphores of the local copies, at zero. -/
def locals (c : Dev nD) : sProp 𝕄 :=
  iprop(semVal ((c : Thread nD τ), .dma 1) 0 ∗ semVal ((c : Thread nD τ), .dma 2) 0 ∗ semVal ((c : Thread nD τ), .dma 3) 0
    ∗ semVal ((c : Thread nD τ), .dma 4) 0)
/-- The duties device `c` pays with: its signals', its copies' at its own send cells and at its peers' receive cells. -/
def payToks (c : Dev nD) : sProp 𝕄 :=
  iprop((bigSep Finset.univ fun a : Fin 3 => dutyTok ER (barC (pr c a)) 0 a) ∗ (bigSep Finset.univ fun k : Fin 8 => dutyTok ER (sndC c k) 0 0)
    ∗ (bigSep Finset.univ fun k : Fin 8 => dutyTok ER (rcvC (peer c k) k) 0 0))
/-- What of the exchange's state is device `c`'s alone. -/
def linear (c : Dev nD) : sProp 𝕄 :=
  iprop((bigSep Finset.univ fun i : CI => atPos ER (kcell (c, i)) 0 ∅ 0) ∗ payToks c ∗ locals c)
def credsOf (c : Dev nD) : sProp 𝕄 :=
  iprop(cred (tallyAt (barC c) () 3) ∗ bigSep Finset.univ fun k : Fin 8 => cred (tallyAt (rcvC c k) () N))
/-- The scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
def arrW (c : Dev nD) : sProp 𝕄 := iprop(((c : Thread nD τ).loc main_arg1) ↦{fullShare} m ((c : Thread nD τ).loc main_arg1))
def arrY (c : Dev nD) : sProp 𝕄 := iprop(((c : Thread nD τ).loc main_v1) ↦{fullShare} m ((c : Thread nD τ).loc main_v1))
/-- The result holds what the body computes, chunk by chunk. -/
def YOk (c : Dev nD) (f : Buf (Elt F) ((c : Thread nD τ).loc main_v1)) : Prop :=
  (∀ j, yRd c f (nS c j) = oc (oS m ρ c j)) ∧ ∀ j, yRd c f (nR c j) = oc (oR m ρ c j)
def arrY' (c : Dev nD) : sProp 𝕄 :=
  iprop(∃ f : Buf (Elt F) ((c : Thread nD τ).loc main_v1), ⌜YOk m ρ c f⌝ ∗ ((c : Thread nD τ).loc main_v1) ↦{fullShare} f)
/-- The cells' semaphores, at zero again. -/
def zeros (c : Dev nD) : sProp 𝕄 := bigSep Finset.univ fun i : CI => semVal (kcell (c, i)) 0

theorem body_in (c : Dev nD) : iprop(linear c ∗ credsOf c ∗ arrW m c ∗ arrY m c ∗ scratch c ∗ xP m ρ c ∗ ow c plan) ⊢ bodyIn m ρ c := by
  unfold linear credsOf payToks locals arrW arrY scratch bodyIn tx rx
  rw [bigSep_ci, w_chunks]
  simp only [eight, three]
  iintro ⟨⟨⟨HB, ⟨HA0, HA1, HA2, HA3, HA4, HA5, HA6, HA7⟩, ⟨HP0, HP1, HP2, HP3, HP4, HP5, HP6, HP7⟩⟩, ⟨⟨HGT0, HGT1, HGT2⟩, ⟨HD0, HD1, HD2, HD3, HD4, HD5, HD6, HD7⟩, ⟨HE0, HE1, HE2, HE3, HE4, HE5, HE6, HE7⟩⟩, HLS0, HLS1, HTS0, HTS1⟩,
    ⟨HBC, ⟨HC0, HC1, HC2, HC3, HC4, HC5, HC6, HC7⟩⟩, ⟨HW0, HW1, HW2, HW3, HW4, HW5, HW6, HW7⟩, HY, ⟨⟨%f0, Hs⟩, ⟨%f1, Hr⟩, ⟨%f2, Hw⟩, ⟨%f3, Ho⟩⟩, HX, HO⟩
  ihave Hs' := (send_in (F := F) c f0) $$ Hs
  ihave Hs := (Entails.of_eq (eight (F := F) _)) $$ Hs'
  icases Hs with ⟨HS0, HS1, HS2, HS3, HS4, HS5, HS6, HS7⟩
  ihave Hr' := (recv_in (F := F) c f1) $$ Hr
  icases Hr' with ⟨HG0, HG1, HG2⟩
  ihave Hw' := (wst_in (F := F) c f2) $$ Hw
  icases Hw' with ⟨HWS0, HWS1⟩
  ihave Ho' := (ost_in (F := F) c f3) $$ Ho
  icases Ho' with ⟨HOS0, HOS1⟩
  ihave HY' := (y_in (F := F) c (m ((c : Thread nD τ).loc main_v1))) $$ HY
  icases HY' with ⟨HYa, HYb⟩
  ihave HYa' := (Entails.of_eq (eight (F := F) _)) $$ HYa
  ihave HYb' := (Entails.of_eq (eight (F := F) _)) $$ HYb
  icases HYa' with ⟨HYS0, HYS1, HYS2, HYS3, HYS4, HYS5, HYS6, HYS7⟩
  icases HYb' with ⟨HYR0, HYR1, HYR2, HYR3, HYR4, HYR5, HYR6, HYR7⟩
  isplitl [HX]; · iexact HX
  isplitl [HW0]; · iexact HW0
  isplitl [HW1]; · iexact HW1
  isplitl [HW2]; · iexact HW2
  isplitl [HW3]; · iexact HW3
  isplitl [HW4]; · iexact HW4
  isplitl [HW5]; · iexact HW5
  isplitl [HW6]; · iexact HW6
  isplitl [HW7]; · iexact HW7
  isplitl [HWS0]; · iexact HWS0
  isplitl [HOS0]; · iexact HOS0
  isplitl [HLS0]; · iexact HLS0
  isplitl [HTS0]; · iexact HTS0
  isplitl [HWS1]; · iexact HWS1
  isplitl [HOS1]; · iexact HOS1
  isplitl [HLS1]; · iexact HLS1
  isplitl [HTS1]; · iexact HTS1
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HG0]; · iexact HG0
  isplitl [HGT0]; · iexact HGT0
  isplitl [HG1]; · iexact HG1
  isplitl [HGT1]; · iexact HGT1
  isplitl [HG2]; · iexact HG2
  isplitl [HGT2]; · iexact HGT2
  isplitl [HB]; · iexact HB
  isplitl [HBC]; · iexact HBC
  isplitl [HD0 HE0]
  · isplitl [HD0]; · iexact HD0
    iexact HE0
  isplitl [HA0]; · iexact HA0
  isplitl [HP0 HC0]
  · isplitl [HP0]; · iexact HP0
    iexact HC0
  isplitl [HD1 HE1]
  · isplitl [HD1]; · iexact HD1
    iexact HE1
  isplitl [HA1]; · iexact HA1
  isplitl [HP1 HC1]
  · isplitl [HP1]; · iexact HP1
    iexact HC1
  isplitl [HD2 HE2]
  · isplitl [HD2]; · iexact HD2
    iexact HE2
  isplitl [HA2]; · iexact HA2
  isplitl [HP2 HC2]
  · isplitl [HP2]; · iexact HP2
    iexact HC2
  isplitl [HD3 HE3]
  · isplitl [HD3]; · iexact HD3
    iexact HE3
  isplitl [HA3]; · iexact HA3
  isplitl [HP3 HC3]
  · isplitl [HP3]; · iexact HP3
    iexact HC3
  isplitl [HD4 HE4]
  · isplitl [HD4]; · iexact HD4
    iexact HE4
  isplitl [HA4]; · iexact HA4
  isplitl [HP4 HC4]
  · isplitl [HP4]; · iexact HP4
    iexact HC4
  isplitl [HD5 HE5]
  · isplitl [HD5]; · iexact HD5
    iexact HE5
  isplitl [HA5]; · iexact HA5
  isplitl [HP5 HC5]
  · isplitl [HP5]; · iexact HP5
    iexact HC5
  isplitl [HD6 HE6]
  · isplitl [HD6]; · iexact HD6
    iexact HE6
  isplitl [HA6]; · iexact HA6
  isplitl [HP6 HC6]
  · isplitl [HP6]; · iexact HP6
    iexact HC6
  isplitl [HD7 HE7]
  · isplitl [HD7]; · iexact HD7
    iexact HE7
  isplitl [HA7]; · iexact HA7
  isplitl [HP7 HC7]
  · isplitl [HP7]; · iexact HP7
    iexact HC7
  isplitl [HYS0]; · iexact HYS0
  isplitl [HYR0]; · iexact HYR0
  isplitl [HYS1]; · iexact HYS1
  isplitl [HYR1]; · iexact HYR1
  isplitl [HYS2]; · iexact HYS2
  isplitl [HYR2]; · iexact HYR2
  isplitl [HYS3]; · iexact HYS3
  isplitl [HYR3]; · iexact HYR3
  isplitl [HYS4]; · iexact HYS4
  isplitl [HYR4]; · iexact HYR4
  isplitl [HYS5]; · iexact HYS5
  isplitl [HYR5]; · iexact HYR5
  isplitl [HYS6]; · iexact HYS6
  isplitl [HYR6]; · iexact HYR6
  isplitl [HYS7]; · iexact HYS7
  isplitl [HYR7]; · iexact HYR7
  iexact HO

theorem body_out (c : Dev nD) : bodyOut m ρ c ⊢ iprop(xP m ρ c ∗ ow c [] ∗ arrW m c ∗ arrY' m ρ c ∗ zeros c ∗ locals c ∗ scratch c) := by
  unfold bodyOut
  iintro ⟨HX, HO, HZB, HW0, HS0m, HW1, HS1m, HW2, HS2l, HS2m, HZR0, HW3, HS3l, HS3m, HZR1, HW4, HS4l, HS4m, HV5m, HZR5, HW5, HS5l, HS5m, HV3m, HZR3, HWS0, HW6, HLS0, HS6l, HS6m, HWS1, HW7, HLS1, HS7l, HS7m, HV2l, HV2m, HZR2, HV6l, HV6m, HZR6, HV4l, HV4m, HZR4, HV7l, HV7m, HZR7, HQS0, HQS1, HQS2, HQS3, HQS4, HQS5, HQS6, HQS7, HQR0, HQR1, HQR2, HQR3, HQR4, HQR5, HQR6, HQR7, HZYS0, HZYR0, HZYS1, HZYR1, HZYS2, HZYR2, HZYS3, HZYR3, HZYS4, HZYR4, HZYS5, HZYR5, HZYS6, HZYR6, HS0l, HZS0, HS1l, HZS1, HV0l, HZS2, HV0m, HZS5, HV1l, HZS3, HV1m, HZS6, HV5l, HZS4, HV3l, HZS7, HZYS7, HOS0, HTS0, HZYR7, HOS1, HTS1⟩
  ihave HQS := (Entails.of_eq (send_order m ρ c).symm) $$ [HQS0 HQS1 HQS2 HQS3 HQS4 HQS5 HQS6 HQS7]
  · isplitl [HQS0]; · iexact HQS0
    isplitl [HQS1]; · iexact HQS1
    isplitl [HQS2]; · iexact HQS2
    isplitl [HQS3]; · iexact HQS3
    isplitl [HQS4]; · iexact HQS4
    isplitl [HQS5]; · iexact HQS5
    isplitl [HQS6]; · iexact HQS6
    iexact HQS7
  icases HQS with ⟨HS0r, HS1r, HS2r, HS3r, HS4r, HS5r, HS6r, HS7r⟩
  ihave HQR := (Entails.of_eq (recv_order m ρ c).symm) $$ [HQR0 HQR1 HQR2 HQR3 HQR4 HQR5 HQR6 HQR7]
  · isplitl [HQR0]; · iexact HQR0
    isplitl [HQR1]; · iexact HQR1
    isplitl [HQR2]; · iexact HQR2
    isplitl [HQR3]; · iexact HQR3
    isplitl [HQR4]; · iexact HQR4
    isplitl [HQR5]; · iexact HQR5
    isplitl [HQR6]; · iexact HQR6
    iexact HQR7
  icases HQR with ⟨HV0r, HV1r, HV2r, HV3r, HV4r, HV5r, HV6r, HV7r⟩
  ihave HS0 := (send_shares (F := F) c (ch c 0) (ebf m ρ c (ch c 0))).2 $$ [HS0l HS0m HS0r]
  · isplitl [HS0l]; · iexact HS0l
    isplitl [HS0m]; · iexact HS0m
    iexact HS0r
  ihave HS1 := (send_shares (F := F) c (ch c 1) (ebf m ρ c (ch c 1))).2 $$ [HS1l HS1m HS1r]
  · isplitl [HS1l]; · iexact HS1l
    isplitl [HS1m]; · iexact HS1m
    iexact HS1r
  ihave HS2 := (send_shares (F := F) c (ch c 2) (ebf m ρ c (ch c 2))).2 $$ [HS2l HS2m HS2r]
  · isplitl [HS2l]; · iexact HS2l
    isplitl [HS2m]; · iexact HS2m
    iexact HS2r
  ihave HS3 := (send_shares (F := F) c (ch c 3) (ebf m ρ c (ch c 3))).2 $$ [HS3l HS3m HS3r]
  · isplitl [HS3l]; · iexact HS3l
    isplitl [HS3m]; · iexact HS3m
    iexact HS3r
  ihave HS4 := (send_shares (F := F) c (ch c 4) (ebf m ρ c (ch c 4))).2 $$ [HS4l HS4m HS4r]
  · isplitl [HS4l]; · iexact HS4l
    isplitl [HS4m]; · iexact HS4m
    iexact HS4r
  ihave HS5 := (send_shares (F := F) c (ch c 5) (ebf m ρ c (ch c 5))).2 $$ [HS5l HS5m HS5r]
  · isplitl [HS5l]; · iexact HS5l
    isplitl [HS5m]; · iexact HS5m
    iexact HS5r
  ihave HS6 := (send_shares (F := F) c (ch c 6) (ebf m ρ c (ch c 6))).2 $$ [HS6l HS6m HS6r]
  · isplitl [HS6l]; · iexact HS6l
    isplitl [HS6m]; · iexact HS6m
    iexact HS6r
  ihave HS7 := (send_shares (F := F) c (ch c 7) (ebf m ρ c (ch c 7))).2 $$ [HS7l HS7m HS7r]
  · isplitl [HS7l]; · iexact HS7l
    isplitl [HS7m]; · iexact HS7m
    iexact HS7r
  ihave HV0 := (recv_shares (F := F) c (lnd c 0) (rv m ρ c (lnd c 0))).2 $$ [HV0l HV0m HV0r]
  · isplitl [HV0l]; · iexact HV0l
    isplitl [HV0m]; · iexact HV0m
    iexact HV0r
  ihave HV1 := (recv_shares (F := F) c (lnd c 1) (rv m ρ c (lnd c 1))).2 $$ [HV1l HV1m HV1r]
  · isplitl [HV1l]; · iexact HV1l
    isplitl [HV1m]; · iexact HV1m
    iexact HV1r
  ihave HV2 := (recv_shares (F := F) c (lnd c 2) (rv m ρ c (lnd c 2))).2 $$ [HV2l HV2m HV2r]
  · isplitl [HV2l]; · iexact HV2l
    isplitl [HV2m]; · iexact HV2m
    iexact HV2r
  ihave HV3 := (recv_shares (F := F) c (lnd c 3) (rv m ρ c (lnd c 3))).2 $$ [HV3l HV3m HV3r]
  · isplitl [HV3l]; · iexact HV3l
    isplitl [HV3m]; · iexact HV3m
    iexact HV3r
  ihave HV4 := (recv_shares (F := F) c (lnd c 4) (rv m ρ c (lnd c 4))).2 $$ [HV4l HV4m HV4r]
  · isplitl [HV4l]; · iexact HV4l
    isplitl [HV4m]; · iexact HV4m
    iexact HV4r
  ihave HV5 := (recv_shares (F := F) c (lnd c 5) (rv m ρ c (lnd c 5))).2 $$ [HV5l HV5m HV5r]
  · isplitl [HV5l]; · iexact HV5l
    isplitl [HV5m]; · iexact HV5m
    iexact HV5r
  ihave HV6 := (recv_shares (F := F) c (lnd c 6) (rv m ρ c (lnd c 6))).2 $$ [HV6l HV6m HV6r]
  · isplitl [HV6l]; · iexact HV6l
    isplitl [HV6m]; · iexact HV6m
    iexact HV6r
  ihave HV7 := (recv_shares (F := F) c (lnd c 7) (rv m ρ c (lnd c 7))).2 $$ [HV7l HV7m HV7r]
  · isplitl [HV7l]; · iexact HV7l
    isplitl [HV7m]; · iexact HV7m
    iexact HV7r
  ihave Hs := (Entails.of_eq (eight (F := F) (fun k => sendP c (ch c k) fullShare (ebf m ρ c (ch c k)))).symm) $$ [HS0 HS1 HS2 HS3 HS4 HS5 HS6 HS7]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  ihave Hr := (Entails.of_eq (eight (F := F) (fun k => recvP c (lnd c k) fullShare (rv m ρ c (lnd c k)))).symm) $$ [HV0 HV1 HV2 HV3 HV4 HV5 HV6 HV7]
  · isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    iexact HV7
  ihave Hw := (Entails.of_eq (eight (F := F) (fun k => wP c (ch c k) (wch m c (ch c k)))).symm) $$ [HW0 HW1 HW2 HW3 HW4 HW5 HW6 HW7]
  · isplitl [HW0]; · iexact HW0
    isplitl [HW1]; · iexact HW1
    isplitl [HW2]; · iexact HW2
    isplitl [HW3]; · iexact HW3
    isplitl [HW4]; · iexact HW4
    isplitl [HW5]; · iexact HW5
    isplitl [HW6]; · iexact HW6
    iexact HW7
  ihave Hya := (Entails.of_eq (eight (F := F) (fun k => yP c (nS c k) (oc (oS m ρ c k)))).symm) $$ [HZYS0 HZYS1 HZYS2 HZYS3 HZYS4 HZYS5 HZYS6 HZYS7]
  · isplitl [HZYS0]; · iexact HZYS0
    isplitl [HZYS1]; · iexact HZYS1
    isplitl [HZYS2]; · iexact HZYS2
    isplitl [HZYS3]; · iexact HZYS3
    isplitl [HZYS4]; · iexact HZYS4
    isplitl [HZYS5]; · iexact HZYS5
    isplitl [HZYS6]; · iexact HZYS6
    iexact HZYS7
  ihave Hyb := (Entails.of_eq (eight (F := F) (fun k => yP c (nR c k) (oc (oR m ρ c k)))).symm) $$ [HZYR0 HZYR1 HZYR2 HZYR3 HZYR4 HZYR5 HZYR6 HZYR7]
  · isplitl [HZYR0]; · iexact HZYR0
    isplitl [HZYR1]; · iexact HZYR1
    isplitl [HZYR2]; · iexact HZYR2
    isplitl [HZYR3]; · iexact HZYR3
    isplitl [HZYR4]; · iexact HZYR4
    isplitl [HZYR5]; · iexact HZYR5
    isplitl [HZYR6]; · iexact HZYR6
    iexact HZYR7
  ihave Hza := (Entails.of_eq (eight (F := F) (fun k => semVal (sndC c k) 0)).symm) $$ [HZS0 HZS1 HZS2 HZS3 HZS4 HZS5 HZS6 HZS7]
  · isplitl [HZS0]; · iexact HZS0
    isplitl [HZS1]; · iexact HZS1
    isplitl [HZS2]; · iexact HZS2
    isplitl [HZS3]; · iexact HZS3
    isplitl [HZS4]; · iexact HZS4
    isplitl [HZS5]; · iexact HZS5
    isplitl [HZS6]; · iexact HZS6
    iexact HZS7
  ihave Hzb := (Entails.of_eq (eight (F := F) (fun k => semVal (rcvC c k) 0)).symm) $$ [HZR0 HZR1 HZR2 HZR3 HZR4 HZR5 HZR6 HZR7]
  · isplitl [HZR0]; · iexact HZR0
    isplitl [HZR1]; · iexact HZR1
    isplitl [HZR2]; · iexact HZR2
    isplitl [HZR3]; · iexact HZR3
    isplitl [HZR4]; · iexact HZR4
    isplitl [HZR5]; · iexact HZR5
    isplitl [HZR6]; · iexact HZR6
    iexact HZR7
  isplitl [HX]; · iexact HX
  isplitl [HO]; · iexact HO
  isplitl [Hw]
  · unfold arrW; rw [w_chunks]; iexact Hw
  isplitl [Hya Hyb]
  · unfold arrY' YOk
    iapply (y_out (F := F) c (fun j => oc (oS m ρ c j)) (fun j => oc (oR m ρ c j)))
    isplitl [Hya]; · iexact Hya
    iexact Hyb
  isplitl [HZB Hza Hzb]
  · unfold zeros; rw [bigSep_ci]
    isplitl [HZB]; · iexact HZB
    isplitl [Hza]; · iexact Hza
    iexact Hzb
  isplitl [HLS0 HLS1 HTS0 HTS1]
  · unfold locals
    isplitl [HLS0]; · iexact HLS0
    isplitl [HLS1]; · iexact HLS1
    isplitl [HTS0]; · iexact HTS0
    iexact HTS1
  unfold scratch
  isplitl [Hs]; · iapply (send_out (F := F) c (fun k => ebf m ρ c (ch c k))); iexact Hs
  isplitl [Hr]; · iapply (recv_out (F := F) c (fun k => rv m ρ c (lnd c k))); iexact Hr
  isplitl [HWS0 HWS1]
  · iapply (wst_out (F := F) c (wst m c (ch c 6)) (wst m c (ch c 7)))
    isplitl [HWS0]; · iexact HWS0
    iexact HWS1
  iapply (ost_out (F := F) c (oS m ρ c 7) (oR m ρ c 7))
  isplitl [HOS0]; · iexact HOS0
  iexact HOS1

/-! ## The pipeline's proof data, and the body's obligation -/

/-- Before the point. -/
def Φ₀ (c : Dev nD) : sProp 𝕄 := iprop(((∃ K, records m ρ K ∗ linear c) ∗ credsOf c ∗ arrW m c ∗ arrY m c) ∗ scratch c)
/-- After it. -/
def Φ₁ (c : Dev nD) : sProp 𝕄 := iprop((arrW m c ∗ arrY' m ρ c) ∗ zeros c ∗ locals c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
  Φ t := match t with
    | ⟨0, _⟩ => Φ₀ m ρ c
    | ⟨_ + 1, _⟩ => Φ₁ m ρ c
  q _ := fullShare
  owed t := match t with
    | ⟨0, _⟩ => tal c plan
    | ⟨_ + 1, _⟩ => 0

theorem cfg0_N : cfg0.N = 1 := N_0
def t₀ : Fin cfg0.N := t0_0

/-- The stage of `x` holding `X`. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m ρ c ∗ (dats m ρ 0 c).owesAt () t₀.castSucc ∗ (∃ d, stg c ((dats m ρ 0 c).before (0 : Fin 1) t₀ d)))
def bodyPost (c : Dev nD) : sProp 𝕄 :=
  iprop(Φ₁ m ρ c ∗ (dats m ρ 0 c).owesAt () t₀.succ ∗ stg c (xstg m ρ c))

theorem sound_body (c : Dev nD) : bodyPre m ρ c ⊢ WP c (cc0_body xM (Memref.isWhole_whole _) wM (Memref.isWhole_whole _) yM (Memref.isWhole_whole _) sBufM (Memref.isWhole_whole _) rBufM (Memref.isWhole_whole _) wStM (Memref.isWhole_whole _) oStM (Memref.isWhole_whole _) cc0_scratch4 cc0_scratch5 cc0_scratch6 cc0_scratch7 cc0_scratch8 cc0_scratch9 cc0_scratch10 cc0_scratch11) (fun _ => bodyPost m ρ c) := by
  unfold bodyPre Φ₀
  iintro ⟨⟨⟨⟨%K, #HK, HL⟩, HC, HW, HY⟩, HS⟩, Ho, ⟨%d0, %g0, %hg0, Hx⟩⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = tal c plan from rfl]
  iapply (body_run m ρ K c) $$ [HL HC HW HY HS Hx HO]
  · isplitr; · iexact HK
    iapply (body_in m ρ c)
    isplitl [HL]; · iexact HL
    isplitl [HC]; · iexact HC
    isplitl [HW]; · iexact HW
    isplitl [HY]; · iexact HY
    isplitl [HS]; · iexact HS
    isplitl [Hx]; · unfold xP; iexact Hx
    unfold ow; iexists W; iexact HO
  iintro H
  ihave H' := (body_out m ρ c) $$ H
  icases H' with ⟨Hx, HO, HW, HY, HZ, HL, HS⟩
  unfold bodyPost Φ₁ Dat.owesAt Pipeline.owesWithin
  rw [show (dats m ρ 0 c).owed t₀.succ = 0 from rfl]
  isplitl [HW HY HZ HL HS]
  · isplitl [HW HY]
    · isplitl [HW]; · iexact HW
      iexact HY
    isplitl [HZ]; · iexact HZ
    isplitl [HL]; · iexact HL
    iexact HS
  isplitl [HO]
  · unfold ow
    icases HO with ⟨%W', HO⟩
    iexists W'
    isplitr; · ipureintro; exact fun _ _ => Or.inl trivial
    iexact HO
  iexists _; isplitr; · (ipureintro; rfl)
  unfold xP; iexact Hx

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := owns_whole_eq (c : Thread nD τ) b fullShare X

/-- The pipeline's obligation of the body on device `c`. -/
theorem body_obligation (c : Dev nD) : BodyObligation (dats (F := F) m ρ 0 c) (defs₀ (F := F)) 𝒱₀ () Set.univ := fun t => by
  rw [show t = t₀ from fin_N0 t]
  rw [bigSep_W0 (fun w : Fin cfg0.W => _), bigSep_W0 (fun w : Fin cfg0.W => _)]
  simp only [owns_stage]
  exact sound_body m ρ c

end Cert.KProof
-- ==== Proof.Launch.lean ====
/-
# The launch

The resources dealt at launch, the exchange's cells opened on every device at once, and the run of the whole program.
-/
module

public import proofs.«01_k».proof.Proof.Body
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 65536
set_option maxHeartbeats 4000000

variable (m : (ℓ : Loc nD τ sig) → Buf (Elt F) ℓ) (ρ : Dev nD → PrngReg) (K : Dev nD × CI → ℕ)

/-! ## Cells and tokens -/

/-- The semaphores the launch scopes to the kernel: those of the local copies and those of the copies between devices. -/
abbrev osem : Fin 4 ⊕ (Bool × Fin 8) → SemLoc sig
  | .inl i => .dma ((![1, 2, 3, 4] : Fin 4 → DmaSem sig) i)
  | .inr bk => csem (some bk)
theorem ownSemFacts : Pipeline.OwnSemFacts cfg0.spec osem := by decide +kernel

theorem share_eq (c : Dev nD) (w : Fin cfg0.W) : (dats m ρ 0 c).share w = fullShare := by unfold Dat.share; split <;> rfl

theorem csem_inj : Function.Injective csem := fun i j h => by
  have h' := congrArg kind h
  rw [kind_csem, kind_csem] at h'
  exact Option.some.inj h'
theorem dev_of_cell {c c' : Dev nD} {s s' : SemLoc sig} (h : (((c : Thread nD τ), s) : GSem nD τ sig) = ((c' : Thread nD τ), s')) : c = c' :=
  congrArg (fun g : GSem nD τ sig => g.1.1) h
theorem kcell_inj : Function.Injective (kcell : Dev nD × CI → GSem nD τ sig) := by
  rintro ⟨c, i⟩ ⟨c', i'⟩ h
  have h1 : c = c' := dev_of_cell h
  have h2 : i = i' := csem_inj (congrArg Prod.snd h)
  subst h1; subst h2; rfl
def allCells : Finset (GSem nD τ sig) := Finset.univ.map ⟨kcell, kcell_inj⟩

/-- The duties of a device's own cells. -/
abbrev TI : Type := Fin 3 ⊕ (Bool × Fin 8)
def tokCell : TI → CI
  | .inl _ => none
  | .inr bk => some bk
def tokDuty : TI → Fin 3
  | .inl a => a
  | .inr _ => 0
def tokOf (ct : Dev nD × TI) : GSem nD τ sig × ℕ × Fin 3 := (kcell (ct.1, tokCell ct.2), 0, tokDuty ct.2)
theorem tokOf_inj : Function.Injective tokOf := by
  rintro ⟨c, t⟩ ⟨c', t'⟩ h
  have h1 := kcell_inj (congrArg (fun x : GSem nD τ sig × ℕ × Fin 3 => x.1) h)
  have h2 : tokDuty t = tokDuty t' := congrArg (fun x : GSem nD τ sig × ℕ × Fin 3 => x.2.2) h
  have h3 : c = c' := congrArg Prod.fst h1
  have h4 : tokCell t = tokCell t' := congrArg Prod.snd h1
  subst h3
  rcases t with a | bk <;> rcases t' with a' | bk'
  · exact congrArg (fun a => (c, Sum.inl a)) h2
  · exact nomatch (show (none : CI) = some bk' from h4)
  · exact nomatch (show some bk = (none : CI) from h4)
  · exact congrArg (fun a => (c, Sum.inr a)) (Option.some.inj (show some bk = some bk' from h4))
def allToks : Finset (GSem nD τ sig × ℕ × Fin 3) := Finset.univ.map ⟨tokOf, tokOf_inj⟩

def u₀ : UU := (initOf (Pipeline.cells cfgs cellOf_inj) (Pipeline.launchToks cfgs cellOf_inj), (initOf allCells allToks, 1))

/-- The duties of device `c`'s own cells, as minted. -/
def toks (c : Dev nD) : sProp 𝕄 :=
  iprop((bigSep Finset.univ fun a : Fin 3 => dutyTok ER (barC c) 0 a) ∗ (bigSep Finset.univ fun k : Fin 8 => dutyTok ER (sndC c k) 0 0)
    ∗ (bigSep Finset.univ fun k : Fin 8 => dutyTok ER (rcvC c k) 0 0))

/-- What the launch deals device `c`. -/
def G (c : Dev nD) : sProp 𝕄 :=
  iprop((bigSep Finset.univ fun i : CI => roundState ER (Rd m ρ) (kcell (c, i)) 0)
    ∗ (bigSep Finset.univ fun i : CI => iprop(atPos ER (kcell (c, i)) 0 ∅ 0 ∗ reached ER (kcell (c, i)) 0)) ∗ toks c)

/-- The cells' invariants and reached marks. -/
def recs (K : Dev nD × CI → ℕ) : sProp 𝕄 :=
  iprop((bigSep Finset.univ fun ci : Dev nD × CI => cellInv ER (Rd m ρ) (K ci) (kcell ci))
    ∗ (bigSep Finset.univ fun ci : Dev nD × CI => reached ER (kcell ci) 0))
instance recs_persistent (K : Dev nD × CI → ℕ) : BI.Persistent (recs m ρ K) := by unfold recs; infer_instance

def G' (c : Dev nD) : sProp 𝕄 := iprop(∃ K, recs m ρ K ∗ linear c)

theorem toks_eq (c : Dev nD) : (bigSep Finset.univ fun t : TI => (dutyTok ER (kcell (c, tokCell t)) 0 (tokDuty t) : sProp 𝕄)) = toks c := by
  rw [bigSep_univ_sum, bigSep_univ_prod, bool2]; rfl

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem four (Φ : Fin 4 → sProp 𝕄) : bigSep Finset.univ Φ = iprop(Φ 0 ∗ Φ 1 ∗ Φ 2 ∗ Φ 3) := bigSep_univ_eq_bigSepL [0, 1, 2, 3] (by decide) (by decide) Φ

theorem ownSems0_eq (c : Dev nD) : (Pipeline.ownSems0 (Ix := Unit) (Name := ℕ) (U := UU) (Lvl := ℕ) (Val := Elt F) (τ := τ) osem c : sProp 𝕄)
    = iprop(locals c ∗ (bigSep Finset.univ fun k => semVal (sndC c k) 0) ∗ (bigSep Finset.univ fun k => semVal (rcvC c k) 0)) := by
  unfold Pipeline.ownSems0 locals; rw [bigSep_univ_sum, bigSep_univ_prod, bool2, four]; rfl
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop(locals c ∗ zeros c) : sProp 𝕄) := by
  unfold zeros
  rw [ownSems0_eq, unscopedSems0_eq, bigSep_ci]
  iintro ⟨⟨HL, HS, HV⟩, HB⟩
  isplitl [HL]; · iexact HL
  isplitl [HB]; · iexact HB
  isplitl [HS]; · iexact HS
  iexact HV
theorem sems0_back (c : Dev nD) : (iprop(zeros c ∗ locals c) : sProp 𝕄)
    ⊢ iprop(unscopedSems0 c ∗ Pipeline.ownSems0 (Ix := Unit) (Name := ℕ) (U := UU) (Lvl := ℕ) (Val := Elt F) (τ := τ) osem c) := by
  unfold zeros
  rw [ownSems0_eq, unscopedSems0_eq, bigSep_ci]
  iintro ⟨⟨HB, HS, HV⟩, HL⟩
  isplitl [HB]; · iexact HB
  isplitl [HL]; · iexact HL
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c ∗ locals c) := by
  unfold G
  iintro ⟨Hos, Hus, Hst, Hat, Htok⟩
  ihave Hv' := (sems0_eq (F := F) c) $$ [Hos Hus]
  · isplitl [Hos] <;> iassumption
  icases Hv' with ⟨HL, Hv⟩
  imod (show iprop(zeros c ∗ bigSep Finset.univ fun i : CI => roundState ER (Rd m ρ) (kcell (c, i)) 0)
      ⊢ (|={Set.univ}=> bigSep Finset.univ fun i : CI => iprop(∃ κ : ℕ, cellInv ER (Rd m ρ) κ (kcell (c, i))) : sProp 𝕄) from by
        unfold zeros
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-! ## The tokens go to the devices that pay -/

/-- Signal `a` pairs the devices, and so does copy `k`. -/
def prE : Dev nD × Fin 3 ≃ Dev nD × Fin 3 :=
  ⟨fun x => (pr x.1 x.2, x.2), fun x => (pr x.1 x.2, x.2), fun x => by simp only [pr_pr], fun x => by simp only [pr_pr]⟩
def peerE : Dev nD × Fin 8 ≃ Dev nD × Fin 8 :=
  ⟨fun x => (peer x.1 x.2, x.2), fun x => (peer x.1 x.2, x.2), fun x => by simp only [peer_peer], fun x => by simp only [peer_peer]⟩

theorem bar_around : (bigSep Finset.univ fun c : Dev nD => bigSep Finset.univ fun a : Fin 3 => (dutyTok ER (barC c) 0 a : sProp 𝕄))
    = bigSep Finset.univ fun c : Dev nD => bigSep Finset.univ fun a : Fin 3 => dutyTok ER (barC (pr c a)) 0 a := by
  rw [← bigSep_univ_prod (fun x : Dev nD × Fin 3 => (dutyTok ER (barC x.1) 0 x.2 : sProp 𝕄)), bigSep_univ_equiv prE, bigSep_univ_prod]; rfl
theorem rcv_around : (bigSep Finset.univ fun c : Dev nD => bigSep Finset.univ fun k : Fin 8 => (dutyTok ER (rcvC c k) 0 0 : sProp 𝕄))
    = bigSep Finset.univ fun c : Dev nD => bigSep Finset.univ fun k : Fin 8 => dutyTok ER (rcvC (peer c k) k) 0 0 := by
  rw [← bigSep_univ_prod (fun x : Dev nD × Fin 8 => (dutyTok ER (rcvC x.1 x.2) 0 0 : sProp 𝕄)), bigSep_univ_equiv peerE, bigSep_univ_prod]; rfl

theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, rcv_around]

theorem with_persistent {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c ∗ locals c) : sProp 𝕄)
      ⊢ bigSep Finset.univ (G' m ρ) := by
  rw [bigSep_sep', bigSep_sep', bigSep_sep', ← bigSep_univ_prod (fun ci : Dev nD × CI => iprop(∃ κ : ℕ, cellInv ER (Rd m ρ) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok, HL⟩
  ihave HK := (BI.bigSep_exists_pi Finset.univ (fun (ci : Dev nD × CI) (κ : ℕ) => (cellInv ER (Rd m ρ) κ (kcell ci) : sProp 𝕄))) $$ HI
  icases HK with ⟨%K, #HI⟩
  ihave Htk := (toks_around (F := F)) $$ Htok
  iapply (with_persistent (F := F) (R := recs m ρ K) (Φ := fun c => linear c) (Ψ := G' m ρ) (fun c _ => show iprop(recs m ρ K ∗ linear c) ⊢ G' m ρ c from by
    unfold G'; iintro H; iexists K; iexact H))
  isplitr
  · unfold recs; isplitl; · iexact HI
    iexact HR
  · unfold linear
    rw [bigSep_sep', bigSep_sep']
    isplitl [Hat]; · iexact Hat
    isplitl [Htk]; · iexact Htk
    iexact HL

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a list of payments comes to at one cell. -/
theorem tal_apply (d : Dev nD) (g : GSem nD τ sig) : ∀ l : List Pm, tal d l g () = (l.map fun p => if g = pcell d p then pamt p else 0).sum
  | [] => rfl
  | p :: l => by
    unfold tal
    rw [Pi.add_apply, Finsupp.add_apply, tal_apply d g l, tallyAt_apply, List.map_cons, List.sum_cons, Nat.add_comm]
    congr 1
    by_cases h : g = pcell d p
    · rw [if_pos h, if_pos ⟨h, rfl⟩]
    · rw [if_neg h, if_neg fun h' => h h'.1]

theorem bar_eq (c d : Dev nD) (a : Fin 3) : (barC c = barC (pr d a)) ↔ d = pr c a :=
  ⟨fun h => by rw [dev_of_cell h, pr_pr], fun h => by rw [h, pr_pr]⟩
theorem rcv_eq (c d : Dev nD) (k : Fin 8) : (rcvC c k = rcvC (peer d k) k) ↔ d = peer c k :=
  ⟨fun h => by rw [dev_of_cell h, peer_peer], fun h => by rw [h, peer_peer]⟩
theorem bar_ne_rcv (c d : Dev nD) (k : Fin 8) : barC c ≠ rcvC d k := fun h => nomatch (congrArg Prod.snd h)
theorem rcv_ne (c d : Dev nD) {k k' : Fin 8} (h : k ≠ k') : rcvC c k ≠ rcvC d k' := fun h' =>
  h (congrArg (fun i : CI => match i with | none => (0 : Fin 8) | some bk => bk.2) (csem_inj (show csem (some (true, k)) = csem (some (true, k')) from congrArg Prod.snd h')))

theorem owed_bar (d c : Dev nD) : tal d plan (barC c) () = (if d = pr c 0 then 1 else 0) + ((if d = pr c 1 then 1 else 0) + (if d = pr c 2 then 1 else 0)) := by
  rw [tal_apply]
  have hr (k : Fin 8) : (if barC c = pcell d (.inr k) then pamt (.inr k) else 0) = 0 := if_neg (bar_ne_rcv c _ k)
  have hb (a : Fin 3) : (if barC c = pcell d (.inl a) then pamt (.inl a) else 0) = if d = pr c a then 1 else 0 := if_congr (bar_eq c d a) rfl rfl
  simp only [plan, List.map_cons, List.map_nil, List.sum_cons, List.sum_nil, hr, hb, Nat.add_zero]

theorem owed_rcv (d c : Dev nD) (k : Fin 8) : tal d plan (rcvC c k) () = if d = peer c k then N else 0 := by
  rw [tal_apply]
  have hb (a : Fin 3) : (if rcvC c k = pcell d (.inl a) then pamt (.inl a) else 0) = 0 := if_neg fun h => bar_ne_rcv _ c k h.symm
  have hr (k' : Fin 8) : (if rcvC c k = pcell d (.inr k') then pamt (.inr k') else 0) = if k = k' then (if d = peer c k then N else 0) else 0 := by
    by_cases h : k = k'
    · subst h; rw [if_pos rfl]; exact if_congr (rcv_eq c d k) rfl rfl
    · rw [if_neg h]; exact if_neg (rcv_ne c _ h)
  simp only [plan, List.map_cons, List.map_nil, List.sum_cons, List.sum_nil, hr, hb, Nat.add_zero, Nat.zero_add]
  generalize (if d = peer c k then N else 0) = x
  fin_cases k <;> simp

theorem launch_bar (c : Dev nD) :
    tallyOn (barC c) (launchCredit (Pipeline.owing fun d => tal d plan) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pr c 0) fun _ => 1, Finset.sum_ite_eq' Finset.univ (pr c 1) fun _ => 1, Finset.sum_ite_eq' Finset.univ (pr c 2) fun _ => 1,
    if_pos (Finset.mem_univ _), if_pos (Finset.mem_univ _), if_pos (Finset.mem_univ _)]
  rfl
theorem launch_rcv (c : Dev nD) (k : Fin 8) :
    tallyOn (rcvC c k) (launchCredit (Pipeline.owing fun d => tal d plan) 0 (rcvC c k)) = (tallyAt (rcvC c k) () N : CellTallies nD τ sig Unit) := by
  unfold tallyAt; refine congrArg _ (Finsupp.ext fun u => ?_); cases u
  rw [Pipeline.launchCredit_owing, Finsupp.single_eq_same, Finset.sum_congr rfl fun d _ => owed_rcv d c k, Finset.sum_ite_eq' Finset.univ (peer c k) fun _ => N,
    if_pos (Finset.mem_univ _)]

/-- The semaphores a device is credited at. -/
def credSem : Option (Fin 8) → SemLoc sig
  | none => .reg barS
  | some k => .dma (rS k)
theorem credSem_inj : Function.Injective credSem := fun i j h => by
  have h' := congrArg kind h
  rcases i with _ | k <;> rcases j with _ | k'
  · rfl
  · exact nomatch h
  · exact nomatch h
  · have : csem (some (true, k)) = csem (some (true, k')) := h
    have := csem_inj this
    exact congrArg (fun i : CI => match i with | none => none | some bk => some bk.2) this

theorem creds (c : Dev nD) : (Pipeline.launchCred (fun d => tal d plan) c : sProp 𝕄) ⊢ credsOf c := by
  unfold Pipeline.launchCred credsOf
  refine (bigSep_subset (Finset.subset_univ (Finset.univ.map ⟨credSem, credSem_inj⟩))).trans ?_
  rw [bigSep_map, bigSep_univ_equiv (Equiv.optionEquivSumPUnit.{0} (Fin 8)).symm, bigSep_univ_sum, bigSep_univ_eq_bigSepL [PUnit.unit] (by decide) (by decide), bigSepL_singleton]
  rw [← launch_bar, bigSep_congr (fun (k : Fin 8) _ => congrArg cred (launch_rcv c k).symm)]
  exact BI.sep_comm

/-! ## The run -/

theorem start_intro (c : Dev nD) :
    iprop(Pipeline.unscopedRestP Pipeline.Prefetch.none cfg0.spec c (fun b => m ((c : Thread nD τ).loc b)) ∗ levAts L lv
        ∗ Pipeline.launchCred (fun d => tal d plan) c ∗ prngReg c (ρ c) ∗ G' m ρ c)
      ⊢ |={Set.univ}=> iprop(((∃ K, records m ρ K ∗ linear c) ∗ credsOf c ∗ arrW m c ∗ arrY m c) ∗ emp) := by
  rw [Pipeline.unscopedRestP_none, show cfg0.spec = spec0 from rfl, unscopedRest0_eq]
  unfold G' recs records arrW arrY
  iintro ⟨⟨HW, HY⟩, Hlev, Hcr, -, ⟨%K, ⟨HI, HR⟩, HL⟩⟩
  ihave Hc := (creds (F := F) c) $$ Hcr
  imodintro
  isplitl
  · isplitl [HI HR HL Hlev]
    · iexists K
      isplitl [HI HR Hlev]
      · isplitl [HI]; · iexact HI
        isplitl [HR]; · iexact HR
        iexact Hlev
      iexact HL
    isplitl [Hc]; · iexact Hc
    isplitl [HW]; · iexact HW
    iexact HY
  · iempintro

theorem phi0_intro (c : Dev nD) :
    iprop(((∃ K, records m ρ K ∗ linear c) ∗ credsOf c ∗ arrW m c ∗ arrY m c) ∗ Pipeline.prefHeld Pipeline.Prefetch.none c (fun _ => fullShare.right) (fun k => k.elim0)
        ∗ Pipeline.scopedRest cfg0.spec c)
      ⊢ (dats m ρ 0 c).Φ 0 := by
  rw [show (dats m ρ 0 c).Φ 0 = Φ₀ m ρ c from rfl, show cfg0.spec = spec0 from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((arrW m c ∗ arrY' m ρ c ∗ unscopedSems0 c) ∗ Pipeline.ownSems0 osem c ∗ Pipeline.scopedRest cfg0.spec c) := by
  rw [show (dats m ρ 0 c).Φ (Fin.last cfg0.N) = Φ₁ m ρ c from rfl, show cfg0.spec = spec0 from rfl, scopedRest0_eq]
  unfold Φ₁ scratch
  iintro ⟨⟨HW, HY⟩, HZ, HL, HS⟩
  ihave H := (sems0_back (F := F) c) $$ [HZ HL]
  · isplitl [HZ]; · iexact HZ
    iexact HL
  icases H with ⟨Hu, Ho⟩
  isplitl [HW HY Hu]
  · isplitl [HW]; · iexact HW
    isplitl [HY]; · iexact HY
    iexact Hu
  isplitl [Ho]; · iexact Ho
  iexact HS

theorem waits (c : Dev nD) : (levAts L lv : sProp 𝕄) ⊢ Pipeline.cellsWaits cfgs (dats m ρ) () 0 c :=
  Pipeline.cellsWaits_intro cfgs (dats m ρ) () 0 c fun w s t => by
    rw [show (dats m ρ 0 c).owed t = tal c (match t with | ⟨0, _⟩ => plan | ⟨_ + 1, _⟩ => []) from by rcases t with ⟨_ | _, ht⟩ <;> rfl]
    refine mayWait c _ _ ?_
    have h0 : ∀ p ∈ plan, lvs (.dma ((cfg0.win w).sem s)) < lvs (psem p) := by
      revert w s; decide +kernel
    rcases t with ⟨_ | _, ht⟩
    · exact h0
    · exact fun p hp => absurd hp List.not_mem_nil

def QC (r : PUnit × MemSt nD τ sig (Elt F)) : Prop := ∀ c : Dev nD,
  r.2.mem ((c : Thread nD τ).loc main_arg0) = m ((c : Thread nD τ).loc main_arg0)
    ∧ r.2.mem ((c : Thread nD τ).loc main_arg1) = m ((c : Thread nD τ).loc main_arg1) ∧ YOk m ρ c (r.2.mem ((c : Thread nD τ).loc main_v1))

theorem finalA_x (c : Dev nD) : (dats m ρ 0 c).arrAt (0 : Fin 1) cfg0.N = m ((c : Thread nD τ).loc main_arg0) :=
  (dats (F := F) m ρ 0 c).arrAt_in (0 : Fin 1) rfl _

/-- What device `c`'s buffers and free semaphores read at the end. -/
def QYc (c : Dev nD) (s : MemSt nD τ sig (Elt F)) : Prop :=
  (s.mem ((c : Thread nD τ).loc main_arg1) = m ((c : Thread nD τ).loc main_arg1) ∧ YOk m ρ c (s.mem ((c : Thread nD τ).loc main_v1)))
    ∧ ∀ sm : SemLoc sig, sm.isScoped .tc = false → s.sem ((c.tc : Thread nD τ), sm) = 0

theorem read_end (c : Dev nD) (s' : Phys nD τ sig (Elt F)) :
    iprop((arrW m c ∗ arrY' m ρ c ∗ unscopedSems0 c) ∗ emp ∗ SI s') ⊢ (|={Set.univ}=> iprop(⌜QYc m ρ c s'.mem⌝ ∗ SI s') : sProp 𝕄) := by
  unfold arrW arrY'
  iintro ⟨⟨HW, ⟨%f, %hf, HY⟩, Hu⟩, -, HSI⟩
  icombine HSI HW gives %hw
  icombine HSI HY gives %hy
  imod (Pipeline.unscopedSems0_read (X := unscopedSems0 c) (c := c) fupd_intro s') $$ [Hu HSI] with ⟨%hs, HSI⟩
  · isplitl [Hu] <;> iassumption
  imodintro
  isplitr
  · ipureintro
    refine ⟨⟨funext fun i => hw i (Finset.mem_univ i), ?_⟩, hs⟩
    rw [show s'.mem.mem ((c : Thread nD τ).loc main_v1) = f from funext fun i => hy i (Finset.mem_univ i)]
    exact hf
  iexact HSI

/-- For any float values, from any memory with zero counters: every fair execution of the 32 devices' program ends, with
    both arguments as they were, the result's chunks at the values the body computes, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := fun d => tal d plan) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (show BI.own ((embR : Emb (UB × Counters) (MT nD τ sig Unit (Elt F) ℕ UU ℕ)) (initOf allCells allToks, 1)) ⊢ (|==> bigSep Finset.univ (G m ρ) : sProp (MT nD τ sig Unit (Elt F) ℕ UU ℕ))
        from fund_cells m ρ) $$ HX with HG
      imodintro
      isplitl [HP] <;> iassumption)
    (hglob := glob m ρ)
    (hA := fun _ _ => rfl) (hpf := fun _ k => k.elim0)
    (X := fun c => iprop((∃ K, records m ρ K ∗ linear c) ∗ credsOf c ∗ arrW m c ∗ arrY m c))
    (Y := fun c => iprop(arrW m c ∗ arrY' m ρ c ∗ unscopedSems0 c)) (Z := fun _ => iprop(emp))
    (hX := start_intro m ρ) (hin := phi0_intro m ρ) (hout := phi1_exit m ρ)
    (QY := QYc m ρ) (hY := read_end m ρ)
    (hQ := fun _ h hs => ⟨fun c => ⟨((h c).1 (0 : Fin 1)).trans (finalA_x m ρ c), (h c).2.2.1⟩, sem_eq_zero hs fun c => (h c).2.2.2⟩)

end Cert.KProof
-- ==== Proof.Ref.lean ====
/-
# The run of the reference

The reference is one straight line of array operations on one device: a matrix product, a row maximum,
a difference, an exponential, a row sum and a quotient.  Its run is read off the operations in order, at
any float values: the result buffer ends at `refOut` of the two arguments, which keep what they held.
-/
module

public import Idealize.ShloMosaic.Lib.StableHlo.Run
public import Idealize.ShloMosaic.Lib.Quiescent
public import proofs.«01_k».proof.Proof.Gen.ReferenceIdeal

@[expose] public section

noncomputable section

namespace Cert.RProof

open Cert.ReferenceIdeal Cert.ReferenceIdeal.Gen
open Idealize.ShloMosaic Idealize.ShloMosaic.TcCoe Idealize.ShloMosaic.StableHlo Idealize.SL.Sem

variable {F : FTy → Type} [FloatOps F]

/-- The logits. -/
def rLog (x : Vec F S512x1024 .f32) (w : Vec F S1024x16384 .f32) : Vec F S512x16384 .f32 :=
  Host.dotGeneral dot_S512x1024_S1024x16384_S512x16384_1_0_0_1_n_n none x w

/-- A column of row values spread over the rows. -/
def rSpread (v : Vec F S512 .f32) : Vec F S512x16384 .f32 :=
  broadcastInDim S512x16384 ![0, 1] bcast_S512x1_S512x16384_0_1 (broadcastInDim S512x1 ![0] bcast_S512_S512x1_0 v)

/-- The row maxima of the logits. -/
def rMax (x : Vec F S512x1024 .f32) (w : Vec F S1024x16384 .f32) : Vec F S512 .f32 :=
  Host.reduce FloatOps.maximumf (rLog x w) (constant S_ .f32 0xFF800000#32) reducesTo_S512x16384_S512_d1 h_S_

/-- The exponentials of the logits less their row maximum. -/
def rExp (x : Vec F S512x1024 .f32) (w : Vec F S1024x16384 .f32) : Vec F S512x16384 .f32 :=
  Host.exp (subf (rLog x w) (rSpread (rMax x w)))

/-- Their row sums. -/
def rSum (x : Vec F S512x1024 .f32) (w : Vec F S1024x16384 .f32) : Vec F S512 .f32 :=
  Host.reduceAdd (rExp x w) (constant S_ .f32 0x00000000#32) reducesTo_S512x16384_S512_d1 h_S_

/-- What the reference returns. -/
def refOut (x : Vec F S512x1024 .f32) (w : Vec F S1024x16384 .f32) : Vec F S512x16384 .bf16 :=
  truncf .bf16 (Host.divf (rExp x w) (rSpread (rSum x w))) bitsLt_bf16_f32

/-- The reference's operations, in order. -/
abbrev ops : List (HloOp τ sig (Elt F)) :=
  [ binary main_arg0 main_arg1 main_v0 (fun l r => Host.dotGeneral dot_S512x1024_S1024x16384_S512x16384_1_0_0_1_n_n none l r),
    nullary main_cst (constant S_ .f32 0xFF800000#32),
    binary main_v0 main_cst main_v1 (fun x v => Host.reduce FloatOps.maximumf x v reducesTo_S512x16384_S512_d1 h_S_),
    unary main_v1 main_v2 (broadcastInDim S512x1 ![0] bcast_S512_S512x1_0),
    unary main_v2 main_v3 (broadcastInDim S512x16384 ![0, 1] bcast_S512x1_S512x16384_0_1),
    binary main_v0 main_v3 main_v4 subf,
    unary main_v4 main_v5 Host.exp,
    nullary main_cst_0 (constant S_ .f32 0x00000000#32),
    binary main_v5 main_cst_0 main_v6 (fun x v => Host.reduceAdd x v reducesTo_S512x16384_S512_d1 h_S_),
    unary main_v6 main_v7 (broadcastInDim S512x1 ![0] bcast_S512_S512x1_0),
    unary main_v7 main_v8 (broadcastInDim S512x16384 ![0, 1] bcast_S512x1_S512x16384_0_1),
    binary main_v5 main_v8 main_v9 Host.divf,
    unary main_v9 main_v10 (fun v => truncf .bf16 v bitsLt_bf16_f32) ]

theorem main_eq (c : Dev nD) : main (F := F) c = seq ops := rfl

theorem out_eq (V : Valuation τ sig (Elt F)) :
    after ops V (main_v10 : DevRef τ sig) = refOut (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem noRefs : (Finset.univ.filter fun b : Ref sig .tc => b.isScoped) = ∅ := by decide
theorem noSems : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., unary_bufs_sub ..,
    binary_bufs_sub .., unary_bufs_sub .., nullary_bufs_sub .., binary_bufs_sub .., unary_bufs_sub ..,
    unary_bufs_sub .., binary_bufs_sub .., unary_bufs_sub ..⟩

/-- The reference's run: its result is `refOut` of its arguments, which are unchanged, and no counter moves. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v10)
            = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v10).trans (out_eq _),
      (h c main_arg0).trans (arg0_eq _), (h c main_arg1).trans (arg1_eq _)⟩,
      sem_eq_zero_of_no_sems (by decide) r.2⟩)
    (run_seq noRefs noSems defs main (fun _ => ops) main_eq (fun _ => ops_sub) m ρ)

end Cert.RProof

end
-- ==== Proof.Ideal1.lean ====
/-
# The kernel's blocks over the extended reals

Each chunk the kernel exponentiates, read element by element.
-/
module

public import proofs.«01_k».proof.Proof.Body
public import Idealize.ShloMosaic.Lib.Pointwise

@[expose] public section

set_option maxRecDepth 16384

noncomputable section

namespace Cert.KProof

open Cert.KernelIdeal Cert.KernelIdeal.Gen
open Idealize.ShloMosaic Idealize.ShloMosaic.TcCoe

abbrev SW : Shape := ⟨2, ![1024, 16384]⟩

/-- The logit of row `r` and column `n`. -/
def lg (X : Vec Ideal S512x1024 .f32) (W : Vec Ideal SW .f32) (r : Fin 512) (n : Fin 16384) : EReal :=
  ∑ k : Fin 1024, X (ix2 r k) * W (ix2 k n)

/-- Column `q` of the sixteen blocks' block `n`. -/
def col (n : Fin 16) (q : Fin 1024) : Fin 16384 := ⟨1024 * n.val + q.val, by omega⟩

variable (m : (ℓ : Loc nD τ sig) → Buf (Elt Ideal) ℓ) (ρ : Dev nD → PrngReg)

/-- The staged block of `x` is the argument. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

theorem wch_apply (c : Dev nD) (j : Fin 8) (k q : Fin 1024) :
    wch m c j (ix2 k q) = m ((c : Thread nD τ).loc main_arg1) (ix2 k (⟨1024 * j.val + q.val, by omega⟩ : Fin 8192)) := by
  unfold wch
  refine congrArg (m ((c : Thread nD τ).loc main_arg1)) (funext fun a => Fin.ext ?_)
  fin_cases a
  · show 0 + 1 * k.val = k.val
    omega
  · show 1024 * j.val + 1 * q.val = 1024 * j.val + q.val
    omega

theorem ebf_apply (c : Dev nD) (j : Fin 8) (r : Fin 512) (q : Fin 1024) :
    ebf m ρ c j (ix2 r q) = Ideal.exp (∑ k : Fin 1024, xstg m ρ c (ix2 r k) * wch m c j (ix2 k q)) := by
  unfold ebf wst xv
  pointwise [k0_pay5, k0_pay4, k0_pay1]

/-- The devices hold one `x` and, by the first mesh coordinate, the two halves of one `W`. -/
structure Holds (X : Vec Ideal S512x1024 .f32) (W : Vec Ideal SW .f32) : Prop where
  x : ∀ c : Dev nD, m ((c : Thread nD τ).loc main_arg0) = X
  w : ∀ (c : Dev nD) (k : Fin 1024) (q : Fin 8192) (n : Fin 16384), n.val = 8192 * (c.val / 16) + q.val →
    m ((c : Thread nD τ).loc main_arg1) (ix2 k q) = W (ix2 k n)

variable {X : Vec Ideal S512x1024 .f32} {W : Vec Ideal SW .f32} (H : Holds m X W)
include H

/-- The exponential of the logit. -/
theorem ebf_lg (c : Dev nD) (j : Fin 8) (r : Fin 512) (q : Fin 1024) :
    ebf m ρ c j (ix2 r q) = Ideal.exp (lg X W r (col (nS c j) q)) := by
  rw [ebf_apply]
  unfold lg
  refine congrArg Ideal.exp (Finset.sum_congr rfl fun k _ => ?_)
  rw [xstg_eq, H.x, wch_apply, H.w c k _ (col (nS c j) q)]
  have h : (nS c j).val = 8 * (c.val / 16) + j.val := by revert c j; decide +kernel
  show 1024 * (nS c j).val + q.val = 8192 * (c.val / 16) + (1024 * j.val + q.val)
  omega

theorem rv_lg (c : Dev nD) (j : Fin 8) (r : Fin 512) (q : Fin 1024) :
    rv m ρ c j (ix2 r q) = Ideal.exp (lg X W r (col (nR c j) q)) := by
  unfold rv
  rw [ebf_lg m ρ H]
  have h : nS (orig c j) j = nR c j := by revert c j; decide +kernel
  rw [h]

/-- The sum of the exponentials of a block of columns. -/
def bs (X : Vec Ideal S512x1024 .f32) (W : Vec Ideal SW .f32) (r : Fin 512) (n : Fin 16) : EReal :=
  ∑ q : Fin 1024, Ideal.exp (lg X W r (col n q))

theorem ebf_sum (c : Dev nD) (j : Fin 8) (r : Fin 512) : ∑ q : Fin 1024, ebf m ρ c j (ix2 r q) = bs X W r (nS c j) :=
  Finset.sum_congr rfl fun q _ => ebf_lg m ρ H c j r q
theorem rv_sum (c : Dev nD) (j : Fin 8) (r : Fin 512) : ∑ q : Fin 1024, rv m ρ c j (ix2 r q) = bs X W r (nR c j) :=
  Finset.sum_congr rfl fun q _ => rv_lg m ρ H c j r q

omit H in
/-- One more chunk is one more sum. -/
theorem sl_step (c : Dev nD) (j : Fin 8) (v : FVec Ideal S512x1 .f32) (r : Fin 512) :
    k0_pay6 (xv m ρ c) v (wst m c j) (ix2 r 0) = v (ix2 r 0) + ∑ q : Fin 1024, ebf m ρ c j (ix2 r q) := by
  have h : ∀ q, ebf m ρ c j (ix2 r q) = k0_pay4 (xv m ρ c) (wst m c j) (ix2 r q) := fun q => by
    unfold ebf
    pointwise [k0_pay5]
  simp only [h]
  generalize hE : k0_pay4 (xv m ρ c) (wst m c j) = E
  pointwise [k0_pay6]
  rw [hE]

theorem sl_sum (c : Dev nD) (r : Fin 512) : ∀ i : ℕ, sl m ρ c i (ix2 r 0) = ∑ k ∈ Finset.range i, bs X W r (nS c (ch c (Fin.ofNat 8 k)))
  | 0 => by
    unfold sl
    pointwise [k0_pay2]
    rfl
  | i + 1 => by
    rw [Finset.sum_range_succ, ← sl_sum c r i]
    show k0_pay6 (xv m ρ c) (sl m ρ c i) (wst m c (ch c (Fin.ofNat 8 i))) (ix2 r 0) = _
    rw [sl_step, ebf_sum m ρ H]

theorem r35_sum (c : Dev nD) (r : Fin 512) :
    r35 m ρ c (ix2 r 0) = bs X W r (nR c (lnd c 0)) + bs X W r (nR c (lnd c 5)) + bs X W r (nR c (lnd c 1)) + bs X W r (nR c (lnd c 3))
      + bs X W r (nR c (lnd c 2)) + bs X W r (nR c (lnd c 6)) + bs X W r (nR c (lnd c 4)) := by
  simp only [← rv_sum m ρ H]
  unfold r35 r34 r33 r32 r28
  pointwise [k0_pay35, k0_pay34, k0_pay33, k0_pay32, k0_pay28, k0_pay3]

omit H in
/-- The blocks of columns a device computes and those it receives are all sixteen. -/
theorem all_blocks (c : Dev nD) (f : Fin 16 → EReal) :
    (∑ j : Fin 8, f (nS c j)) + ∑ j : Fin 8, f (nR c j) = ∑ n : Fin 16, f n := by
  have hb : Function.Bijective (Sum.elim (nS c) (nR c)) := by revert c; decide +kernel
  exact (Fintype.sum_sum_type (fun s => f (Sum.elim (nS c) (nR c) s))).symm.trans (hb.sum_comp f)

/-- The row's sum of exponentials. -/
def tot (X : Vec Ideal S512x1024 .f32) (W : Vec Ideal SW .f32) (r : Fin 512) : EReal :=
  ∑ n : Fin 16384, Ideal.exp (lg X W r n)

omit H in
theorem tot_eq (r : Fin 512) : ∑ n : Fin 16, bs X W r n = tot X W r := by
  unfold tot bs
  rw [← Fintype.sum_prod_type' (fun n q => Ideal.exp (lg X W r (col n q)))]
  refine Fintype.sum_bijective (fun p : Fin 16 × Fin 1024 => col p.1 p.2) ⟨?_, ?_⟩ _ _ fun _ => rfl
  · rintro ⟨n, q⟩ ⟨n', q'⟩ h
    have h : 1024 * n.val + q.val = 1024 * n'.val + q'.val := congrArg Fin.val h
    exact Prod.ext (Fin.ext (by show n.val = n'.val; omega)) (Fin.ext (by show q.val = q'.val; omega))
  · intro b
    refine ⟨(⟨b.val / 1024, by omega⟩, ⟨b.val % 1024, by omega⟩), Fin.ext ?_⟩
    show 1024 * (b.val / 1024) + b.val % 1024 = b.val
    omega

theorem sl_all (c : Dev nD) (r : Fin 512) : sl m ρ c 8 (ix2 r 0) = ∑ j : Fin 8, bs X W r (nS c j) := by
  have hb : Function.Bijective (ch c) := Finite.injective_iff_bijective.mp (fun _ _ h => ch_inj c h)
  rw [sl_sum m ρ H, ← hb.sum_comp (fun j => bs X W r (nS c j)), Finset.sum_range]
  refine Finset.sum_congr rfl fun k _ => ?_
  have h : Fin.ofNat 8 k.val = k := Fin.ext (Nat.mod_eq_of_lt k.isLt)
  rw [h]

theorem iv_eq (c : Dev nD) (r : Fin 512) : iv m ρ c (ix2 r 0) = Ideal.div 1 (tot X W r) := by
  have hb : Function.Bijective (lnd c) := Finite.injective_iff_bijective.mp (fun _ _ h => lnd_inj c h)
  have h : iv m ρ c (ix2 r 0) = Ideal.div 1 (sl m ρ c 8 (ix2 r 0) + (r35 m ρ c (ix2 r 0) + ∑ q : Fin 1024, rv m ρ c (lnd c 7) (ix2 r q))) := by
    unfold iv
    pointwise [k0_pay36]
  rw [h, sl_all m ρ H, r35_sum m ρ H, rv_sum m ρ H, ← tot_eq, ← all_blocks c, ← hb.sum_comp (fun j => bs X W r (nR c j))]
  congr 2
  simp only [Fin.sum_univ_eight]
  ac_rfl

/-- Each block of the result is the exponentials times the sum's inverse. -/
theorem oS_eq (c : Dev nD) (j : Fin 8) (r : Fin 512) (q : Fin 1024) :
    oc (oS m ρ c j) (ix2 r q) = Ideal.exp (lg X W r (col (nS c j) q)) * Ideal.div 1 (tot X W r) := by
  rw [← iv_eq m ρ H c, ← ebf_lg m ρ H]
  unfold oS oc
  pointwise [k0_pay40]

theorem oR_eq (c : Dev nD) (j : Fin 8) (r : Fin 512) (q : Fin 1024) :
    oc (oR m ρ c j) (ix2 r q) = Ideal.exp (lg X W r (col (nR c j) q)) * Ideal.div 1 (tot X W r) := by
  rw [← iv_eq m ρ H c, ← rv_lg m ρ H]
  unfold oR oc
  pointwise [k0_pay40]

omit H in
theorem yRd_apply (c : Dev nD) (f : Buf (Elt Ideal) ((c : Thread nD τ).loc main_v1)) (n : Fin 16) (r : Fin 512) (q : Fin 1024) :
    yRd c f n (ix2 r q) = f (ix2 r (col n q)) := by
  unfold yRd
  refine congrArg f (funext fun a => Fin.ext ?_)
  fin_cases a
  · show 0 + 1 * r.val = r.val
    omega
  · show 1024 * n.val + 1 * q.val = 1024 * n.val + q.val
    omega

/-- The whole result. -/
theorem out_eq (c : Dev nD) (f : Buf (Elt Ideal) ((c : Thread nD τ).loc main_v1)) (hf : YOk m ρ c f) (r : Fin 512) (n : Fin 16384) :
    f (ix2 r n) = Ideal.exp (lg X W r n) * Ideal.div 1 (tot X W r) := by
  have hn : col ⟨n.val / 1024, by omega⟩ ⟨n.val % 1024, by omega⟩ = n := Fin.ext (by
    show 1024 * (n.val / 1024) + n.val % 1024 = n.val
    omega)
  rw [← hn]
  generalize (⟨n.val / 1024, _⟩ : Fin 16) = b, (⟨n.val % 1024, _⟩ : Fin 1024) = q
  have hb : (∃ j, nS c j = b) ∨ ∃ j, nR c j = b := by
    clear hn hf f H
    revert c b
    decide +kernel
  rw [← yRd_apply c f b r q]
  rcases hb with ⟨j, rfl⟩ | ⟨j, rfl⟩
  · rw [hf.1, oS_eq m ρ H]
  · rw [hf.2, oR_eq m ρ H]

end Cert.KProof
-- ==== Proof.Ideal2.lean ====
/-
# The reference over the extended reals

With finite arguments every logit is a real number, so a row less its maximum, exponentiated and divided by
its sum, is the row exponentiated and divided by its sum.
-/
module

public import proofs.«01_k».proof.Proof.Ref
public import proofs.«01_k».proof.Proof.Ideal1
public import Idealize.ShloMosaic.Lib.Pointwise

@[expose] public section

set_option maxRecDepth 16384

noncomputable section

namespace Cert.RProof

open Cert.ReferenceIdeal Cert.ReferenceIdeal.Gen
open Idealize.ShloMosaic Idealize.ShloMosaic.TcCoe

/-- The largest of finitely many reals, and at least one, is a real. -/
theorem max_real {ι : Type} (s : Finset ι) (hs : s.Nonempty) (e : ι → ℝ) :
    ∃ M : ℝ, s.fold max (⊥ : EReal) (fun i => (e i : EReal)) = (M : EReal) := by
  classical
  induction hs using Finset.Nonempty.cons_induction with
  | singleton a => exact ⟨e a, by simp⟩
  | cons a s ha _ ih =>
    obtain ⟨M, h⟩ := ih
    exact ⟨max (e a) M, by rw [Finset.fold_cons, h, EReal.coe_strictMono.monotone.map_max]⟩

theorem sum_real {ι : Type} [Fintype ι] (e : ι → ℝ) : ∑ i, (e i : EReal) = ((∑ i, e i : ℝ) : EReal) := by
  classical
  induction (Finset.univ : Finset ι) using Finset.induction_on with
  | empty => simp
  | insert a s ha ih => rw [Finset.sum_insert ha, Finset.sum_insert ha, ih, EReal.coe_add]

/-- Shifting every logit by one real changes no quotient. -/
theorem softmax_shift {ι : Type} [Fintype ι] [Nonempty ι] (e : ι → ℝ) (i : ι) (M : ℝ) :
    Ideal.div (Ideal.exp ((e i : EReal) - (M : EReal))) (∑ k, Ideal.exp ((e k : EReal) - (M : EReal)))
      = Ideal.exp (e i : EReal) * Ideal.div 1 (∑ k, Ideal.exp (e k : EReal)) := by
  simp only [← EReal.coe_sub, Ideal.exp_coe, sum_real]
  have h1 : 0 < ∑ k, Real.exp (e k - M) := Finset.sum_pos (fun k _ => Real.exp_pos _) Finset.univ_nonempty
  have h2 : 0 < ∑ k, Real.exp (e k) := Finset.sum_pos (fun k _ => Real.exp_pos _) Finset.univ_nonempty
  rw [Ideal.div_coe h1.ne', Ideal.div_coe h2.ne', one_mul, ← EReal.coe_mul, ← EReal.coe_mul, EReal.coe_eq_coe_iff]
  have h3 : ∑ k, Real.exp (e k - M) = (∑ k, Real.exp (e k)) * Real.exp (-M) := by
    rw [Finset.sum_mul]
    exact Finset.sum_congr rfl fun k _ => by rw [sub_eq_add_neg, Real.exp_add]
  rw [h3, sub_eq_add_neg, Real.exp_add]
  have h4 := (Real.exp_pos (-M)).ne'
  have h5 := h2.ne'
  field_simp

variable (x : Vec Ideal S512x1024 .f32) (w : Vec Ideal S1024x16384 .f32)

/-- Every logit of finite arguments is a real. -/
theorem lg_real (hx : ∀ i, x i ≠ ⊤ ∧ x i ≠ ⊥) (hw : ∀ i, w i ≠ ⊤ ∧ w i ≠ ⊥) (r : Fin 512) :
    ∃ e : Fin 16384 → ℝ, ∀ n, Cert.KProof.lg x w r n = (e n : EReal) := by
  refine ⟨fun n => ∑ k : Fin 1024, (x (ix2 r k)).toReal * (w (ix2 k n)).toReal, fun n => ?_⟩
  unfold Cert.KProof.lg
  rw [← sum_real]
  refine Finset.sum_congr rfl fun k _ => ?_
  rw [EReal.coe_mul, EReal.coe_toReal (hx _).1 (hx _).2, EReal.coe_toReal (hw _).1 (hw _).2]

/-- The reference at a row and a column. -/
theorem refOut_apply (r : Fin 512) (n : Fin 16384) :
    refOut x w (ix2 r n) = Ideal.div
      (Ideal.exp (Cert.KProof.lg x w r n - Finset.univ.fold max (⊥ : EReal) (fun k => Cert.KProof.lg x w r k)))
      (∑ a, Ideal.exp (Cert.KProof.lg x w r a - Finset.univ.fold max (⊥ : EReal) (fun k => Cert.KProof.lg x w r k))) := by
  have hbot : Ideal.ofBits .f32 0xFF800000#32 = ⊥ := by simp [Ideal.ofBits, Ideal.ieee]
  rw [← hbot]
  pointwise [refOut, rExp, rSum, rMax, rSpread, rLog, Cert.KProof.lg]

theorem refOut_eq (hx : ∀ i, x i ≠ ⊤ ∧ x i ≠ ⊥) (hw : ∀ i, w i ≠ ⊤ ∧ w i ≠ ⊥) (r : Fin 512) (n : Fin 16384) :
    refOut x w (ix2 r n) = Ideal.exp (Cert.KProof.lg x w r n) * Ideal.div 1 (Cert.KProof.tot x w r) := by
  obtain ⟨e, he⟩ := lg_real x w hx hw r
  rw [refOut_apply]
  unfold Cert.KProof.tot
  simp only [he]
  obtain ⟨M, hM⟩ := max_real Finset.univ ⟨n, Finset.mem_univ n⟩ e
  rw [hM]
  haveI : Nonempty (Fin 16384) := ⟨n⟩
  exact softmax_shift e n M

end Cert.RProof
-- ==== Proof.Ideal3.lean ====
/-
# The kernel's result is the reference's

The precondition makes every entry of `x` and of `W` a real number; the layout gives the kernel's blocks as
parts of the reference's arrays; and the two results agree entry by entry.
-/
module

public import proofs.«01_k».proof.Defs
public import proofs.«01_k».proof.Proof.Launch
public import proofs.«01_k».proof.Proof.Ideal2
public import proofs.«01_k».proof.Proof.Gen.Pre_finite_KernelIdeal
public import proofs.«01_k».proof.Proof.Gen.Pre_finite_ReferenceIdeal

@[expose] public section

set_option maxRecDepth 16384

noncomputable section

namespace Cert.Proof

open Idealize.ShloMosaic Idealize.ShloMosaic.TcCoe Idealize.SL.Sem

/-- A value whose magnitude is below infinity is neither infinity. -/
theorem finite_of {S : Shape} (v : FVec Ideal S .f32) (b : FVec Ideal S .f32) (hb : ∀ i, b i = Ideal.ofBits .f32 0x7F800000#32)
    (h : cmpf .olt (Host.absf v) b = fun _ => 1#1) (i : S.Idx) : v i ≠ ⊤ ∧ v i ≠ ⊥ := by
  have htop : Ideal.ofBits .f32 0x7F800000#32 = ⊤ := by simp [Ideal.ofBits, Ideal.ieee]
  have h1 : BitVec.ofBool (decide (max (v i) (-(v i)) < b i)) = 1#1 := congrFun h i
  have h2 : max (v i) (-(v i)) < ⊤ := by
    rw [hb, htop] at h1
    by_contra hn
    rw [decide_eq_false hn] at h1
    exact absurd h1 (by decide)
  constructor
  · intro hv
    rw [hv] at h2
    simp at h2
  · intro hv
    rw [hv] at h2
    simp at h2

section
open Cert.KernelIdeal

variable (m : (ℓ : Loc nD τ sig) → Buf (Elt Ideal) ℓ)

/-- The first coordinate of a device in the mesh chooses the half of `W` it holds. -/
theorem holds_of {X : Vec Ideal S512x1024 .f32} {W : Vec Ideal Cert.KProof.SW .f32}
    (hx : ∀ c : Dev nD, m ((c : Thread nD τ).loc main_arg0) = X)
    (hw : ∀ c : Dev nD, m ((c : Thread nD τ).loc main_arg1)
      = Layout.blockN ⟨2, ![1024, 8192]⟩ ⟨2, ![1024, 16384]⟩ (Layout.meshBlock [2, 4, 4] ![[], [0]] c) W) :
    Cert.KProof.Holds m X W := by
  refine ⟨hx, fun c k q n hn => ?_⟩
  rw [hw c]
  refine congrArg W (funext fun a => Fin.ext ?_)
  have h0 : (Layout.meshBlock [2, 4, 4] ![[], [0]] c (by decide) (0 : Fin 2)).val = 0 := by clear hn; revert c; decide +kernel
  have h1 : (Layout.meshBlock [2, 4, 4] ![[], [0]] c (by decide) (1 : Fin 2)).val = c.val / 16 := by clear hn; revert c; decide +kernel
  fin_cases a
  · show (Layout.meshBlock [2, 4, 4] ![[], [0]] c (by decide) (0 : Fin 2)).val * 1024 + k.val = k.val
    rw [h0]
    omega
  · show (Layout.meshBlock [2, 4, 4] ![[], [0]] c (by decide) (1 : Fin 2)).val * 8192 + q.val = n.val
    rw [h1, hn]
    omega

/-- Every entry of `W` is an entry of some device's block. -/
theorem W_finite {X : Vec Ideal S512x1024 .f32} {W : Vec Ideal Cert.KProof.SW .f32} (H : Cert.KProof.Holds m X W)
    (hf : ∀ (c : Dev nD) (i : S1024x8192.Idx), m ((c : Thread nD τ).loc main_arg1) i ≠ (⊤ : EReal) ∧ m ((c : Thread nD τ).loc main_arg1) i ≠ (⊥ : EReal))
    (i : Cert.KProof.SW.Idx) : W i ≠ (⊤ : EReal) ∧ W i ≠ (⊥ : EReal) := by
  obtain ⟨k, n, rfl⟩ : ∃ (k : Fin 1024) (n : Fin 16384), i = ix2 k n := ⟨_, _, eq_ix2 i⟩
  have hn : n.val < 16384 := n.isLt
  have h := H.w ⟨16 * (n.val / 8192), by show _ < 32; omega⟩ k ⟨n.val % 8192, by omega⟩ n (by
    show n.val = 8192 * (16 * (n.val / 8192) / 16) + n.val % 8192
    omega)
  rw [← h]
  exact hf _ _

end

theorem algebraic : Cert.algebraic_KernelIdeal_ReferenceIdeal_pre_finite_KernelIdeal := by
  intro m ρ m' ρ' hpre harg
  have H := holds_of m (fun c => (harg c).1) (fun c => (harg c).2)
  have hX := fun c => finite_of _ _ (fun _ => rfl) (hpre c).1
  have hW := W_finite m H (fun c => finite_of _ _ (fun _ => rfl) (hpre c).2)
  refine ⟨Cert.RProof.refOut _ _, ?_, (θ_run Cert.ReferenceIdeal.defs _ _).mono (fun r h => h.1 0) (Cert.RProof.run_ref (F := Ideal) m' ρ')⟩
  refine (θ_run Cert.KernelIdeal.defs _ _).mono (fun r h c => ⟨?_, (h.1 c).1, (h.1 c).2.1⟩) (Cert.KProof.run_main (F := Ideal) m ρ)
  have hX' := hX c
  rw [H.x c] at hX'
  funext j
  obtain ⟨a, b, rfl⟩ : ∃ (a : Fin 512) (b : Fin 16384), j = ix2 a b := ⟨_, _, eq_ix2 j⟩
  exact (Cert.KProof.out_eq m ρ H c _ (h.1 c).2.2 a b).trans (Cert.RProof.refOut_eq _ _ hX' hW a b).symm

end Cert.Proof
-- ==== Proof.lean ====
/-
# The proof of the certificate's claims

The kernel's frames are its one run (Proof/Launch.lean), read at its arguments and its counters; the
reference's is its own run (Proof/Ref.lean).  That the two compute one result is Proof/Ideal3.lean.
-/
module

public import proofs.«01_k».proof.Defs
public import proofs.«01_k».proof.Proof.Gen.Kernel
public import proofs.«01_k».proof.Proof.Launch
public import proofs.«01_k».proof.Proof.Ref
public import proofs.«01_k».proof.Proof.Ideal3
public import proofs.«01_k».proof.Proof.Gen.Pre_finite_KernelIdeal
public import proofs.«01_k».proof.Proof.Gen.Pre_finite_ReferenceIdeal

@[expose] public section

noncomputable section

namespace Cert.Proof

open Idealize.ShloMosaic Idealize.SL.Sem

section
open Cert.KernelIdeal TcCoe
variable {F : FTy → Type} [FloatOps F]

/-- The run at its arguments and its counters, at any float values. -/
theorem run_frame (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun _ h => ⟨fun c => ⟨(h.1 c).1, (h.1 c).2.1⟩, h.2⟩) (Cert.KProof.run_main m ρ)

end

/-- The two programs' tables of kernels are one table. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem defs_eq : Cert.Kernel.defs (F := Bits) = Cert.KernelIdeal.defs (F := Bits) :=
  congrArg (Pipeline.defs Cert.KernelIdeal.pcfgs) defs₀_eq

/-- The kernel over bits: its text is the one the run is of. -/
theorem frame_kernel : Cert.quiescent_Kernel := by
  intro m ρ _
  rw [defs_eq]
  exact run_frame (F := Bits) m ρ

theorem frame_kernelIdeal : Cert.quiescent_KernelIdeal := fun m ρ _ => run_frame (F := Ideal) m ρ

theorem frame_referenceIdeal : Cert.quiescent_ReferenceIdeal := fun m ρ _ =>
  (θ_run Cert.ReferenceIdeal.defs _ _).mono (fun _ h => ⟨fun c => ⟨(h.1 c).2.1, (h.1 c).2.2⟩, h.2⟩)
    (Cert.RProof.run_ref (F := Ideal) m ρ)

theorem preserves : Cert.preserves_Kernel_KernelIdeal := trivial

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, fun m ρ _ => frame_kernelIdeal m ρ trivial, frame_referenceIdeal,
  fun m ρ _ => frame_referenceIdeal m ρ trivial, preserves, algebraic⟩

end Cert.Proof

end
